-- ==== Defs.lean ====
def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_finite_inputs [hPre_finite_inputs : Cert.Pre_finite_inputs.Facts] (m : (ℓ : Loc Cert.InprojIdeal.nD Cert.InprojIdeal.τ Cert.InprojIdeal.sig) → Buf (Elt Ideal) ℓ) : Prop :=
  ∀ c : Dev Cert.InprojIdeal.nD,
    (Cert.Pre_finite_inputs.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10)) (m ((c.tc : Thread Cert.InprojIdeal.nD Cert.InprojIdeal.τ).loc Cert.InprojIdeal.main_arg11)) (m ((c.tc : Thread Cert.InprojIdeal.nD Cert.InprojIdeal.τ).loc Cert.InprojIdeal.main_arg12)) (m ((c.tc : Thread Cert.InprojIdeal.nD Cert.InprojIdeal.τ).loc Cert.InprojIdeal.main_arg13)) (m ((c.tc : Thread Cert.InprojIdeal.nD Cert.InprojIdeal.τ).loc Cert.InprojIdeal.main_arg14)) (m ((c.tc : Thread Cert.InprojIdeal.nD Cert.InprojIdeal.τ).loc Cert.InprojIdeal.main_arg15)) (m ((c.tc : Thread Cert.InprojIdeal.nD Cert.InprojIdeal.τ).loc Cert.InprojIdeal.main_arg16))).1 = (fun _ => 1#1)
    ∧ (Cert.Pre_finite_inputs.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10)) (m ((c.tc : Thread Cert.InprojIdeal.nD Cert.InprojIdeal.τ).loc Cert.InprojIdeal.main_arg11)) (m ((c.tc : Thread Cert.InprojIdeal.nD Cert.InprojIdeal.τ).loc Cert.InprojIdeal.main_arg12)) (m ((c.tc : Thread Cert.InprojIdeal.nD Cert.InprojIdeal.τ).loc Cert.InprojIdeal.main_arg13)) (m ((c.tc : Thread Cert.InprojIdeal.nD Cert.InprojIdeal.τ).loc Cert.InprojIdeal.main_arg14)) (m ((c.tc : Thread Cert.InprojIdeal.nD Cert.InprojIdeal.τ).loc Cert.InprojIdeal.main_arg15)) (m ((c.tc : Thread Cert.InprojIdeal.nD Cert.InprojIdeal.τ).loc Cert.InprojIdeal.main_arg16))).2.1 = (fun _ => 1#1)
    ∧ (Cert.Pre_finite_inputs.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10)) (m ((c.tc : Thread Cert.InprojIdeal.nD Cert.InprojIdeal.τ).loc Cert.InprojIdeal.main_arg11)) (m ((c.tc : Thread Cert.InprojIdeal.nD Cert.InprojIdeal.τ).loc Cert.InprojIdeal.main_arg12)) (m ((c.tc : Thread Cert.InprojIdeal.nD Cert.InprojIdeal.τ).loc Cert.InprojIdeal.main_arg13)) (m ((c.tc : Thread Cert.InprojIdeal.nD Cert.InprojIdeal.τ).loc Cert.InprojIdeal.main_arg14)) (m ((c.tc : Thread Cert.InprojIdeal.nD Cert.InprojIdeal.τ).loc Cert.InprojIdeal.main_arg15)) (m ((c.tc : Thread Cert.InprojIdeal.nD Cert.InprojIdeal.τ).loc Cert.InprojIdeal.main_arg16))).2.2.1 = (fun _ => 1#1)
    ∧ (Cert.Pre_finite_inputs.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10)) (m ((c.tc : Thread Cert.InprojIdeal.nD Cert.InprojIdeal.τ).loc Cert.InprojIdeal.main_arg11)) (m ((c.tc : Thread Cert.InprojIdeal.nD Cert.InprojIdeal.τ).loc Cert.InprojIdeal.main_arg12)) (m ((c.tc : Thread Cert.InprojIdeal.nD Cert.InprojIdeal.τ).loc Cert.InprojIdeal.main_arg13)) (m ((c.tc : Thread Cert.InprojIdeal.nD Cert.InprojIdeal.τ).loc Cert.InprojIdeal.main_arg14)) (m ((c.tc : Thread Cert.InprojIdeal.nD Cert.InprojIdeal.τ).loc Cert.InprojIdeal.main_arg15)) (m ((c.tc : Thread Cert.InprojIdeal.nD Cert.InprojIdeal.τ).loc Cert.InprojIdeal.main_arg16))).2.2.2.1 = (fun _ => 1#1)
    ∧ (Cert.Pre_finite_inputs.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10)) (m ((c.tc : Thread Cert.InprojIdeal.nD Cert.InprojIdeal.τ).loc Cert.InprojIdeal.main_arg11)) (m ((c.tc : Thread Cert.InprojIdeal.nD Cert.InprojIdeal.τ).loc Cert.InprojIdeal.main_arg12)) (m ((c.tc : Thread Cert.InprojIdeal.nD Cert.InprojIdeal.τ).loc Cert.InprojIdeal.main_arg13)) (m ((c.tc : Thread Cert.InprojIdeal.nD Cert.InprojIdeal.τ).loc Cert.InprojIdeal.main_arg14)) (m ((c.tc : Thread Cert.InprojIdeal.nD Cert.InprojIdeal.τ).loc Cert.InprojIdeal.main_arg15)) (m ((c.tc : Thread Cert.InprojIdeal.nD Cert.InprojIdeal.τ).loc Cert.InprojIdeal.main_arg16))).2.2.2.2.1 = (fun _ => 1#1)
    ∧ (Cert.Pre_finite_inputs.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10)) (m ((c.tc : Thread Cert.InprojIdeal.nD Cert.InprojIdeal.τ).loc Cert.InprojIdeal.main_arg11)) (m ((c.tc : Thread Cert.InprojIdeal.nD Cert.InprojIdeal.τ).loc Cert.InprojIdeal.main_arg12)) (m ((c.tc : Thread Cert.InprojIdeal.nD Cert.InprojIdeal.τ).loc Cert.InprojIdeal.main_arg13)) (m ((c.tc : Thread Cert.InprojIdeal.nD Cert.InprojIdeal.τ).loc Cert.InprojIdeal.main_arg14)) (m ((c.tc : Thread Cert.InprojIdeal.nD Cert.InprojIdeal.τ).loc Cert.InprojIdeal.main_arg15)) (m ((c.tc : Thread Cert.InprojIdeal.nD Cert.InprojIdeal.τ).loc Cert.InprojIdeal.main_arg16))).2.2.2.2.2.1 = (fun _ => 1#1)
    ∧ (Cert.Pre_finite_inputs.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10)) (m ((c.tc : Thread Cert.InprojIdeal.nD Cert.InprojIdeal.τ).loc Cert.InprojIdeal.main_arg11)) (m ((c.tc : Thread Cert.InprojIdeal.nD Cert.InprojIdeal.τ).loc Cert.InprojIdeal.main_arg12)) (m ((c.tc : Thread Cert.InprojIdeal.nD Cert.InprojIdeal.τ).loc Cert.InprojIdeal.main_arg13)) (m ((c.tc : Thread Cert.InprojIdeal.nD Cert.InprojIdeal.τ).loc Cert.InprojIdeal.main_arg14)) (m ((c.tc : Thread Cert.InprojIdeal.nD Cert.InprojIdeal.τ).loc Cert.InprojIdeal.main_arg15)) (m ((c.tc : Thread Cert.InprojIdeal.nD Cert.InprojIdeal.τ).loc Cert.InprojIdeal.main_arg16))).2.2.2.2.2.2.1 = (fun _ => 1#1)
    ∧ (Cert.Pre_finite_inputs.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10)) (m ((c.tc : Thread Cert.InprojIdeal.nD Cert.InprojIdeal.τ).loc Cert.InprojIdeal.main_arg11)) (m ((c.tc : Thread Cert.InprojIdeal.nD Cert.InprojIdeal.τ).loc Cert.InprojIdeal.main_arg12)) (m ((c.tc : Thread Cert.InprojIdeal.nD Cert.InprojIdeal.τ).loc Cert.InprojIdeal.main_arg13)) (m ((c.tc : Thread Cert.InprojIdeal.nD Cert.InprojIdeal.τ).loc Cert.InprojIdeal.main_arg14)) (m ((c.tc : Thread Cert.InprojIdeal.nD Cert.InprojIdeal.τ).loc Cert.InprojIdeal.main_arg15)) (m ((c.tc : Thread Cert.InprojIdeal.nD Cert.InprojIdeal.τ).loc Cert.InprojIdeal.main_arg16))).2.2.2.2.2.2.2.1 = (fun _ => 1#1)
    ∧ (Cert.Pre_finite_inputs.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10)) (m ((c.tc : Thread Cert.InprojIdeal.nD Cert.InprojIdeal.τ).loc Cert.InprojIdeal.main_arg11)) (m ((c.tc : Thread Cert.InprojIdeal.nD Cert.InprojIdeal.τ).loc Cert.InprojIdeal.main_arg12)) (m ((c.tc : Thread Cert.InprojIdeal.nD Cert.InprojIdeal.τ).loc Cert.InprojIdeal.main_arg13)) (m ((c.tc : Thread Cert.InprojIdeal.nD Cert.InprojIdeal.τ).loc Cert.InprojIdeal.main_arg14)) (m ((c.tc : Thread Cert.InprojIdeal.nD Cert.InprojIdeal.τ).loc Cert.InprojIdeal.main_arg15)) (m ((c.tc : Thread Cert.InprojIdeal.nD Cert.InprojIdeal.τ).loc Cert.InprojIdeal.main_arg16))).2.2.2.2.2.2.2.2.1 = (fun _ => 1#1)
    ∧ (Cert.Pre_finite_inputs.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10)) (m ((c.tc : Thread Cert.InprojIdeal.nD Cert.InprojIdeal.τ).loc Cert.InprojIdeal.main_arg11)) (m ((c.tc : Thread Cert.InprojIdeal.nD Cert.InprojIdeal.τ).loc Cert.InprojIdeal.main_arg12)) (m ((c.tc : Thread Cert.InprojIdeal.nD Cert.InprojIdeal.τ).loc Cert.InprojIdeal.main_arg13)) (m ((c.tc : Thread Cert.InprojIdeal.nD Cert.InprojIdeal.τ).loc Cert.InprojIdeal.main_arg14)) (m ((c.tc : Thread Cert.InprojIdeal.nD Cert.InprojIdeal.τ).loc Cert.InprojIdeal.main_arg15)) (m ((c.tc : Thread Cert.InprojIdeal.nD Cert.InprojIdeal.τ).loc Cert.InprojIdeal.main_arg16))).2.2.2.2.2.2.2.2.2.1 = (fun _ => 1#1)
    ∧ (Cert.Pre_finite_inputs.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10)) (m ((c.tc : Thread Cert.InprojIdeal.nD Cert.InprojIdeal.τ).loc Cert.InprojIdeal.main_arg11)) (m ((c.tc : Thread Cert.InprojIdeal.nD Cert.InprojIdeal.τ).loc Cert.InprojIdeal.main_arg12)) (m ((c.tc : Thread Cert.InprojIdeal.nD Cert.InprojIdeal.τ).loc Cert.InprojIdeal.main_arg13)) (m ((c.tc : Thread Cert.InprojIdeal.nD Cert.InprojIdeal.τ).loc Cert.InprojIdeal.main_arg14)) (m ((c.tc : Thread Cert.InprojIdeal.nD Cert.InprojIdeal.τ).loc Cert.InprojIdeal.main_arg15)) (m ((c.tc : Thread Cert.InprojIdeal.nD Cert.InprojIdeal.τ).loc Cert.InprojIdeal.main_arg16))).2.2.2.2.2.2.2.2.2.2.1 = (fun _ => 1#1)
    ∧ (Cert.Pre_finite_inputs.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10)) (m ((c.tc : Thread Cert.InprojIdeal.nD Cert.InprojIdeal.τ).loc Cert.InprojIdeal.main_arg11)) (m ((c.tc : Thread Cert.InprojIdeal.nD Cert.InprojIdeal.τ).loc Cert.InprojIdeal.main_arg12)) (m ((c.tc : Thread Cert.InprojIdeal.nD Cert.InprojIdeal.τ).loc Cert.InprojIdeal.main_arg13)) (m ((c.tc : Thread Cert.InprojIdeal.nD Cert.InprojIdeal.τ).loc Cert.InprojIdeal.main_arg14)) (m ((c.tc : Thread Cert.InprojIdeal.nD Cert.InprojIdeal.τ).loc Cert.InprojIdeal.main_arg15)) (m ((c.tc : Thread Cert.InprojIdeal.nD Cert.InprojIdeal.τ).loc Cert.InprojIdeal.main_arg16))).2.2.2.2.2.2.2.2.2.2.2.1 = (fun _ => 1#1)
    ∧ (Cert.Pre_finite_inputs.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10)) (m ((c.tc : Thread Cert.InprojIdeal.nD Cert.InprojIdeal.τ).loc Cert.InprojIdeal.main_arg11)) (m ((c.tc : Thread Cert.InprojIdeal.nD Cert.InprojIdeal.τ).loc Cert.InprojIdeal.main_arg12)) (m ((c.tc : Thread Cert.InprojIdeal.nD Cert.InprojIdeal.τ).loc Cert.InprojIdeal.main_arg13)) (m ((c.tc : Thread Cert.InprojIdeal.nD Cert.InprojIdeal.τ).loc Cert.InprojIdeal.main_arg14)) (m ((c.tc : Thread Cert.InprojIdeal.nD Cert.InprojIdeal.τ).loc Cert.InprojIdeal.main_arg15)) (m ((c.tc : Thread Cert.InprojIdeal.nD Cert.InprojIdeal.τ).loc Cert.InprojIdeal.main_arg16))).2.2.2.2.2.2.2.2.2.2.2.2.1 = (fun _ => 1#1)
    ∧ (Cert.Pre_finite_inputs.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10)) (m ((c.tc : Thread Cert.InprojIdeal.nD Cert.InprojIdeal.τ).loc Cert.InprojIdeal.main_arg11)) (m ((c.tc : Thread Cert.InprojIdeal.nD Cert.InprojIdeal.τ).loc Cert.InprojIdeal.main_arg12)) (m ((c.tc : Thread Cert.InprojIdeal.nD Cert.InprojIdeal.τ).loc Cert.InprojIdeal.main_arg13)) (m ((c.tc : Thread Cert.InprojIdeal.nD Cert.InprojIdeal.τ).loc Cert.InprojIdeal.main_arg14)) (m ((c.tc : Thread Cert.InprojIdeal.nD Cert.InprojIdeal.τ).loc Cert.InprojIdeal.main_arg15)) (m ((c.tc : Thread Cert.InprojIdeal.nD Cert.InprojIdeal.τ).loc Cert.InprojIdeal.main_arg16))).2.2.2.2.2.2.2.2.2.2.2.2.2.1 = (fun _ => 1#1)
    ∧ (Cert.Pre_finite_inputs.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10)) (m ((c.tc : Thread Cert.InprojIdeal.nD Cert.InprojIdeal.τ).loc Cert.InprojIdeal.main_arg11)) (m ((c.tc : Thread Cert.InprojIdeal.nD Cert.InprojIdeal.τ).loc Cert.InprojIdeal.main_arg12)) (m ((c.tc : Thread Cert.InprojIdeal.nD Cert.InprojIdeal.τ).loc Cert.InprojIdeal.main_arg13)) (m ((c.tc : Thread Cert.InprojIdeal.nD Cert.InprojIdeal.τ).loc Cert.InprojIdeal.main_arg14)) (m ((c.tc : Thread Cert.InprojIdeal.nD Cert.InprojIdeal.τ).loc Cert.InprojIdeal.main_arg15)) (m ((c.tc : Thread Cert.InprojIdeal.nD Cert.InprojIdeal.τ).loc Cert.InprojIdeal.main_arg16))).2.2.2.2.2.2.2.2.2.2.2.2.2.2.1 = (fun _ => 1#1)
    ∧ (Cert.Pre_finite_inputs.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10)) (m ((c.tc : Thread Cert.InprojIdeal.nD Cert.InprojIdeal.τ).loc Cert.InprojIdeal.main_arg11)) (m ((c.tc : Thread Cert.InprojIdeal.nD Cert.InprojIdeal.τ).loc Cert.InprojIdeal.main_arg12)) (m ((c.tc : Thread Cert.InprojIdeal.nD Cert.InprojIdeal.τ).loc Cert.InprojIdeal.main_arg13)) (m ((c.tc : Thread Cert.InprojIdeal.nD Cert.InprojIdeal.τ).loc Cert.InprojIdeal.main_arg14)) (m ((c.tc : Thread Cert.InprojIdeal.nD Cert.InprojIdeal.τ).loc Cert.InprojIdeal.main_arg15)) (m ((c.tc : Thread Cert.InprojIdeal.nD Cert.InprojIdeal.τ).loc Cert.InprojIdeal.main_arg16))).2.2.2.2.2.2.2.2.2.2.2.2.2.2.2.1 = (fun _ => 1#1)
    ∧ (Cert.Pre_finite_inputs.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10)) (m ((c.tc : Thread Cert.InprojIdeal.nD Cert.InprojIdeal.τ).loc Cert.InprojIdeal.main_arg11)) (m ((c.tc : Thread Cert.InprojIdeal.nD Cert.InprojIdeal.τ).loc Cert.InprojIdeal.main_arg12)) (m ((c.tc : Thread Cert.InprojIdeal.nD Cert.InprojIdeal.τ).loc Cert.InprojIdeal.main_arg13)) (m ((c.tc : Thread Cert.InprojIdeal.nD Cert.InprojIdeal.τ).loc Cert.InprojIdeal.main_arg14)) (m ((c.tc : Thread Cert.InprojIdeal.nD Cert.InprojIdeal.τ).loc Cert.InprojIdeal.main_arg15)) (m ((c.tc : Thread Cert.InprojIdeal.nD Cert.InprojIdeal.τ).loc Cert.InprojIdeal.main_arg16))).2.2.2.2.2.2.2.2.2.2.2.2.2.2.2.2 = (fun _ => 1#1)

def Pre_InprojRefIdeal (m : (ℓ : Loc Cert.InprojRefIdeal.nD Cert.InprojRefIdeal.τ Cert.InprojRefIdeal.sig) → Buf (Elt Ideal) ℓ) : Prop :=
  True

def Pre_InprojRefIdeal_finite_inputs [hPre_finite_inputs : Cert.Pre_finite_inputs.Facts] (m : (ℓ : Loc Cert.InprojRefIdeal.nD Cert.InprojRefIdeal.τ Cert.InprojRefIdeal.sig) → Buf (Elt Ideal) ℓ) : Prop :=
  ∀ c : Dev Cert.InprojRefIdeal.nD,
    (Cert.Pre_finite_inputs.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10)) (m ((c.tc : Thread Cert.InprojRefIdeal.nD Cert.InprojRefIdeal.τ).loc Cert.InprojRefIdeal.main_arg11)) (m ((c.tc : Thread Cert.InprojRefIdeal.nD Cert.InprojRefIdeal.τ).loc Cert.InprojRefIdeal.main_arg12)) (m ((c.tc : Thread Cert.InprojRefIdeal.nD Cert.InprojRefIdeal.τ).loc Cert.InprojRefIdeal.main_arg13)) (m ((c.tc : Thread Cert.InprojRefIdeal.nD Cert.InprojRefIdeal.τ).loc Cert.InprojRefIdeal.main_arg14)) (m ((c.tc : Thread Cert.InprojRefIdeal.nD Cert.InprojRefIdeal.τ).loc Cert.InprojRefIdeal.main_arg15)) (m ((c.tc : Thread Cert.InprojRefIdeal.nD Cert.InprojRefIdeal.τ).loc Cert.InprojRefIdeal.main_arg16))).1 = (fun _ => 1#1)
    ∧ (Cert.Pre_finite_inputs.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10)) (m ((c.tc : Thread Cert.InprojRefIdeal.nD Cert.InprojRefIdeal.τ).loc Cert.InprojRefIdeal.main_arg11)) (m ((c.tc : Thread Cert.InprojRefIdeal.nD Cert.InprojRefIdeal.τ).loc Cert.InprojRefIdeal.main_arg12)) (m ((c.tc : Thread Cert.InprojRefIdeal.nD Cert.InprojRefIdeal.τ).loc Cert.InprojRefIdeal.main_arg13)) (m ((c.tc : Thread Cert.InprojRefIdeal.nD Cert.InprojRefIdeal.τ).loc Cert.InprojRefIdeal.main_arg14)) (m ((c.tc : Thread Cert.InprojRefIdeal.nD Cert.InprojRefIdeal.τ).loc Cert.InprojRefIdeal.main_arg15)) (m ((c.tc : Thread Cert.InprojRefIdeal.nD Cert.InprojRefIdeal.τ).loc Cert.InprojRefIdeal.main_arg16))).2.1 = (fun _ => 1#1)
    ∧ (Cert.Pre_finite_inputs.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10)) (m ((c.tc : Thread Cert.InprojRefIdeal.nD Cert.InprojRefIdeal.τ).loc Cert.InprojRefIdeal.main_arg11)) (m ((c.tc : Thread Cert.InprojRefIdeal.nD Cert.InprojRefIdeal.τ).loc Cert.InprojRefIdeal.main_arg12)) (m ((c.tc : Thread Cert.InprojRefIdeal.nD Cert.InprojRefIdeal.τ).loc Cert.InprojRefIdeal.main_arg13)) (m ((c.tc : Thread Cert.InprojRefIdeal.nD Cert.InprojRefIdeal.τ).loc Cert.InprojRefIdeal.main_arg14)) (m ((c.tc : Thread Cert.InprojRefIdeal.nD Cert.InprojRefIdeal.τ).loc Cert.InprojRefIdeal.main_arg15)) (m ((c.tc : Thread Cert.InprojRefIdeal.nD Cert.InprojRefIdeal.τ).loc Cert.InprojRefIdeal.main_arg16))).2.2.1 = (fun _ => 1#1)
    ∧ (Cert.Pre_finite_inputs.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10)) (m ((c.tc : Thread Cert.InprojRefIdeal.nD Cert.InprojRefIdeal.τ).loc Cert.InprojRefIdeal.main_arg11)) (m ((c.tc : Thread Cert.InprojRefIdeal.nD Cert.InprojRefIdeal.τ).loc Cert.InprojRefIdeal.main_arg12)) (m ((c.tc : Thread Cert.InprojRefIdeal.nD Cert.InprojRefIdeal.τ).loc Cert.InprojRefIdeal.main_arg13)) (m ((c.tc : Thread Cert.InprojRefIdeal.nD Cert.InprojRefIdeal.τ).loc Cert.InprojRefIdeal.main_arg14)) (m ((c.tc : Thread Cert.InprojRefIdeal.nD Cert.InprojRefIdeal.τ).loc Cert.InprojRefIdeal.main_arg15)) (m ((c.tc : Thread Cert.InprojRefIdeal.nD Cert.InprojRefIdeal.τ).loc Cert.InprojRefIdeal.main_arg16))).2.2.2.1 = (fun _ => 1#1)
    ∧ (Cert.Pre_finite_inputs.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10)) (m ((c.tc : Thread Cert.InprojRefIdeal.nD Cert.InprojRefIdeal.τ).loc Cert.InprojRefIdeal.main_arg11)) (m ((c.tc : Thread Cert.InprojRefIdeal.nD Cert.InprojRefIdeal.τ).loc Cert.InprojRefIdeal.main_arg12)) (m ((c.tc : Thread Cert.InprojRefIdeal.nD Cert.InprojRefIdeal.τ).loc Cert.InprojRefIdeal.main_arg13)) (m ((c.tc : Thread Cert.InprojRefIdeal.nD Cert.InprojRefIdeal.τ).loc Cert.InprojRefIdeal.main_arg14)) (m ((c.tc : Thread Cert.InprojRefIdeal.nD Cert.InprojRefIdeal.τ).loc Cert.InprojRefIdeal.main_arg15)) (m ((c.tc : Thread Cert.InprojRefIdeal.nD Cert.InprojRefIdeal.τ).loc Cert.InprojRefIdeal.main_arg16))).2.2.2.2.1 = (fun _ => 1#1)
    ∧ (Cert.Pre_finite_inputs.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10)) (m ((c.tc : Thread Cert.InprojRefIdeal.nD Cert.InprojRefIdeal.τ).loc Cert.InprojRefIdeal.main_arg11)) (m ((c.tc : Thread Cert.InprojRefIdeal.nD Cert.InprojRefIdeal.τ).loc Cert.InprojRefIdeal.main_arg12)) (m ((c.tc : Thread Cert.InprojRefIdeal.nD Cert.InprojRefIdeal.τ).loc Cert.InprojRefIdeal.main_arg13)) (m ((c.tc : Thread Cert.InprojRefIdeal.nD Cert.InprojRefIdeal.τ).loc Cert.InprojRefIdeal.main_arg14)) (m ((c.tc : Thread Cert.InprojRefIdeal.nD Cert.InprojRefIdeal.τ).loc Cert.InprojRefIdeal.main_arg15)) (m ((c.tc : Thread Cert.InprojRefIdeal.nD Cert.InprojRefIdeal.τ).loc Cert.InprojRefIdeal.main_arg16))).2.2.2.2.2.1 = (fun _ => 1#1)
    ∧ (Cert.Pre_finite_inputs.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10)) (m ((c.tc : Thread Cert.InprojRefIdeal.nD Cert.InprojRefIdeal.τ).loc Cert.InprojRefIdeal.main_arg11)) (m ((c.tc : Thread Cert.InprojRefIdeal.nD Cert.InprojRefIdeal.τ).loc Cert.InprojRefIdeal.main_arg12)) (m ((c.tc : Thread Cert.InprojRefIdeal.nD Cert.InprojRefIdeal.τ).loc Cert.InprojRefIdeal.main_arg13)) (m ((c.tc : Thread Cert.InprojRefIdeal.nD Cert.InprojRefIdeal.τ).loc Cert.InprojRefIdeal.main_arg14)) (m ((c.tc : Thread Cert.InprojRefIdeal.nD Cert.InprojRefIdeal.τ).loc Cert.InprojRefIdeal.main_arg15)) (m ((c.tc : Thread Cert.InprojRefIdeal.nD Cert.InprojRefIdeal.τ).loc Cert.InprojRefIdeal.main_arg16))).2.2.2.2.2.2.1 = (fun _ => 1#1)
    ∧ (Cert.Pre_finite_inputs.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10)) (m ((c.tc : Thread Cert.InprojRefIdeal.nD Cert.InprojRefIdeal.τ).loc Cert.InprojRefIdeal.main_arg11)) (m ((c.tc : Thread Cert.InprojRefIdeal.nD Cert.InprojRefIdeal.τ).loc Cert.InprojRefIdeal.main_arg12)) (m ((c.tc : Thread Cert.InprojRefIdeal.nD Cert.InprojRefIdeal.τ).loc Cert.InprojRefIdeal.main_arg13)) (m ((c.tc : Thread Cert.InprojRefIdeal.nD Cert.InprojRefIdeal.τ).loc Cert.InprojRefIdeal.main_arg14)) (m ((c.tc : Thread Cert.InprojRefIdeal.nD Cert.InprojRefIdeal.τ).loc Cert.InprojRefIdeal.main_arg15)) (m ((c.tc : Thread Cert.InprojRefIdeal.nD Cert.InprojRefIdeal.τ).loc Cert.InprojRefIdeal.main_arg16))).2.2.2.2.2.2.2.1 = (fun _ => 1#1)
    ∧ (Cert.Pre_finite_inputs.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10)) (m ((c.tc : Thread Cert.InprojRefIdeal.nD Cert.InprojRefIdeal.τ).loc Cert.InprojRefIdeal.main_arg11)) (m ((c.tc : Thread Cert.InprojRefIdeal.nD Cert.InprojRefIdeal.τ).loc Cert.InprojRefIdeal.main_arg12)) (m ((c.tc : Thread Cert.InprojRefIdeal.nD Cert.InprojRefIdeal.τ).loc Cert.InprojRefIdeal.main_arg13)) (m ((c.tc : Thread Cert.InprojRefIdeal.nD Cert.InprojRefIdeal.τ).loc Cert.InprojRefIdeal.main_arg14)) (m ((c.tc : Thread Cert.InprojRefIdeal.nD Cert.InprojRefIdeal.τ).loc Cert.InprojRefIdeal.main_arg15)) (m ((c.tc : Thread Cert.InprojRefIdeal.nD Cert.InprojRefIdeal.τ).loc Cert.InprojRefIdeal.main_arg16))).2.2.2.2.2.2.2.2.1 = (fun _ => 1#1)
    ∧ (Cert.Pre_finite_inputs.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10)) (m ((c.tc : Thread Cert.InprojRefIdeal.nD Cert.InprojRefIdeal.τ).loc Cert.InprojRefIdeal.main_arg11)) (m ((c.tc : Thread Cert.InprojRefIdeal.nD Cert.InprojRefIdeal.τ).loc Cert.InprojRefIdeal.main_arg12)) (m ((c.tc : Thread Cert.InprojRefIdeal.nD Cert.InprojRefIdeal.τ).loc Cert.InprojRefIdeal.main_arg13)) (m ((c.tc : Thread Cert.InprojRefIdeal.nD Cert.InprojRefIdeal.τ).loc Cert.InprojRefIdeal.main_arg14)) (m ((c.tc : Thread Cert.InprojRefIdeal.nD Cert.InprojRefIdeal.τ).loc Cert.InprojRefIdeal.main_arg15)) (m ((c.tc : Thread Cert.InprojRefIdeal.nD Cert.InprojRefIdeal.τ).loc Cert.InprojRefIdeal.main_arg16))).2.2.2.2.2.2.2.2.2.1 = (fun _ => 1#1)
    ∧ (Cert.Pre_finite_inputs.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10)) (m ((c.tc : Thread Cert.InprojRefIdeal.nD Cert.InprojRefIdeal.τ).loc Cert.InprojRefIdeal.main_arg11)) (m ((c.tc : Thread Cert.InprojRefIdeal.nD Cert.InprojRefIdeal.τ).loc Cert.InprojRefIdeal.main_arg12)) (m ((c.tc : Thread Cert.InprojRefIdeal.nD Cert.InprojRefIdeal.τ).loc Cert.InprojRefIdeal.main_arg13)) (m ((c.tc : Thread Cert.InprojRefIdeal.nD Cert.InprojRefIdeal.τ).loc Cert.InprojRefIdeal.main_arg14)) (m ((c.tc : Thread Cert.InprojRefIdeal.nD Cert.InprojRefIdeal.τ).loc Cert.InprojRefIdeal.main_arg15)) (m ((c.tc : Thread Cert.InprojRefIdeal.nD Cert.InprojRefIdeal.τ).loc Cert.InprojRefIdeal.main_arg16))).2.2.2.2.2.2.2.2.2.2.1 = (fun _ => 1#1)
    ∧ (Cert.Pre_finite_inputs.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10)) (m ((c.tc : Thread Cert.InprojRefIdeal.nD Cert.InprojRefIdeal.τ).loc Cert.InprojRefIdeal.main_arg11)) (m ((c.tc : Thread Cert.InprojRefIdeal.nD Cert.InprojRefIdeal.τ).loc Cert.InprojRefIdeal.main_arg12)) (m ((c.tc : Thread Cert.InprojRefIdeal.nD Cert.InprojRefIdeal.τ).loc Cert.InprojRefIdeal.main_arg13)) (m ((c.tc : Thread Cert.InprojRefIdeal.nD Cert.InprojRefIdeal.τ).loc Cert.InprojRefIdeal.main_arg14)) (m ((c.tc : Thread Cert.InprojRefIdeal.nD Cert.InprojRefIdeal.τ).loc Cert.InprojRefIdeal.main_arg15)) (m ((c.tc : Thread Cert.InprojRefIdeal.nD Cert.InprojRefIdeal.τ).loc Cert.InprojRefIdeal.main_arg16))).2.2.2.2.2.2.2.2.2.2.2.1 = (fun _ => 1#1)
    ∧ (Cert.Pre_finite_inputs.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10)) (m ((c.tc : Thread Cert.InprojRefIdeal.nD Cert.InprojRefIdeal.τ).loc Cert.InprojRefIdeal.main_arg11)) (m ((c.tc : Thread Cert.InprojRefIdeal.nD Cert.InprojRefIdeal.τ).loc Cert.InprojRefIdeal.main_arg12)) (m ((c.tc : Thread Cert.InprojRefIdeal.nD Cert.InprojRefIdeal.τ).loc Cert.InprojRefIdeal.main_arg13)) (m ((c.tc : Thread Cert.InprojRefIdeal.nD Cert.InprojRefIdeal.τ).loc Cert.InprojRefIdeal.main_arg14)) (m ((c.tc : Thread Cert.InprojRefIdeal.nD Cert.InprojRefIdeal.τ).loc Cert.InprojRefIdeal.main_arg15)) (m ((c.tc : Thread Cert.InprojRefIdeal.nD Cert.InprojRefIdeal.τ).loc Cert.InprojRefIdeal.main_arg16))).2.2.2.2.2.2.2.2.2.2.2.2.1 = (fun _ => 1#1)
    ∧ (Cert.Pre_finite_inputs.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10)) (m ((c.tc : Thread Cert.InprojRefIdeal.nD Cert.InprojRefIdeal.τ).loc Cert.InprojRefIdeal.main_arg11)) (m ((c.tc : Thread Cert.InprojRefIdeal.nD Cert.InprojRefIdeal.τ).loc Cert.InprojRefIdeal.main_arg12)) (m ((c.tc : Thread Cert.InprojRefIdeal.nD Cert.InprojRefIdeal.τ).loc Cert.InprojRefIdeal.main_arg13)) (m ((c.tc : Thread Cert.InprojRefIdeal.nD Cert.InprojRefIdeal.τ).loc Cert.InprojRefIdeal.main_arg14)) (m ((c.tc : Thread Cert.InprojRefIdeal.nD Cert.InprojRefIdeal.τ).loc Cert.InprojRefIdeal.main_arg15)) (m ((c.tc : Thread Cert.InprojRefIdeal.nD Cert.InprojRefIdeal.τ).loc Cert.InprojRefIdeal.main_arg16))).2.2.2.2.2.2.2.2.2.2.2.2.2.1 = (fun _ => 1#1)
    ∧ (Cert.Pre_finite_inputs.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10)) (m ((c.tc : Thread Cert.InprojRefIdeal.nD Cert.InprojRefIdeal.τ).loc Cert.InprojRefIdeal.main_arg11)) (m ((c.tc : Thread Cert.InprojRefIdeal.nD Cert.InprojRefIdeal.τ).loc Cert.InprojRefIdeal.main_arg12)) (m ((c.tc : Thread Cert.InprojRefIdeal.nD Cert.InprojRefIdeal.τ).loc Cert.InprojRefIdeal.main_arg13)) (m ((c.tc : Thread Cert.InprojRefIdeal.nD Cert.InprojRefIdeal.τ).loc Cert.InprojRefIdeal.main_arg14)) (m ((c.tc : Thread Cert.InprojRefIdeal.nD Cert.InprojRefIdeal.τ).loc Cert.InprojRefIdeal.main_arg15)) (m ((c.tc : Thread Cert.InprojRefIdeal.nD Cert.InprojRefIdeal.τ).loc Cert.InprojRefIdeal.main_arg16))).2.2.2.2.2.2.2.2.2.2.2.2.2.2.1 = (fun _ => 1#1)
    ∧ (Cert.Pre_finite_inputs.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10)) (m ((c.tc : Thread Cert.InprojRefIdeal.nD Cert.InprojRefIdeal.τ).loc Cert.InprojRefIdeal.main_arg11)) (m ((c.tc : Thread Cert.InprojRefIdeal.nD Cert.InprojRefIdeal.τ).loc Cert.InprojRefIdeal.main_arg12)) (m ((c.tc : Thread Cert.InprojRefIdeal.nD Cert.InprojRefIdeal.τ).loc Cert.InprojRefIdeal.main_arg13)) (m ((c.tc : Thread Cert.InprojRefIdeal.nD Cert.InprojRefIdeal.τ).loc Cert.InprojRefIdeal.main_arg14)) (m ((c.tc : Thread Cert.InprojRefIdeal.nD Cert.InprojRefIdeal.τ).loc Cert.InprojRefIdeal.main_arg15)) (m ((c.tc : Thread Cert.InprojRefIdeal.nD Cert.InprojRefIdeal.τ).loc Cert.InprojRefIdeal.main_arg16))).2.2.2.2.2.2.2.2.2.2.2.2.2.2.2.1 = (fun _ => 1#1)
    ∧ (Cert.Pre_finite_inputs.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10)) (m ((c.tc : Thread Cert.InprojRefIdeal.nD Cert.InprojRefIdeal.τ).loc Cert.InprojRefIdeal.main_arg11)) (m ((c.tc : Thread Cert.InprojRefIdeal.nD Cert.InprojRefIdeal.τ).loc Cert.InprojRefIdeal.main_arg12)) (m ((c.tc : Thread Cert.InprojRefIdeal.nD Cert.InprojRefIdeal.τ).loc Cert.InprojRefIdeal.main_arg13)) (m ((c.tc : Thread Cert.InprojRefIdeal.nD Cert.InprojRefIdeal.τ).loc Cert.InprojRefIdeal.main_arg14)) (m ((c.tc : Thread Cert.InprojRefIdeal.nD Cert.InprojRefIdeal.τ).loc Cert.InprojRefIdeal.main_arg15)) (m ((c.tc : Thread Cert.InprojRefIdeal.nD Cert.InprojRefIdeal.τ).loc Cert.InprojRefIdeal.main_arg16))).2.2.2.2.2.2.2.2.2.2.2.2.2.2.2.2 = (fun _ => 1#1)

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModIdeal_finite_modulation [hPre_finite_modulation : Cert.Pre_finite_modulation.Facts] (m : (ℓ : Loc Cert.ModIdeal.nD Cert.ModIdeal.τ Cert.ModIdeal.sig) → Buf (Elt Ideal) ℓ) : Prop :=
  ∀ c : Dev Cert.ModIdeal.nD,
    (Cert.Pre_finite_modulation.fn (F := Ideal) (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2))).1 = (fun _ => 1#1)
    ∧ (Cert.Pre_finite_modulation.fn (F := Ideal) (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2))).2.1 = (fun _ => 1#1)
    ∧ (Cert.Pre_finite_modulation.fn (F := Ideal) (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2))).2.2 = (fun _ => 1#1)

def Pre_ModRefIdeal (m : (ℓ : Loc Cert.ModRefIdeal.nD Cert.ModRefIdeal.τ Cert.ModRefIdeal.sig) → Buf (Elt Ideal) ℓ) : Prop :=
  True

def Pre_ModRefIdeal_finite_modulation [hPre_finite_modulation : Cert.Pre_finite_modulation.Facts] (m : (ℓ : Loc Cert.ModRefIdeal.nD Cert.ModRefIdeal.τ Cert.ModRefIdeal.sig) → Buf (Elt Ideal) ℓ) : Prop :=
  ∀ c : Dev Cert.ModRefIdeal.nD,
    (Cert.Pre_finite_modulation.fn (F := Ideal) (m ((c.tc : Thread Cert.ModRefIdeal.nD Cert.ModRefIdeal.τ).loc Cert.ModRefIdeal.main_arg0)) (m ((c.tc : Thread Cert.ModRefIdeal.nD Cert.ModRefIdeal.τ).loc Cert.ModRefIdeal.main_arg1)) (m ((c.tc : Thread Cert.ModRefIdeal.nD Cert.ModRefIdeal.τ).loc Cert.ModRefIdeal.main_arg2))).1 = (fun _ => 1#1)
    ∧ (Cert.Pre_finite_modulation.fn (F := Ideal) (m ((c.tc : Thread Cert.ModRefIdeal.nD Cert.ModRefIdeal.τ).loc Cert.ModRefIdeal.main_arg0)) (m ((c.tc : Thread Cert.ModRefIdeal.nD Cert.ModRefIdeal.τ).loc Cert.ModRefIdeal.main_arg1)) (m ((c.tc : Thread Cert.ModRefIdeal.nD Cert.ModRefIdeal.τ).loc Cert.ModRefIdeal.main_arg2))).2.1 = (fun _ => 1#1)
    ∧ (Cert.Pre_finite_modulation.fn (F := Ideal) (m ((c.tc : Thread Cert.ModRefIdeal.nD Cert.ModRefIdeal.τ).loc Cert.ModRefIdeal.main_arg0)) (m ((c.tc : Thread Cert.ModRefIdeal.nD Cert.ModRefIdeal.τ).loc Cert.ModRefIdeal.main_arg1)) (m ((c.tc : Thread Cert.ModRefIdeal.nD Cert.ModRefIdeal.τ).loc Cert.ModRefIdeal.main_arg2))).2.2 = (fun _ => 1#1)

def Pre_Wprep (m : (ℓ : Loc Cert.Wprep.nD Cert.Wprep.τ Cert.Wprep.sig) → Buf (Elt Bits) ℓ) : Prop :=
  True

def Pre_WprepIdeal (m : (ℓ : Loc Cert.WprepIdeal.nD Cert.WprepIdeal.τ Cert.WprepIdeal.sig) → Buf (Elt Ideal) ℓ) : Prop :=
  True

def Pre_WprepRefIdeal (m : (ℓ : Loc Cert.WprepRefIdeal.nD Cert.WprepRefIdeal.τ Cert.WprepRefIdeal.sig) → Buf (Elt Ideal) ℓ) : Prop :=
  True

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11)
      ∧ r.2.mem ((c.tc : Thread Cert.Post.nD Cert.Post.τ).loc Cert.Post.main_arg12) = m ((c.tc : Thread Cert.Post.nD Cert.Post.τ).loc Cert.Post.main_arg12)
      ∧ r.2.mem ((c.tc : Thread Cert.Post.nD Cert.Post.τ).loc Cert.Post.main_arg13) = m ((c.tc : Thread Cert.Post.nD Cert.Post.τ).loc Cert.Post.main_arg13)
      ∧ r.2.mem ((c.tc : Thread Cert.Post.nD Cert.Post.τ).loc Cert.Post.main_arg14) = m ((c.tc : Thread Cert.Post.nD Cert.Post.τ).loc Cert.Post.main_arg14)
      ∧ r.2.mem ((c.tc : Thread Cert.Post.nD Cert.Post.τ).loc Cert.Post.main_arg15) = m ((c.tc : Thread Cert.Post.nD Cert.Post.τ).loc Cert.Post.main_arg15)
      ∧ r.2.mem ((c.tc : Thread Cert.Post.nD Cert.Post.τ).loc Cert.Post.main_arg16) = m ((c.tc : Thread Cert.Post.nD Cert.Post.τ).loc Cert.Post.main_arg16))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
      ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
      ∧ r.2.mem ((c.tc : Thread Cert.PostIdeal.nD Cert.PostIdeal.τ).loc Cert.PostIdeal.main_arg14) = m ((c.tc : Thread Cert.PostIdeal.nD Cert.PostIdeal.τ).loc Cert.PostIdeal.main_arg14)
      ∧ r.2.mem ((c.tc : Thread Cert.PostIdeal.nD Cert.PostIdeal.τ).loc Cert.PostIdeal.main_arg15) = m ((c.tc : Thread Cert.PostIdeal.nD Cert.PostIdeal.τ).loc Cert.PostIdeal.main_arg15)
      ∧ r.2.mem ((c.tc : Thread Cert.PostIdeal.nD Cert.PostIdeal.τ).loc Cert.PostIdeal.main_arg16) = m ((c.tc : Thread Cert.PostIdeal.nD Cert.PostIdeal.τ).loc Cert.PostIdeal.main_arg16))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11)
      ∧ r.2.mem ((c.tc : Thread Cert.PostRefIdeal.nD Cert.PostRefIdeal.τ).loc Cert.PostRefIdeal.main_arg12) = m ((c.tc : Thread Cert.PostRefIdeal.nD Cert.PostRefIdeal.τ).loc Cert.PostRefIdeal.main_arg12)
      ∧ r.2.mem ((c.tc : Thread Cert.PostRefIdeal.nD Cert.PostRefIdeal.τ).loc Cert.PostRefIdeal.main_arg13) = m ((c.tc : Thread Cert.PostRefIdeal.nD Cert.PostRefIdeal.τ).loc Cert.PostRefIdeal.main_arg13)
      ∧ r.2.mem ((c.tc : Thread Cert.PostRefIdeal.nD Cert.PostRefIdeal.τ).loc Cert.PostRefIdeal.main_arg14) = m ((c.tc : Thread Cert.PostRefIdeal.nD Cert.PostRefIdeal.τ).loc Cert.PostRefIdeal.main_arg14)
      ∧ r.2.mem ((c.tc : Thread Cert.PostRefIdeal.nD Cert.PostRefIdeal.τ).loc Cert.PostRefIdeal.main_arg15) = m ((c.tc : Thread Cert.PostRefIdeal.nD Cert.PostRefIdeal.τ).loc Cert.PostRefIdeal.main_arg15)
      ∧ r.2.mem ((c.tc : Thread Cert.PostRefIdeal.nD Cert.PostRefIdeal.τ).loc Cert.PostRefIdeal.main_arg16) = m ((c.tc : Thread Cert.PostRefIdeal.nD Cert.PostRefIdeal.τ).loc Cert.PostRefIdeal.main_arg16))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8)
      ∧ r.2.mem ((c.tc : Thread Cert.Inproj.nD Cert.Inproj.τ).loc Cert.Inproj.main_arg9) = m ((c.tc : Thread Cert.Inproj.nD Cert.Inproj.τ).loc Cert.Inproj.main_arg9)
      ∧ r.2.mem ((c.tc : Thread Cert.Inproj.nD Cert.Inproj.τ).loc Cert.Inproj.main_arg10) = m ((c.tc : Thread Cert.Inproj.nD Cert.Inproj.τ).loc Cert.Inproj.main_arg10)
      ∧ r.2.mem ((c.tc : Thread Cert.Inproj.nD Cert.Inproj.τ).loc Cert.Inproj.main_arg11) = m ((c.tc : Thread Cert.Inproj.nD Cert.Inproj.τ).loc Cert.Inproj.main_arg11)
      ∧ r.2.mem ((c.tc : Thread Cert.Inproj.nD Cert.Inproj.τ).loc Cert.Inproj.main_arg12) = m ((c.tc : Thread Cert.Inproj.nD Cert.Inproj.τ).loc Cert.Inproj.main_arg12)
      ∧ r.2.mem ((c.tc : Thread Cert.Inproj.nD Cert.Inproj.τ).loc Cert.Inproj.main_arg13) = m ((c.tc : Thread Cert.Inproj.nD Cert.Inproj.τ).loc Cert.Inproj.main_arg13)
      ∧ r.2.mem ((c.tc : Thread Cert.Inproj.nD Cert.Inproj.τ).loc Cert.Inproj.main_arg14) = m ((c.tc : Thread Cert.Inproj.nD Cert.Inproj.τ).loc Cert.Inproj.main_arg14)
      ∧ r.2.mem ((c.tc : Thread Cert.Inproj.nD Cert.Inproj.τ).loc Cert.Inproj.main_arg15) = m ((c.tc : Thread Cert.Inproj.nD Cert.Inproj.τ).loc Cert.Inproj.main_arg15)
      ∧ r.2.mem ((c.tc : Thread Cert.Inproj.nD Cert.Inproj.τ).loc Cert.Inproj.main_arg16) = m ((c.tc : Thread Cert.Inproj.nD Cert.Inproj.τ).loc Cert.Inproj.main_arg16))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
      ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
      ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11)
      ∧ r.2.mem ((c.tc : Thread Cert.InprojIdeal.nD Cert.InprojIdeal.τ).loc Cert.InprojIdeal.main_arg12) = m ((c.tc : Thread Cert.InprojIdeal.nD Cert.InprojIdeal.τ).loc Cert.InprojIdeal.main_arg12)
      ∧ r.2.mem ((c.tc : Thread Cert.InprojIdeal.nD Cert.InprojIdeal.τ).loc Cert.InprojIdeal.main_arg13) = m ((c.tc : Thread Cert.InprojIdeal.nD Cert.InprojIdeal.τ).loc Cert.InprojIdeal.main_arg13)
      ∧ r.2.mem ((c.tc : Thread Cert.InprojIdeal.nD Cert.InprojIdeal.τ).loc Cert.InprojIdeal.main_arg14) = m ((c.tc : Thread Cert.InprojIdeal.nD Cert.InprojIdeal.τ).loc Cert.InprojIdeal.main_arg14)
      ∧ r.2.mem ((c.tc : Thread Cert.InprojIdeal.nD Cert.InprojIdeal.τ).loc Cert.InprojIdeal.main_arg15) = m ((c.tc : Thread Cert.InprojIdeal.nD Cert.InprojIdeal.τ).loc Cert.InprojIdeal.main_arg15)
      ∧ r.2.mem ((c.tc : Thread Cert.InprojIdeal.nD Cert.InprojIdeal.τ).loc Cert.InprojIdeal.main_arg16) = m ((c.tc : Thread Cert.InprojIdeal.nD Cert.InprojIdeal.τ).loc Cert.InprojIdeal.main_arg16))
      ∧ r.2.sem = fun _ => 0)

def quiescent_InprojIdeal_pre_finite_inputs [hInprojIdeal : Cert.InprojIdeal.Facts] [hPre_finite_inputs : Cert.Pre_finite_inputs.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_finite_inputs m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
      ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
      ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11)
      ∧ r.2.mem ((c.tc : Thread Cert.InprojIdeal.nD Cert.InprojIdeal.τ).loc Cert.InprojIdeal.main_arg12) = m ((c.tc : Thread Cert.InprojIdeal.nD Cert.InprojIdeal.τ).loc Cert.InprojIdeal.main_arg12)
      ∧ r.2.mem ((c.tc : Thread Cert.InprojIdeal.nD Cert.InprojIdeal.τ).loc Cert.InprojIdeal.main_arg13) = m ((c.tc : Thread Cert.InprojIdeal.nD Cert.InprojIdeal.τ).loc Cert.InprojIdeal.main_arg13)
      ∧ r.2.mem ((c.tc : Thread Cert.InprojIdeal.nD Cert.InprojIdeal.τ).loc Cert.InprojIdeal.main_arg14) = m ((c.tc : Thread Cert.InprojIdeal.nD Cert.InprojIdeal.τ).loc Cert.InprojIdeal.main_arg14)
      ∧ r.2.mem ((c.tc : Thread Cert.InprojIdeal.nD Cert.InprojIdeal.τ).loc Cert.InprojIdeal.main_arg15) = m ((c.tc : Thread Cert.InprojIdeal.nD Cert.InprojIdeal.τ).loc Cert.InprojIdeal.main_arg15)
      ∧ r.2.mem ((c.tc : Thread Cert.InprojIdeal.nD Cert.InprojIdeal.τ).loc Cert.InprojIdeal.main_arg16) = m ((c.tc : Thread Cert.InprojIdeal.nD Cert.InprojIdeal.τ).loc Cert.InprojIdeal.main_arg16))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8)
      ∧ r.2.mem ((c.tc : Thread Cert.InprojRefIdeal.nD Cert.InprojRefIdeal.τ).loc Cert.InprojRefIdeal.main_arg9) = m ((c.tc : Thread Cert.InprojRefIdeal.nD Cert.InprojRefIdeal.τ).loc Cert.InprojRefIdeal.main_arg9)
      ∧ r.2.mem ((c.tc : Thread Cert.InprojRefIdeal.nD Cert.InprojRefIdeal.τ).loc Cert.InprojRefIdeal.main_arg10) = m ((c.tc : Thread Cert.InprojRefIdeal.nD Cert.InprojRefIdeal.τ).loc Cert.InprojRefIdeal.main_arg10)
      ∧ r.2.mem ((c.tc : Thread Cert.InprojRefIdeal.nD Cert.InprojRefIdeal.τ).loc Cert.InprojRefIdeal.main_arg11) = m ((c.tc : Thread Cert.InprojRefIdeal.nD Cert.InprojRefIdeal.τ).loc Cert.InprojRefIdeal.main_arg11)
      ∧ r.2.mem ((c.tc : Thread Cert.InprojRefIdeal.nD Cert.InprojRefIdeal.τ).loc Cert.InprojRefIdeal.main_arg12) = m ((c.tc : Thread Cert.InprojRefIdeal.nD Cert.InprojRefIdeal.τ).loc Cert.InprojRefIdeal.main_arg12)
      ∧ r.2.mem ((c.tc : Thread Cert.InprojRefIdeal.nD Cert.InprojRefIdeal.τ).loc Cert.InprojRefIdeal.main_arg13) = m ((c.tc : Thread Cert.InprojRefIdeal.nD Cert.InprojRefIdeal.τ).loc Cert.InprojRefIdeal.main_arg13)
      ∧ r.2.mem ((c.tc : Thread Cert.InprojRefIdeal.nD Cert.InprojRefIdeal.τ).loc Cert.InprojRefIdeal.main_arg14) = m ((c.tc : Thread Cert.InprojRefIdeal.nD Cert.InprojRefIdeal.τ).loc Cert.InprojRefIdeal.main_arg14)
      ∧ r.2.mem ((c.tc : Thread Cert.InprojRefIdeal.nD Cert.InprojRefIdeal.τ).loc Cert.InprojRefIdeal.main_arg15) = m ((c.tc : Thread Cert.InprojRefIdeal.nD Cert.InprojRefIdeal.τ).loc Cert.InprojRefIdeal.main_arg15)
      ∧ r.2.mem ((c.tc : Thread Cert.InprojRefIdeal.nD Cert.InprojRefIdeal.τ).loc Cert.InprojRefIdeal.main_arg16) = m ((c.tc : Thread Cert.InprojRefIdeal.nD Cert.InprojRefIdeal.τ).loc Cert.InprojRefIdeal.main_arg16))
      ∧ r.2.sem = fun _ => 0)

def quiescent_InprojRefIdeal_pre_finite_inputs [hInprojRefIdeal : Cert.InprojRefIdeal.Facts] [hPre_finite_inputs : Cert.Pre_finite_inputs.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal_finite_inputs m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8)
      ∧ r.2.mem ((c.tc : Thread Cert.InprojRefIdeal.nD Cert.InprojRefIdeal.τ).loc Cert.InprojRefIdeal.main_arg9) = m ((c.tc : Thread Cert.InprojRefIdeal.nD Cert.InprojRefIdeal.τ).loc Cert.InprojRefIdeal.main_arg9)
      ∧ r.2.mem ((c.tc : Thread Cert.InprojRefIdeal.nD Cert.InprojRefIdeal.τ).loc Cert.InprojRefIdeal.main_arg10) = m ((c.tc : Thread Cert.InprojRefIdeal.nD Cert.InprojRefIdeal.τ).loc Cert.InprojRefIdeal.main_arg10)
      ∧ r.2.mem ((c.tc : Thread Cert.InprojRefIdeal.nD Cert.InprojRefIdeal.τ).loc Cert.InprojRefIdeal.main_arg11) = m ((c.tc : Thread Cert.InprojRefIdeal.nD Cert.InprojRefIdeal.τ).loc Cert.InprojRefIdeal.main_arg11)
      ∧ r.2.mem ((c.tc : Thread Cert.InprojRefIdeal.nD Cert.InprojRefIdeal.τ).loc Cert.InprojRefIdeal.main_arg12) = m ((c.tc : Thread Cert.InprojRefIdeal.nD Cert.InprojRefIdeal.τ).loc Cert.InprojRefIdeal.main_arg12)
      ∧ r.2.mem ((c.tc : Thread Cert.InprojRefIdeal.nD Cert.InprojRefIdeal.τ).loc Cert.InprojRefIdeal.main_arg13) = m ((c.tc : Thread Cert.InprojRefIdeal.nD Cert.InprojRefIdeal.τ).loc Cert.InprojRefIdeal.main_arg13)
      ∧ r.2.mem ((c.tc : Thread Cert.InprojRefIdeal.nD Cert.InprojRefIdeal.τ).loc Cert.InprojRefIdeal.main_arg14) = m ((c.tc : Thread Cert.InprojRefIdeal.nD Cert.InprojRefIdeal.τ).loc Cert.InprojRefIdeal.main_arg14)
      ∧ r.2.mem ((c.tc : Thread Cert.InprojRefIdeal.nD Cert.InprojRefIdeal.τ).loc Cert.InprojRefIdeal.main_arg15) = m ((c.tc : Thread Cert.InprojRefIdeal.nD Cert.InprojRefIdeal.τ).loc Cert.InprojRefIdeal.main_arg15)
      ∧ r.2.mem ((c.tc : Thread Cert.InprojRefIdeal.nD Cert.InprojRefIdeal.τ).loc Cert.InprojRefIdeal.main_arg16) = m ((c.tc : Thread Cert.InprojRefIdeal.nD Cert.InprojRefIdeal.τ).loc Cert.InprojRefIdeal.main_arg16))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModIdeal_pre_finite_modulation [hModIdeal : Cert.ModIdeal.Facts] [hPre_finite_modulation : Cert.Pre_finite_modulation.Facts] : Prop :=
  ∀ (m : (ℓ : Loc Cert.ModIdeal.nD Cert.ModIdeal.τ Cert.ModIdeal.sig) → Buf (Elt Ideal) ℓ) (g : Dev Cert.ModIdeal.nD → PrngReg), Pre_ModIdeal_finite_modulation m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_ModRefIdeal_pre_finite_modulation [hModRefIdeal : Cert.ModRefIdeal.Facts] [hPre_finite_modulation : Cert.Pre_finite_modulation.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal_finite_modulation m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_Wprep [hWprep : Cert.Wprep.Facts] : Prop :=
  ∀ (m : (ℓ : Loc Cert.Wprep.nD Cert.Wprep.τ Cert.Wprep.sig) → Buf (Elt Bits) ℓ) (g : Dev Cert.Wprep.nD → PrngReg), Pre_Wprep m →
    θ_run (Cert.Wprep.defs (F := Bits)) (onTc (τ := Cert.Wprep.τ) (Cert.Wprep.main (F := Bits))) ⟨m, fun _ => 0, g⟩ (fun r => (∀ c : Dev Cert.Wprep.nD,
      r.2.mem ((c.tc : Thread Cert.Wprep.nD Cert.Wprep.τ).loc Cert.Wprep.main_arg0) = m ((c.tc : Thread Cert.Wprep.nD Cert.Wprep.τ).loc Cert.Wprep.main_arg0))
      ∧ r.2.sem = fun _ => 0)

def quiescent_WprepIdeal [hWprepIdeal : Cert.WprepIdeal.Facts] : Prop :=
  ∀ (m : (ℓ : Loc Cert.WprepIdeal.nD Cert.WprepIdeal.τ Cert.WprepIdeal.sig) → Buf (Elt Ideal) ℓ) (g : Dev Cert.WprepIdeal.nD → PrngReg), Pre_WprepIdeal m →
    θ_run (Cert.WprepIdeal.defs (F := Ideal)) (onTc (τ := Cert.WprepIdeal.τ) (Cert.WprepIdeal.main (F := Ideal))) ⟨m, fun _ => 0, g⟩ (fun r => (∀ c : Dev Cert.WprepIdeal.nD,
      r.2.mem ((c.tc : Thread Cert.WprepIdeal.nD Cert.WprepIdeal.τ).loc Cert.WprepIdeal.main_arg0) = m ((c.tc : Thread Cert.WprepIdeal.nD Cert.WprepIdeal.τ).loc Cert.WprepIdeal.main_arg0))
      ∧ r.2.sem = fun _ => 0)

def quiescent_WprepRefIdeal [hWprepRefIdeal : Cert.WprepRefIdeal.Facts] : Prop :=
  ∀ (m : (ℓ : Loc Cert.WprepRefIdeal.nD Cert.WprepRefIdeal.τ Cert.WprepRefIdeal.sig) → Buf (Elt Ideal) ℓ) (g : Dev Cert.WprepRefIdeal.nD → PrngReg), Pre_WprepRefIdeal m →
    θ_run (Cert.WprepRefIdeal.defs (F := Ideal)) (onTc (τ := Cert.WprepRefIdeal.τ) (Cert.WprepRefIdeal.main (F := Ideal))) ⟨m, fun _ => 0, g⟩ (fun r => (∀ c : Dev Cert.WprepRefIdeal.nD,
      r.2.mem ((c.tc : Thread Cert.WprepRefIdeal.nD Cert.WprepRefIdeal.τ).loc Cert.WprepRefIdeal.main_arg0) = m ((c.tc : Thread Cert.WprepRefIdeal.nD Cert.WprepRefIdeal.τ).loc Cert.WprepRefIdeal.main_arg0))
      ∧ r.2.sem = fun _ => 0)

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)
      ∧ m' ((c.tc : Thread Cert.PostRefIdeal.nD Cert.PostRefIdeal.τ).loc Cert.PostRefIdeal.main_arg11) = m ((c.tc : Thread Cert.PostIdeal.nD Cert.PostIdeal.τ).loc Cert.PostIdeal.main_arg11)
      ∧ m' ((c.tc : Thread Cert.PostRefIdeal.nD Cert.PostRefIdeal.τ).loc Cert.PostRefIdeal.main_arg12) = m ((c.tc : Thread Cert.PostIdeal.nD Cert.PostIdeal.τ).loc Cert.PostIdeal.main_arg12)
      ∧ m' ((c.tc : Thread Cert.PostRefIdeal.nD Cert.PostRefIdeal.τ).loc Cert.PostRefIdeal.main_arg13) = m ((c.tc : Thread Cert.PostIdeal.nD Cert.PostIdeal.τ).loc Cert.PostIdeal.main_arg13)
      ∧ m' ((c.tc : Thread Cert.PostRefIdeal.nD Cert.PostRefIdeal.τ).loc Cert.PostRefIdeal.main_arg14) = m ((c.tc : Thread Cert.PostIdeal.nD Cert.PostIdeal.τ).loc Cert.PostIdeal.main_arg14)
      ∧ m' ((c.tc : Thread Cert.PostRefIdeal.nD Cert.PostRefIdeal.τ).loc Cert.PostRefIdeal.main_arg15) = m ((c.tc : Thread Cert.PostIdeal.nD Cert.PostIdeal.τ).loc Cert.PostIdeal.main_arg15)
      ∧ m' ((c.tc : Thread Cert.PostRefIdeal.nD Cert.PostRefIdeal.τ).loc Cert.PostRefIdeal.main_arg16) = m ((c.tc : Thread Cert.PostIdeal.nD Cert.PostIdeal.τ).loc Cert.PostIdeal.main_arg16)) →
    ∃ (v0 : (c : Dev Cert.PostIdeal.nD) → Buf (Elt Ideal) ((c.tc : Thread Cert.PostIdeal.nD Cert.PostIdeal.τ).loc Cert.PostIdeal.main_v25)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v25) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
          ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
          ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
          ∧ r.2.mem ((c.tc : Thread Cert.PostIdeal.nD Cert.PostIdeal.τ).loc Cert.PostIdeal.main_arg14) = m ((c.tc : Thread Cert.PostIdeal.nD Cert.PostIdeal.τ).loc Cert.PostIdeal.main_arg14)
          ∧ r.2.mem ((c.tc : Thread Cert.PostIdeal.nD Cert.PostIdeal.τ).loc Cert.PostIdeal.main_arg15) = m ((c.tc : Thread Cert.PostIdeal.nD Cert.PostIdeal.τ).loc Cert.PostIdeal.main_arg15)
          ∧ r.2.mem ((c.tc : Thread Cert.PostIdeal.nD Cert.PostIdeal.τ).loc Cert.PostIdeal.main_arg16) = m ((c.tc : Thread Cert.PostIdeal.nD Cert.PostIdeal.τ).loc Cert.PostIdeal.main_arg16))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v108) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10)
          ∧ r.2.mem ((c.tc : Thread Cert.PostRefIdeal.nD Cert.PostRefIdeal.τ).loc Cert.PostRefIdeal.main_arg11) = m' ((c.tc : Thread Cert.PostRefIdeal.nD Cert.PostRefIdeal.τ).loc Cert.PostRefIdeal.main_arg11)
          ∧ r.2.mem ((c.tc : Thread Cert.PostRefIdeal.nD Cert.PostRefIdeal.τ).loc Cert.PostRefIdeal.main_arg12) = m' ((c.tc : Thread Cert.PostRefIdeal.nD Cert.PostRefIdeal.τ).loc Cert.PostRefIdeal.main_arg12)
          ∧ r.2.mem ((c.tc : Thread Cert.PostRefIdeal.nD Cert.PostRefIdeal.τ).loc Cert.PostRefIdeal.main_arg13) = m' ((c.tc : Thread Cert.PostRefIdeal.nD Cert.PostRefIdeal.τ).loc Cert.PostRefIdeal.main_arg13)
          ∧ r.2.mem ((c.tc : Thread Cert.PostRefIdeal.nD Cert.PostRefIdeal.τ).loc Cert.PostRefIdeal.main_arg14) = m' ((c.tc : Thread Cert.PostRefIdeal.nD Cert.PostRefIdeal.τ).loc Cert.PostRefIdeal.main_arg14)
          ∧ r.2.mem ((c.tc : Thread Cert.PostRefIdeal.nD Cert.PostRefIdeal.τ).loc Cert.PostRefIdeal.main_arg15) = m' ((c.tc : Thread Cert.PostRefIdeal.nD Cert.PostRefIdeal.τ).loc Cert.PostRefIdeal.main_arg15)
          ∧ r.2.mem ((c.tc : Thread Cert.PostRefIdeal.nD Cert.PostRefIdeal.τ).loc Cert.PostRefIdeal.main_arg16) = m' ((c.tc : Thread Cert.PostRefIdeal.nD Cert.PostRefIdeal.τ).loc Cert.PostRefIdeal.main_arg16))

def preserves_Inproj_InprojIdeal : Prop :=
  IdealRules.named_const.Statement Cert.InprojIdeal.κ "gelu_cubic" .f32 0x3D122279#32 ((80338380498831 / 2251799813685248 : ℝ) : EReal)
  ∧ IdealRules.named_const.Statement Cert.InprojIdeal.κ "norm_floor" .f32 0x179ABE15#32 ((5316911940649 / 5316911983139663491615228241121378304 : ℝ) : EReal)

def algebraic_InprojIdeal_InprojRefIdeal_pre_finite_inputs [hInprojIdeal : Cert.InprojIdeal.Facts] [hInprojRefIdeal : Cert.InprojRefIdeal.Facts] [hPre_finite_inputs : Cert.Pre_finite_inputs.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal_finite_inputs m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)
      ∧ m' ((c.tc : Thread Cert.InprojRefIdeal.nD Cert.InprojRefIdeal.τ).loc Cert.InprojRefIdeal.main_arg7) = m ((c.tc : Thread Cert.InprojIdeal.nD Cert.InprojIdeal.τ).loc Cert.InprojIdeal.main_arg7)
      ∧ m' ((c.tc : Thread Cert.InprojRefIdeal.nD Cert.InprojRefIdeal.τ).loc Cert.InprojRefIdeal.main_arg8) = m ((c.tc : Thread Cert.InprojIdeal.nD Cert.InprojIdeal.τ).loc Cert.InprojIdeal.main_arg8)
      ∧ m' ((c.tc : Thread Cert.InprojRefIdeal.nD Cert.InprojRefIdeal.τ).loc Cert.InprojRefIdeal.main_arg9) = m ((c.tc : Thread Cert.InprojIdeal.nD Cert.InprojIdeal.τ).loc Cert.InprojIdeal.main_arg9)
      ∧ m' ((c.tc : Thread Cert.InprojRefIdeal.nD Cert.InprojRefIdeal.τ).loc Cert.InprojRefIdeal.main_arg10) = m ((c.tc : Thread Cert.InprojIdeal.nD Cert.InprojIdeal.τ).loc Cert.InprojIdeal.main_arg10)
      ∧ m' ((c.tc : Thread Cert.InprojRefIdeal.nD Cert.InprojRefIdeal.τ).loc Cert.InprojRefIdeal.main_arg11) = m ((c.tc : Thread Cert.InprojIdeal.nD Cert.InprojIdeal.τ).loc Cert.InprojIdeal.main_arg11)
      ∧ m' ((c.tc : Thread Cert.InprojRefIdeal.nD Cert.InprojRefIdeal.τ).loc Cert.InprojRefIdeal.main_arg12) = m ((c.tc : Thread Cert.InprojIdeal.nD Cert.InprojIdeal.τ).loc Cert.InprojIdeal.main_arg12)
      ∧ m' ((c.tc : Thread Cert.InprojRefIdeal.nD Cert.InprojRefIdeal.τ).loc Cert.InprojRefIdeal.main_arg13) = m ((c.tc : Thread Cert.InprojIdeal.nD Cert.InprojIdeal.τ).loc Cert.InprojIdeal.main_arg13)
      ∧ m' ((c.tc : Thread Cert.InprojRefIdeal.nD Cert.InprojRefIdeal.τ).loc Cert.InprojRefIdeal.main_arg14) = m ((c.tc : Thread Cert.InprojIdeal.nD Cert.InprojIdeal.τ).loc Cert.InprojIdeal.main_arg14)
      ∧ m' ((c.tc : Thread Cert.InprojRefIdeal.nD Cert.InprojRefIdeal.τ).loc Cert.InprojRefIdeal.main_arg15) = m ((c.tc : Thread Cert.InprojIdeal.nD Cert.InprojIdeal.τ).loc Cert.InprojIdeal.main_arg15)
      ∧ m' ((c.tc : Thread Cert.InprojRefIdeal.nD Cert.InprojRefIdeal.τ).loc Cert.InprojRefIdeal.main_arg16) = m ((c.tc : Thread Cert.InprojIdeal.nD Cert.InprojIdeal.τ).loc Cert.InprojIdeal.main_arg16)) →
    ∃ (v0 : (c : Dev Cert.InprojIdeal.nD) → Buf (Elt Ideal) ((c.tc : Thread Cert.InprojIdeal.nD Cert.InprojIdeal.τ).loc Cert.InprojIdeal.main_v58_0)) (v1 : (c : Dev Cert.InprojIdeal.nD) → Buf (Elt Ideal) ((c.tc : Thread Cert.InprojIdeal.nD Cert.InprojIdeal.τ).loc Cert.InprojIdeal.main_v58_1)) (v2 : (c : Dev Cert.InprojIdeal.nD) → Buf (Elt Ideal) ((c.tc : Thread Cert.InprojIdeal.nD Cert.InprojIdeal.τ).loc Cert.InprojIdeal.main_v58_2)) (v3 : (c : Dev Cert.InprojIdeal.nD) → Buf (Elt Ideal) ((c.tc : Thread Cert.InprojIdeal.nD Cert.InprojIdeal.τ).loc Cert.InprojIdeal.main_v58_3)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v58_0) = v0 c
          ∧ r.2.mem ((c.tc : Thread Cert.InprojIdeal.nD Cert.InprojIdeal.τ).loc Cert.InprojIdeal.main_v58_1) = v1 c
          ∧ r.2.mem ((c.tc : Thread Cert.InprojIdeal.nD Cert.InprojIdeal.τ).loc Cert.InprojIdeal.main_v58_2) = v2 c
          ∧ r.2.mem ((c.tc : Thread Cert.InprojIdeal.nD Cert.InprojIdeal.τ).loc Cert.InprojIdeal.main_v58_3) = v3 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
          ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
          ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
          ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11)
          ∧ r.2.mem ((c.tc : Thread Cert.InprojIdeal.nD Cert.InprojIdeal.τ).loc Cert.InprojIdeal.main_arg12) = m ((c.tc : Thread Cert.InprojIdeal.nD Cert.InprojIdeal.τ).loc Cert.InprojIdeal.main_arg12)
          ∧ r.2.mem ((c.tc : Thread Cert.InprojIdeal.nD Cert.InprojIdeal.τ).loc Cert.InprojIdeal.main_arg13) = m ((c.tc : Thread Cert.InprojIdeal.nD Cert.InprojIdeal.τ).loc Cert.InprojIdeal.main_arg13)
          ∧ r.2.mem ((c.tc : Thread Cert.InprojIdeal.nD Cert.InprojIdeal.τ).loc Cert.InprojIdeal.main_arg14) = m ((c.tc : Thread Cert.InprojIdeal.nD Cert.InprojIdeal.τ).loc Cert.InprojIdeal.main_arg14)
          ∧ r.2.mem ((c.tc : Thread Cert.InprojIdeal.nD Cert.InprojIdeal.τ).loc Cert.InprojIdeal.main_arg15) = m ((c.tc : Thread Cert.InprojIdeal.nD Cert.InprojIdeal.τ).loc Cert.InprojIdeal.main_arg15)
          ∧ r.2.mem ((c.tc : Thread Cert.InprojIdeal.nD Cert.InprojIdeal.τ).loc Cert.InprojIdeal.main_arg16) = m ((c.tc : Thread Cert.InprojIdeal.nD Cert.InprojIdeal.τ).loc Cert.InprojIdeal.main_arg16))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v177) = v0 c
          ∧ r.2.mem ((c.tc : Thread Cert.InprojRefIdeal.nD Cert.InprojRefIdeal.τ).loc Cert.InprojRefIdeal.main_v184) = v1 c
          ∧ r.2.mem ((c.tc : Thread Cert.InprojRefIdeal.nD Cert.InprojRefIdeal.τ).loc Cert.InprojRefIdeal.main_v164) = v2 c
          ∧ r.2.mem ((c.tc : Thread Cert.InprojRefIdeal.nD Cert.InprojRefIdeal.τ).loc Cert.InprojRefIdeal.main_v185) = v3 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6)
          ∧ r.2.mem ((c.tc : Thread Cert.InprojRefIdeal.nD Cert.InprojRefIdeal.τ).loc Cert.InprojRefIdeal.main_arg7) = m' ((c.tc : Thread Cert.InprojRefIdeal.nD Cert.InprojRefIdeal.τ).loc Cert.InprojRefIdeal.main_arg7)
          ∧ r.2.mem ((c.tc : Thread Cert.InprojRefIdeal.nD Cert.InprojRefIdeal.τ).loc Cert.InprojRefIdeal.main_arg8) = m' ((c.tc : Thread Cert.InprojRefIdeal.nD Cert.InprojRefIdeal.τ).loc Cert.InprojRefIdeal.main_arg8)
          ∧ r.2.mem ((c.tc : Thread Cert.InprojRefIdeal.nD Cert.InprojRefIdeal.τ).loc Cert.InprojRefIdeal.main_arg9) = m' ((c.tc : Thread Cert.InprojRefIdeal.nD Cert.InprojRefIdeal.τ).loc Cert.InprojRefIdeal.main_arg9)
          ∧ r.2.mem ((c.tc : Thread Cert.InprojRefIdeal.nD Cert.InprojRefIdeal.τ).loc Cert.InprojRefIdeal.main_arg10) = m' ((c.tc : Thread Cert.InprojRefIdeal.nD Cert.InprojRefIdeal.τ).loc Cert.InprojRefIdeal.main_arg10)
          ∧ r.2.mem ((c.tc : Thread Cert.InprojRefIdeal.nD Cert.InprojRefIdeal.τ).loc Cert.InprojRefIdeal.main_arg11) = m' ((c.tc : Thread Cert.InprojRefIdeal.nD Cert.InprojRefIdeal.τ).loc Cert.InprojRefIdeal.main_arg11)
          ∧ r.2.mem ((c.tc : Thread Cert.InprojRefIdeal.nD Cert.InprojRefIdeal.τ).loc Cert.InprojRefIdeal.main_arg12) = m' ((c.tc : Thread Cert.InprojRefIdeal.nD Cert.InprojRefIdeal.τ).loc Cert.InprojRefIdeal.main_arg12)
          ∧ r.2.mem ((c.tc : Thread Cert.InprojRefIdeal.nD Cert.InprojRefIdeal.τ).loc Cert.InprojRefIdeal.main_arg13) = m' ((c.tc : Thread Cert.InprojRefIdeal.nD Cert.InprojRefIdeal.τ).loc Cert.InprojRefIdeal.main_arg13)
          ∧ r.2.mem ((c.tc : Thread Cert.InprojRefIdeal.nD Cert.InprojRefIdeal.τ).loc Cert.InprojRefIdeal.main_arg14) = m' ((c.tc : Thread Cert.InprojRefIdeal.nD Cert.InprojRefIdeal.τ).loc Cert.InprojRefIdeal.main_arg14)
          ∧ r.2.mem ((c.tc : Thread Cert.InprojRefIdeal.nD Cert.InprojRefIdeal.τ).loc Cert.InprojRefIdeal.main_arg15) = m' ((c.tc : Thread Cert.InprojRefIdeal.nD Cert.InprojRefIdeal.τ).loc Cert.InprojRefIdeal.main_arg15)
          ∧ r.2.mem ((c.tc : Thread Cert.InprojRefIdeal.nD Cert.InprojRefIdeal.τ).loc Cert.InprojRefIdeal.main_arg16) = m' ((c.tc : Thread Cert.InprojRefIdeal.nD Cert.InprojRefIdeal.τ).loc Cert.InprojRefIdeal.main_arg16))

def preserves_Mod_ModIdeal : Prop :=
  True

def algebraic_ModIdeal_ModRefIdeal_pre_finite_modulation [hModIdeal : Cert.ModIdeal.Facts] [hModRefIdeal : Cert.ModRefIdeal.Facts] [hPre_finite_modulation : Cert.Pre_finite_modulation.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal_finite_modulation m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v6) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_Wprep_WprepIdeal : Prop :=
  True

def algebraic_WprepIdeal_WprepRefIdeal [hWprepIdeal : Cert.WprepIdeal.Facts] [hWprepRefIdeal : Cert.WprepRefIdeal.Facts] : Prop :=
  ∀ (m : (ℓ : Loc Cert.WprepIdeal.nD Cert.WprepIdeal.τ Cert.WprepIdeal.sig) → Buf (Elt Ideal) ℓ) (g : Dev Cert.WprepIdeal.nD → PrngReg)
    (m' : (ℓ : Loc Cert.WprepRefIdeal.nD Cert.WprepRefIdeal.τ Cert.WprepRefIdeal.sig) → Buf (Elt Ideal) ℓ) (g' : Dev Cert.WprepRefIdeal.nD → PrngReg), Pre_WprepIdeal m →
    (∀ c : Dev Cert.WprepIdeal.nD,
      m' ((c.tc : Thread Cert.WprepRefIdeal.nD Cert.WprepRefIdeal.τ).loc Cert.WprepRefIdeal.main_arg0) = m ((c.tc : Thread Cert.WprepIdeal.nD Cert.WprepIdeal.τ).loc Cert.WprepIdeal.main_arg0)) →
    ∃ (v0 : (c : Dev Cert.WprepIdeal.nD) → Buf (Elt Ideal) ((c.tc : Thread Cert.WprepIdeal.nD Cert.WprepIdeal.τ).loc Cert.WprepIdeal.main_v2)),
      θ_run (Cert.WprepIdeal.defs (F := Ideal)) (onTc (τ := Cert.WprepIdeal.τ) (Cert.WprepIdeal.main (F := Ideal))) ⟨m, fun _ => 0, g⟩ (fun r => ∀ c : Dev Cert.WprepIdeal.nD,
          r.2.mem ((c.tc : Thread Cert.WprepIdeal.nD Cert.WprepIdeal.τ).loc Cert.WprepIdeal.main_v2) = v0 c
          ∧ r.2.mem ((c.tc : Thread Cert.WprepIdeal.nD Cert.WprepIdeal.τ).loc Cert.WprepIdeal.main_arg0) = m ((c.tc : Thread Cert.WprepIdeal.nD Cert.WprepIdeal.τ).loc Cert.WprepIdeal.main_arg0))
      ∧ θ_run (Cert.WprepRefIdeal.defs (F := Ideal)) (onTc (τ := Cert.WprepRefIdeal.τ) (Cert.WprepRefIdeal.main (F := Ideal))) ⟨m', fun _ => 0, g'⟩ (fun r => ∀ c : Dev Cert.WprepRefIdeal.nD,
          r.2.mem ((c.tc : Thread Cert.WprepRefIdeal.nD Cert.WprepRefIdeal.τ).loc Cert.WprepRefIdeal.main_v5) = v0 c
          ∧ r.2.mem ((c.tc : Thread Cert.WprepRefIdeal.nD Cert.WprepRefIdeal.τ).loc Cert.WprepRefIdeal.main_arg0) = m' ((c.tc : Thread Cert.WprepRefIdeal.nD Cert.WprepRefIdeal.τ).loc Cert.WprepRefIdeal.main_arg0))

def Claim : Prop :=
  ∃ (hPost : Cert.Post.Facts) (hPostIdeal : Cert.PostIdeal.Facts) (hPostRefIdeal : Cert.PostRefIdeal.Facts) (hInproj : Cert.Inproj.Facts) (hInprojIdeal : Cert.InprojIdeal.Facts) (hInprojRefIdeal : Cert.InprojRefIdeal.Facts) (hMod : Cert.Mod.Facts) (hModIdeal : Cert.ModIdeal.Facts) (hModRefIdeal : Cert.ModRefIdeal.Facts) (hWprep : Cert.Wprep.Facts) (hWprepIdeal : Cert.WprepIdeal.Facts) (hWprepRefIdeal : Cert.WprepRefIdeal.Facts) (hPre_finite_inputs : Cert.Pre_finite_inputs.Facts) (hPre_finite_modulation : Cert.Pre_finite_modulation.Facts),
    quiescent_Post (hPost := hPost)
    ∧ quiescent_PostIdeal (hPostIdeal := hPostIdeal)
    ∧ quiescent_PostRefIdeal (hPostRefIdeal := hPostRefIdeal)
    ∧ quiescent_Inproj (hInproj := hInproj)
    ∧ quiescent_InprojIdeal (hInprojIdeal := hInprojIdeal)
    ∧ quiescent_InprojIdeal_pre_finite_inputs (hInprojIdeal := hInprojIdeal) (hPre_finite_inputs := hPre_finite_inputs)
    ∧ quiescent_InprojRefIdeal (hInprojRefIdeal := hInprojRefIdeal)
    ∧ quiescent_InprojRefIdeal_pre_finite_inputs (hInprojRefIdeal := hInprojRefIdeal) (hPre_finite_inputs := hPre_finite_inputs)
    ∧ quiescent_Mod (hMod := hMod)
    ∧ quiescent_ModIdeal (hModIdeal := hModIdeal)
    ∧ quiescent_ModIdeal_pre_finite_modulation (hModIdeal := hModIdeal) (hPre_finite_modulation := hPre_finite_modulation)
    ∧ quiescent_ModRefIdeal (hModRefIdeal := hModRefIdeal)
    ∧ quiescent_ModRefIdeal_pre_finite_modulation (hModRefIdeal := hModRefIdeal) (hPre_finite_modulation := hPre_finite_modulation)
    ∧ quiescent_Wprep (hWprep := hWprep)
    ∧ quiescent_WprepIdeal (hWprepIdeal := hWprepIdeal)
    ∧ quiescent_WprepRefIdeal (hWprepRefIdeal := hWprepRefIdeal)
    ∧ preserves_Post_PostIdeal
    ∧ algebraic_PostIdeal_PostRefIdeal (hPostIdeal := hPostIdeal) (hPostRefIdeal := hPostRefIdeal)
    ∧ preserves_Inproj_InprojIdeal
    ∧ algebraic_InprojIdeal_InprojRefIdeal_pre_finite_inputs (hInprojIdeal := hInprojIdeal) (hInprojRefIdeal := hInprojRefIdeal) (hPre_finite_inputs := hPre_finite_inputs)
    ∧ preserves_Mod_ModIdeal
    ∧ algebraic_ModIdeal_ModRefIdeal_pre_finite_modulation (hModIdeal := hModIdeal) (hModRefIdeal := hModRefIdeal) (hPre_finite_modulation := hPre_finite_modulation)
    ∧ preserves_Wprep_WprepIdeal
    ∧ algebraic_WprepIdeal_WprepRefIdeal (hWprepIdeal := hWprepIdeal) (hWprepRefIdeal := hWprepRefIdeal)
-- ==== Pre_finite_inputs.lean ====
abbrev S8x4096x1024 : Shape := ⟨3, ![8, 4096, 1024]⟩
abbrev S8x6144 : Shape := ⟨2, ![8, 6144]⟩
abbrev S1024x4864 : Shape := ⟨2, ![1024, 4864]⟩
abbrev S1x4768 : Shape := ⟨2, ![1, 4768]⟩
abbrev S1x512 : Shape := ⟨2, ![1, 512]⟩
abbrev S1x8x128x128 : Shape := ⟨4, ![1, 8, 128, 128]⟩
abbrev S1x8x128 : Shape := ⟨3, ![1, 8, 128]⟩
abbrev S1x1696 : Shape := ⟨2, ![1, 1696]⟩
abbrev S1x32x512 : Shape := ⟨3, ![1, 32, 512]⟩
abbrev S1x96x512 : Shape := ⟨3, ![1, 96, 512]⟩
abbrev S1x512x1024 : Shape := ⟨3, ![1, 512, 1024]⟩
abbrev S_ : Shape := ⟨0, ![]⟩

class Facts : Prop where
  bcast_S_S8x4096x1024 : S_.BroadcastsInDim S8x4096x1024 (![] : Fin 0 → Fin S8x4096x1024.rank)
  bcast_S_S8x6144 : S_.BroadcastsInDim S8x6144 (![] : Fin 0 → Fin S8x6144.rank)
  bitsLt_bf16_f32 : FTy.bits .bf16 < FTy.bits .f32
  bcast_S_S1024x4864 : S_.BroadcastsInDim S1024x4864 (![] : Fin 0 → Fin S1024x4864.rank)
  bcast_S_S1x4768 : S_.BroadcastsInDim S1x4768 (![] : Fin 0 → Fin S1x4768.rank)
  bcast_S_S1x512 : S_.BroadcastsInDim S1x512 (![] : Fin 0 → Fin S1x512.rank)
  bcast_S_S1x8x128x128 : S_.BroadcastsInDim S1x8x128x128 (![] : Fin 0 → Fin S1x8x128x128.rank)
  bcast_S_S1x8x128 : S_.BroadcastsInDim S1x8x128 (![] : Fin 0 → Fin S1x8x128.rank)
  bcast_S_S1x1696 : S_.BroadcastsInDim S1x1696 (![] : Fin 0 → Fin S1x1696.rank)
  bcast_S_S1x32x512 : S_.BroadcastsInDim S1x32x512 (![] : Fin 0 → Fin S1x32x512.rank)
  bcast_S_S1x96x512 : S_.BroadcastsInDim S1x96x512 (![] : Fin 0 → Fin S1x96x512.rank)
  bcast_S_S1x512x1024 : S_.BroadcastsInDim S1x512x1024 (![] : Fin 0 → Fin S1x512x1024.rank)

variable [Facts]

def fn_part2 {F : FTy → Type} [FloatOps F] (main_arg12 : FVec F S1x32x512 .f32) (main_arg13 : FVec F S1x96x512 .f32) (main_arg14 : FVec F S1x512 .f32) (main_arg15 : FVec F S1x512 .f32) (main_arg16 : FVec F S1x512x1024 .f32) (main_v2 : IVec S8x4096x1024 1) (main_v5 : IVec S8x6144 1) (main_v9 : IVec S1024x4864 1) (main_v12 : IVec S1x4768 1) (main_v15 : IVec S1x512 1) (main_v18 : IVec S1x512 1) (main_v21 : IVec S1x8x128x128 1) (main_v24 : IVec S1x8x128 1) (main_v27 : IVec S1x1696 1) (main_v30 : IVec S1x512 1) (main_v33 : IVec S1x32x512 1) (main_v34 : FVec F S1x512 .f32) (main_v35 : FVec F S1x512 .f32) : IVec S8x4096x1024 1 × IVec S8x6144 1 × IVec S1024x4864 1 × IVec S1x4768 1 × IVec S1x512 1 × IVec S1x512 1 × IVec S1x8x128x128 1 × IVec S1x8x128 1 × IVec S1x1696 1 × IVec S1x512 1 × IVec S1x32x512 1 × IVec S1x512 1 × IVec S1x32x512 1 × IVec S1x96x512 1 × IVec S1x512 1 × IVec S1x512 1 × IVec S1x512x1024 1 :=
  let main_v36 : IVec S1x512 1 := cmpf .olt main_v34 main_v35
  let main_v37 : FVec F S1x32x512 .f32 := Host.absf main_arg12
  let main_cst_11 : FVec F S_ .f32 := constant S_ .f32 0x7F800000#32
  let main_v38 : FVec F S1x32x512 .f32 := broadcastInDim S1x32x512 ![] bcast_S_S1x32x512 main_cst_11
  let main_v39 : IVec S1x32x512 1 := cmpf .olt main_v37 main_v38
  let main_v40 : FVec F S1x96x512 .f32 := Host.absf main_arg13
  let main_cst_12 : FVec F S_ .f32 := constant S_ .f32 0x7F800000#32
  let main_v41 : FVec F S1x96x512 .f32 := broadcastInDim S1x96x512 ![] bcast_S_S1x96x512 main_cst_12
  let main_v42 : IVec S1x96x512 1 := cmpf .olt main_v40 main_v41
  let main_v43 : FVec F S1x512 .f32 := Host.absf main_arg14
  let main_cst_13 : FVec F S_ .f32 := constant S_ .f32 0x7F800000#32
  let main_v44 : FVec F S1x512 .f32 := broadcastInDim S1x512 ![] bcast_S_S1x512 main_cst_13
  let main_v45 : IVec S1x512 1 := cmpf .olt main_v43 main_v44
  let main_v46 : FVec F S1x512 .f32 := Host.absf main_arg15
  let main_cst_14 : FVec F S_ .f32 := constant S_ .f32 0x7F800000#32
  let main_v47 : FVec F S1x512 .f32 := broadcastInDim S1x512 ![] bcast_S_S1x512 main_cst_14
  let main_v48 : IVec S1x512 1 := cmpf .olt main_v46 main_v47
  let main_v49 : FVec F S1x512x1024 .f32 := Host.absf main_arg16
  let main_cst_15 : FVec F S_ .f32 := constant S_ .f32 0x7F800000#32
  let main_v50 : FVec F S1x512x1024 .f32 := broadcastInDim S1x512x1024 ![] bcast_S_S1x512x1024 main_cst_15
  let main_v51 : IVec S1x512x1024 1 := cmpf .olt main_v49 main_v50
  (main_v2, main_v5, main_v9, main_v12, main_v15, main_v18, main_v21, main_v24, main_v27, main_v30, main_v33, main_v36, main_v39, main_v42, main_v45, main_v48, main_v51)

def fn_part1 {F : FTy → Type} [FloatOps F] (main_arg6 : FVec F S1x8x128x128 .f32) (main_arg7 : FVec F S1x8x128 .f32) (main_arg8 : FVec F S1x1696 .f32) (main_arg9 : FVec F S1x512 .f32) (main_arg10 : FVec F S1x32x512 .f32) (main_arg11 : FVec F S1x512 .f32) (main_arg12 : FVec F S1x32x512 .f32) (main_arg13 : FVec F S1x96x512 .f32) (main_arg14 : FVec F S1x512 .f32) (main_arg15 : FVec F S1x512 .f32) (main_arg16 : FVec F S1x512x1024 .f32) (main_v2 : IVec S8x4096x1024 1) (main_v5 : IVec S8x6144 1) (main_v9 : IVec S1024x4864 1) (main_v12 : IVec S1x4768 1) (main_v15 : IVec S1x512 1) (main_v16 : FVec F S1x512 .f32) (main_v17 : FVec F S1x512 .f32) : IVec S8x4096x1024 1 × IVec S8x6144 1 × IVec S1024x4864 1 × IVec S1x4768 1 × IVec S1x512 1 × IVec S1x512 1 × IVec S1x8x128x128 1 × IVec S1x8x128 1 × IVec S1x1696 1 × IVec S1x512 1 × IVec S1x32x512 1 × IVec S1x512 1 × IVec S1x32x512 1 × IVec S1x96x512 1 × IVec S1x512 1 × IVec S1x512 1 × IVec S1x512x1024 1 :=
  let main_v18 : IVec S1x512 1 := cmpf .olt main_v16 main_v17
  let main_v19 : FVec F S1x8x128x128 .f32 := Host.absf main_arg6
  let main_cst_5 : FVec F S_ .f32 := constant S_ .f32 0x7F800000#32
  let main_v20 : FVec F S1x8x128x128 .f32 := broadcastInDim S1x8x128x128 ![] bcast_S_S1x8x128x128 main_cst_5
  let main_v21 : IVec S1x8x128x128 1 := cmpf .olt main_v19 main_v20
  let main_v22 : FVec F S1x8x128 .f32 := Host.absf main_arg7
  let main_cst_6 : FVec F S_ .f32 := constant S_ .f32 0x7F800000#32
  let main_v23 : FVec F S1x8x128 .f32 := broadcastInDim S1x8x128 ![] bcast_S_S1x8x128 main_cst_6
  let main_v24 : IVec S1x8x128 1 := cmpf .olt main_v22 main_v23
  let main_v25 : FVec F S1x1696 .f32 := Host.absf main_arg8
  let main_cst_7 : FVec F S_ .f32 := constant S_ .f32 0x7F800000#32
  let main_v26 : FVec F S1x1696 .f32 := broadcastInDim S1x1696 ![] bcast_S_S1x1696 main_cst_7
  let main_v27 : IVec S1x1696 1 := cmpf .olt main_v25 main_v26
  let main_v28 : FVec F S1x512 .f32 := Host.absf main_arg9
  let main_cst_8 : FVec F S_ .f32 := constant S_ .f32 0x7F800000#32
  let main_v29 : FVec F S1x512 .f32 := broadcastInDim S1x512 ![] bcast_S_S1x512 main_cst_8
  let main_v30 : IVec S1x512 1 := cmpf .olt main_v28 main_v29
  let main_v31 : FVec F S1x32x512 .f32 := Host.absf main_arg10
  let main_cst_9 : FVec F S_ .f32 := constant S_ .f32 0x7F800000#32
  let main_v32 : FVec F S1x32x512 .f32 := broadcastInDim S1x32x512 ![] bcast_S_S1x32x512 main_cst_9
  let main_v33 : IVec S1x32x512 1 := cmpf .olt main_v31 main_v32
  let main_v34 : FVec F S1x512 .f32 := Host.absf main_arg11
  let main_cst_10 : FVec F S_ .f32 := constant S_ .f32 0x7F800000#32
  let main_v35 : FVec F S1x512 .f32 := broadcastInDim S1x512 ![] bcast_S_S1x512 main_cst_10
  fn_part2 (F := F) main_arg12 main_arg13 main_arg14 main_arg15 main_arg16 main_v2 main_v5 main_v9 main_v12 main_v15 main_v18 main_v21 main_v24 main_v27 main_v30 main_v33 main_v34 main_v35

def fn {F : FTy → Type} [FloatOps F] (main_arg0 : FVec F S8x4096x1024 .f32) (main_arg1 : FVec F S8x6144 .f32) (main_arg2 : FVec F S1024x4864 .bf16) (main_arg3 : FVec F S1x4768 .f32) (main_arg4 : FVec F S1x512 .f32) (main_arg5 : FVec F S1x512 .f32) (main_arg6 : FVec F S1x8x128x128 .f32) (main_arg7 : FVec F S1x8x128 .f32) (main_arg8 : FVec F S1x1696 .f32) (main_arg9 : FVec F S1x512 .f32) (main_arg10 : FVec F S1x32x512 .f32) (main_arg11 : FVec F S1x512 .f32) (main_arg12 : FVec F S1x32x512 .f32) (main_arg13 : FVec F S1x96x512 .f32) (main_arg14 : FVec F S1x512 .f32) (main_arg15 : FVec F S1x512 .f32) (main_arg16 : FVec F S1x512x1024 .f32) : IVec S8x4096x1024 1 × IVec S8x6144 1 × IVec S1024x4864 1 × IVec S1x4768 1 × IVec S1x512 1 × IVec S1x512 1 × IVec S1x8x128x128 1 × IVec S1x8x128 1 × IVec S1x1696 1 × IVec S1x512 1 × IVec S1x32x512 1 × IVec S1x512 1 × IVec S1x32x512 1 × IVec S1x96x512 1 × IVec S1x512 1 × IVec S1x512 1 × IVec S1x512x1024 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_v3 : FVec F S8x6144 .f32 := Host.absf main_arg1
  let main_cst_0 : FVec F S_ .f32 := constant S_ .f32 0x7F800000#32
  let main_v4 : FVec F S8x6144 .f32 := broadcastInDim S8x6144 ![] bcast_S_S8x6144 main_cst_0
  let main_v5 : IVec S8x6144 1 := cmpf .olt main_v3 main_v4
  let main_v6 : FVec F S1024x4864 .f32 := (extf .f32 · bitsLt_bf16_f32) main_arg2
  let main_v7 : FVec F S1024x4864 .f32 := Host.absf main_v6
  let main_cst_1 : FVec F S_ .f32 := constant S_ .f32 0x7F800000#32
  let main_v8 : FVec F S1024x4864 .f32 := broadcastInDim S1024x4864 ![] bcast_S_S1024x4864 main_cst_1
  let main_v9 : IVec S1024x4864 1 := cmpf .olt main_v7 main_v8
  let main_v10 : FVec F S1x4768 .f32 := Host.absf main_arg3
  let main_cst_2 : FVec F S_ .f32 := constant S_ .f32 0x7F800000#32
  let main_v11 : FVec F S1x4768 .f32 := broadcastInDim S1x4768 ![] bcast_S_S1x4768 main_cst_2
  let main_v12 : IVec S1x4768 1 := cmpf .olt main_v10 main_v11
  let main_v13 : FVec F S1x512 .f32 := Host.absf main_arg4
  let main_cst_3 : FVec F S_ .f32 := constant S_ .f32 0x7F800000#32
  let main_v14 : FVec F S1x512 .f32 := broadcastInDim S1x512 ![] bcast_S_S1x512 main_cst_3
  let main_v15 : IVec S1x512 1 := cmpf .olt main_v13 main_v14
  let main_v16 : FVec F S1x512 .f32 := Host.absf main_arg5
  let main_cst_4 : FVec F S_ .f32 := constant S_ .f32 0x7F800000#32
  let main_v17 : FVec F S1x512 .f32 := broadcastInDim S1x512 ![] bcast_S_S1x512 main_cst_4
  fn_part1 (F := F) main_arg6 main_arg7 main_arg8 main_arg9 main_arg10 main_arg11 main_arg12 main_arg13 main_arg14 main_arg15 main_arg16 main_v2 main_v5 main_v9 main_v12 main_v15 main_v16 main_v17
-- ==== Pre_finite_modulation.lean ====
abbrev S8x1024 : Shape := ⟨2, ![8, 1024]⟩
abbrev S1x1024x6144 : Shape := ⟨3, ![1, 1024, 6144]⟩
abbrev S1x6144 : Shape := ⟨2, ![1, 6144]⟩
abbrev S_ : Shape := ⟨0, ![]⟩

class Facts : Prop where
  bcast_S_S8x1024 : S_.BroadcastsInDim S8x1024 (![] : Fin 0 → Fin S8x1024.rank)
  bcast_S_S1x1024x6144 : S_.BroadcastsInDim S1x1024x6144 (![] : Fin 0 → Fin S1x1024x6144.rank)
  bcast_S_S1x6144 : S_.BroadcastsInDim S1x6144 (![] : Fin 0 → Fin S1x6144.rank)

variable [Facts]

def fn {F : FTy → Type} [FloatOps F] (main_arg0 : FVec F S8x1024 .f32) (main_arg1 : FVec F S1x1024x6144 .f32) (main_arg2 : FVec F S1x6144 .f32) : IVec S8x1024 1 × IVec S1x1024x6144 1 × IVec S1x6144 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_v3 : FVec F S1x1024x6144 .f32 := Host.absf main_arg1
  let main_cst_0 : FVec F S_ .f32 := constant S_ .f32 0x7F800000#32
  let main_v4 : FVec F S1x1024x6144 .f32 := broadcastInDim S1x1024x6144 ![] bcast_S_S1x1024x6144 main_cst_0
  let main_v5 : IVec S1x1024x6144 1 := cmpf .olt main_v3 main_v4
  let main_v6 : FVec F S1x6144 .f32 := Host.absf main_arg2
  let main_cst_1 : FVec F S_ .f32 := constant S_ .f32 0x7F800000#32
  let main_v7 : FVec F S1x6144 .f32 := broadcastInDim S1x6144 ![] bcast_S_S1x6144 main_cst_1
  let main_v8 : IVec S1x6144 1 := cmpf .olt main_v6 main_v7
  (main_v2, main_v5, main_v8)
-- ==== Post.lean ====
abbrev S8x4096x1024 : Shape := ⟨3, ![8, 4096, 1024]⟩
abbrev S8x6144 : Shape := ⟨2, ![8, 6144]⟩
abbrev S8x4096x512 : Shape := ⟨3, ![8, 4096, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096 : Shape := ⟨2, ![1, 4096]⟩
abbrev S1x4096x1024 : Shape := ⟨3, ![1, 4096, 1024]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S8x4096x4x128 : Shape := ⟨4, ![8, 4096, 4, 128]⟩
abbrev S8x4x4096x128 : Shape := ⟨4, ![8, 4, 4096, 128]⟩
abbrev S8x6x1024 : Shape := ⟨3, ![8, 6, 1024]⟩
abbrev S1x6x1024 : Shape := ⟨3, ![1, 6, 1024]⟩
abbrev S1x4x512x128 : Shape := ⟨4, ![1, 4, 512, 128]⟩
abbrev S1x512x512 : Shape := ⟨3, ![1, 512, 512]⟩
abbrev S1x1x1024 : Shape := ⟨3, ![1, 1, 1024]⟩
abbrev S1x1x256x128 : Shape := ⟨4, ![1, 1, 256, 128]⟩
abbrev S256x128 : Shape := ⟨2, ![256, 128]⟩
abbrev S256x512 : Shape := ⟨2, ![256, 512]⟩
abbrev S1x256x512 : Shape := ⟨3, ![1, 256, 512]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩
abbrev S256x4096 : Shape := ⟨2, ![256, 4096]⟩

abbrev nBuf : Space → Nat
  | .hbm => 43
  | .vmem => 25
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S8x4096x512, .bf16⟩
  | .hbm, ⟨3, _⟩ => ⟨S8x4096x512, .bf16⟩
  | .hbm, ⟨4, _⟩ => ⟨S8x4096x1024, .bf16⟩
  | .hbm, ⟨5, _⟩ => ⟨S8x4096x1024, .bf16⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024x4096, .f32⟩
  | .hbm, ⟨12, _⟩ => ⟨S1x4096, .f32⟩
  | .hbm, ⟨13, _⟩ => ⟨S1x4096x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S512x1024, .f32⟩
  | .hbm, ⟨18, _⟩ => ⟨S512x1024, .bf16⟩
  | .hbm, ⟨19, _⟩ => ⟨S1024x1024, .f32⟩
  | .hbm, ⟨20, _⟩ => ⟨S1024x1024, .bf16⟩
  | .hbm, ⟨21, _⟩ => ⟨S1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S1024x4096, .f32⟩
  | .hbm, ⟨28, _⟩ => ⟨S1024x4096, .bf16⟩
  | .hbm, ⟨29, _⟩ => ⟨S4096, .f32⟩
  | .hbm, ⟨30, _⟩ => ⟨S1x4096, .f32⟩
  | .hbm, ⟨31, _⟩ => ⟨S4096x1024, .f32⟩
  | .hbm, ⟨32, _⟩ => ⟨S4096x1024, .bf16⟩
  | .hbm, ⟨33, _⟩ => ⟨S1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S8x4096x4x128, .bf16⟩
  | .hbm, ⟨40, _⟩ => ⟨S8x4x4096x128, .bf16⟩
  | .hbm, ⟨41, _⟩ => ⟨S8x6x1024, .f32⟩
  | .hbm, ⟨42, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x4x512x128, .bf16⟩
  | .local _ .vmem, ⟨5, _⟩ => ⟨S1x4x512x128, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1024x4096, .bf16⟩
  | .local _ .vmem, ⟨18, _⟩ => ⟨S1x4096, .f32⟩
  | .local _ .vmem, ⟨19, _⟩ => ⟨S4096x1024, .bf16⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x512x1024, .f32⟩
  | .local _ .vmem, ⟨24, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg17_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem17_1 : DmaSem sig := 24

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S4096x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== PostRefIdeal.lean ====
abbrev S8x4096x1024 : Shape := ⟨3, ![8, 4096, 1024]⟩
abbrev S8x6144 : Shape := ⟨2, ![8, 6144]⟩
abbrev S8x4096x512 : Shape := ⟨3, ![8, 4096, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096 : Shape := ⟨2, ![1, 4096]⟩
abbrev S1x4096x1024 : Shape := ⟨3, ![1, 4096, 1024]⟩
abbrev S8x1024 : Shape := ⟨2, ![8, 1024]⟩
abbrev S8x1x1024 : Shape := ⟨3, ![8, 1, 1024]⟩
abbrev S512x1024 : Shape := ⟨2, ![512, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S8x4096 : Shape := ⟨2, ![8, 4096]⟩
abbrev S8x4096x1 : Shape := ⟨3, ![8, 4096, 1]⟩
abbrev S1024x4096 : Shape := ⟨2, ![1024, 4096]⟩
abbrev S8x4096x4096 : Shape := ⟨3, ![8, 4096, 4096]⟩
abbrev S4096 : Shape := ⟨1, ![4096]⟩
abbrev S1x1x4096 : Shape := ⟨3, ![1, 1, 4096]⟩
abbrev S4096x1024 : Shape := ⟨2, ![4096, 1024]⟩

abbrev nBuf : Space → Nat
  | .hbm => 141
  | .vmem => 0
  | .smem => 0
  | _ => 0

abbrev hbmTy0_0 (i : Nat) : BufTy := match i % 128 with
  | 0 => ⟨S8x4096x1024, .f32⟩
  | 1 => ⟨S8x6144, .f32⟩
  | 2 => ⟨S8x4096x512, .bf16⟩
  | 3 => ⟨S8x4096x512, .bf16⟩
  | 4 => ⟨S8x4096x1024, .bf16⟩
  | 5 => ⟨S8x4096x1024, .bf16⟩
  | 6 => ⟨S1x512x1024, .f32⟩
  | 7 => ⟨S1x1024x1024, .f32⟩
  | 8 => ⟨S1x1024, .f32⟩
  | 9 => ⟨S1x1024, .f32⟩
  | 10 => ⟨S1x1024, .f32⟩
  | 11 => ⟨S1x1024x4096, .f32⟩
  | 12 => ⟨S1x4096, .f32⟩
  | 13 => ⟨S1x4096x1024, .f32⟩
  | 14 => ⟨S1x1024, .f32⟩
  | 15 => ⟨S1x1024, .f32⟩
  | 16 => ⟨S1x1024, .f32⟩
  | 17 => ⟨S8x1024, .f32⟩
  | 18 => ⟨S8x1024, .f32⟩
  | 19 => ⟨S8x1024, .f32⟩
  | 20 => ⟨S8x1024, .f32⟩
  | 21 => ⟨S8x1024, .f32⟩
  | 22 => ⟨S8x1024, .f32⟩
  | 23 => ⟨S8x1x1024, .f32⟩
  | 24 => ⟨S8x1x1024, .f32⟩
  | 25 => ⟨S8x1x1024, .f32⟩
  | 26 => ⟨S8x1x1024, .f32⟩
  | 27 => ⟨S8x1x1024, .f32⟩
  | 28 => ⟨S8x1x1024, .f32⟩
  | 29 => ⟨S8x4096x512, .f32⟩
  | 30 => ⟨S8x4096x512, .f32⟩
  | 31 => ⟨S8x4096x512, .f32⟩
  | 32 => ⟨S8x4096x1024, .f32⟩
  | 33 => ⟨S8x4096x1024, .f32⟩
  | 34 => ⟨S512x1024, .f32⟩
  | 35 => ⟨S8x4096x1024, .f32⟩
  | 36 => ⟨S8x4096x1024, .f32⟩
  | 37 => ⟨S8x4096x1024, .f32⟩
  | 38 => ⟨S1024x1024, .f32⟩
  | 39 => ⟨S8x4096x1024, .f32⟩
  | 40 => ⟨S1024, .f32⟩
  | 41 => ⟨S1x1x1024, .f32⟩
  | 42 => ⟨S8x4096x1024, .f32⟩
  | 43 => ⟨S8x4096x1024, .f32⟩
  | 44 => ⟨S_, .f32⟩
  | 45 => ⟨S8x4096x1024, .f32⟩
  | 46 => ⟨S8x4096x1024, .f32⟩
  | 47 => ⟨S8x4096x1024, .f32⟩
  | 48 => ⟨S8x4096x1024, .f32⟩
  | 49 => ⟨S8x4096x1024, .f32⟩
  | 50 => ⟨S1024, .f32⟩
  | 51 => ⟨S1024, .f32⟩
  | 52 => ⟨S_, .f32⟩
  | 53 => ⟨S8x4096, .f32⟩
  | 54 => ⟨S8x4096x1, .f32⟩
  | 55 => ⟨S_, .f32⟩
  | 56 => ⟨S8x4096x1, .f32⟩
  | 57 => ⟨S8x4096x1, .f32⟩
  | 58 => ⟨S8x4096x1024, .f32⟩
  | 59 => ⟨S8x4096x1024, .f32⟩
  | 60 => ⟨S8x4096x1024, .f32⟩
  | 61 => ⟨S_, .f32⟩
  | 62 => ⟨S8x4096, .f32⟩
  | 63 => ⟨S8x4096x1, .f32⟩
  | 64 => ⟨S_, .f32⟩
  | 65 => ⟨S8x4096x1, .f32⟩
  | 66 => ⟨S8x4096x1, .f32⟩
  | 67 => ⟨S8x4096x1024, .f32⟩
  | 68 => ⟨S8x4096x1024, .f32⟩
  | 69 => ⟨S_, .f32⟩
  | 70 => ⟨S8x4096x1, .f32⟩
  | 71 => ⟨S8x4096x1, .f32⟩
  | 72 => ⟨S8x4096x1, .f32⟩
  | 73 => ⟨S8x4096x1024, .f32⟩
  | 74 => ⟨S8x4096x1024, .f32⟩
  | 75 => ⟨S1x1x1024, .f32⟩
  | 76 => ⟨S8x4096x1024, .f32⟩
  | 77 => ⟨S8x4096x1024, .f32⟩
  | 78 => ⟨S1x1x1024, .f32⟩
  | 79 => ⟨S8x4096x1024, .f32⟩
  | 80 => ⟨S8x4096x1024, .f32⟩
  | 81 => ⟨S_, .f32⟩
  | 82 => ⟨S8x1x1024, .f32⟩
  | 83 => ⟨S8x1x1024, .f32⟩
  | 84 => ⟨S8x4096x1024, .f32⟩
  | 85 => ⟨S8x4096x1024, .f32⟩
  | 86 => ⟨S8x4096x1024, .f32⟩
  | 87 => ⟨S8x4096x1024, .f32⟩
  | 88 => ⟨S1024x4096, .f32⟩
  | 89 => ⟨S8x4096x4096, .f32⟩
  | 90 => ⟨S4096, .f32⟩
  | 91 => ⟨S1x1x4096, .f32⟩
  | 92 => ⟨S8x4096x4096, .f32⟩
  | 93 => ⟨S8x4096x4096, .f32⟩
  | 94 => ⟨S_, .f32⟩
  | 95 => ⟨S8x4096x4096, .f32⟩
  | 96 => ⟨S8x4096x4096, .f32⟩
  | 97 => ⟨S8x4096x4096, .f32⟩
  | 98 => ⟨S4096x1024, .f32⟩
  | 99 => ⟨S8x4096x1024, .f32⟩
  | 100 => ⟨S1024, .f32⟩
  | 101 => ⟨S1x1x1024, .f32⟩
  | 102 => ⟨S8x4096x1024, .f32⟩
  | 103 => ⟨S8x4096x1024, .f32⟩
  | 104 => ⟨S_, .f32⟩
  | 105 => ⟨S8x4096x1024, .f32⟩
  | 106 => ⟨S8x4096x1024, .f32⟩
  | 107 => ⟨S8x4096x1024, .f32⟩
  | 108 => ⟨S8x4096x1024, .f32⟩
  | 109 => ⟨S8x4096x1024, .f32⟩
  | 110 => ⟨S1024, .f32⟩
  | 111 => ⟨S1024, .f32⟩
  | 112 => ⟨S_, .f32⟩
  | 113 => ⟨S8x4096, .f32⟩
  | 114 => ⟨S8x4096x1, .f32⟩
  | 115 => ⟨S_, .f32⟩
  | 116 => ⟨S8x4096x1, .f32⟩
  | 117 => ⟨S8x4096x1, .f32⟩
  | 118 => ⟨S8x4096x1024, .f32⟩
  | 119 => ⟨S8x4096x1024, .f32⟩
  | 120 => ⟨S8x4096x1024, .f32⟩
  | 121 => ⟨S_, .f32⟩
  | 122 => ⟨S8x4096, .f32⟩
  | 123 => ⟨S8x4096x1, .f32⟩
  | 124 => ⟨S_, .f32⟩
  | 125 => ⟨S8x4096x1, .f32⟩
  | 126 => ⟨S8x4096x1, .f32⟩
  | 127 => ⟨S8x4096x1024, .f32⟩
  | _ => ⟨S8x4096x1024, .f32⟩

abbrev hbmTy0_1 (i : Nat) : BufTy := match i % 128 with
  | 0 => ⟨S8x4096x1024, .f32⟩
  | 1 => ⟨S_, .f32⟩
  | 2 => ⟨S8x4096x1, .f32⟩
  | 3 => ⟨S8x4096x1, .f32⟩
  | 4 => ⟨S8x4096x1, .f32⟩
  | 5 => ⟨S8x4096x1024, .f32⟩
  | 6 => ⟨S8x4096x1024, .f32⟩
  | 7 => ⟨S1x1x1024, .f32⟩
  | 8 => ⟨S8x4096x1024, .f32⟩
  | 9 => ⟨S8x4096x1024, .f32⟩
  | 10 => ⟨S1x1x1024, .f32⟩
  | 11 => ⟨S8x4096x1024, .f32⟩
  | 12 => ⟨S8x4096x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_0 : Ref sig .tc := ⟨.hbm, 52, rfl⟩
abbrev main_v34 : Ref sig .tc := ⟨.hbm, 53, rfl⟩
abbrev main_v35 : Ref sig .tc := ⟨.hbm, 54, rfl⟩
abbrev main_cst_1 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_2 : Ref sig .tc := ⟨.hbm, 61, rfl⟩
abbrev main_v41 : Ref sig .tc := ⟨.hbm, 62, rfl⟩
abbrev main_v42 : Ref sig .tc := ⟨.hbm, 63, rfl⟩
abbrev main_cst_3 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_4 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_5 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_call0_cst : Ref sig .tc := ⟨.hbm, 94, rfl⟩
abbrev main_call0_v0 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_6 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_7 : Ref sig .tc := ⟨.hbm, 112, rfl⟩
abbrev main_v85 : Ref sig .tc := ⟨.hbm, 113, rfl⟩
abbrev main_v86 : Ref sig .tc := ⟨.hbm, 114, rfl⟩
abbrev main_cst_8 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_9 : Ref sig .tc := ⟨.hbm, 121, rfl⟩
abbrev main_v92 : Ref sig .tc := ⟨.hbm, 122, rfl⟩
abbrev main_v93 : Ref sig .tc := ⟨.hbm, 123, rfl⟩
abbrev main_cst_10 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_cst_11 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩

abbrev nD : Nat := 1
abbrev τ : Topo := Topo.v7x

variable {F : FTy → Type} [FloatOps F]
-- ==== Inproj.lean ====
abbrev S8x4096x1024 : Shape := ⟨3, ![8, 4096, 1024]⟩
abbrev S8x6144 : Shape := ⟨2, ![8, 6144]⟩
abbrev S1024x4864 : Shape := ⟨2, ![1024, 4864]⟩
abbrev S1x4768 : Shape := ⟨2, ![1, 4768]⟩
abbrev S1x512 : Shape := ⟨2, ![1, 512]⟩
abbrev S1x8x128x128 : Shape := ⟨4, ![1, 8, 128, 128]⟩
abbrev S1x8x128 : Shape := ⟨3, ![1, 8, 128]⟩
abbrev S1x1696 : Shape := ⟨2, ![1, 1696]⟩
abbrev S1x32x512 : Shape := ⟨3, ![1, 32, 512]⟩
abbrev S1x96x512 : Shape := ⟨3, ![1, 96, 512]⟩
abbrev S1x512x1024 : Shape := ⟨3, ![1, 512, 1024]⟩
abbrev S4768 : Shape := ⟨1, ![4768]⟩
abbrev S2720 : Shape := ⟨1, ![2720]⟩
abbrev S_ : Shape := ⟨0, ![]⟩
abbrev S96 : Shape := ⟨1, ![96]⟩
abbrev S2048 : Shape := ⟨1, ![2048]⟩
abbrev S4864 : Shape := ⟨1, ![4864]⟩
abbrev S1696 : Shape := ⟨1, ![1696]⟩
abbrev S1792 : Shape := ⟨1, ![1792]⟩
abbrev S256x1536 : Shape := ⟨2, ![256, 1536]⟩
abbrev S32x512 : Shape := ⟨2, ![32, 512]⟩
abbrev S1 : Shape := ⟨1, ![1]⟩
abbrev S2 : Shape := ⟨1, ![2]⟩
abbrev S96x512 : Shape := ⟨2, ![96, 512]⟩
abbrev S8x128x128 : Shape := ⟨3, ![8, 128, 128]⟩
abbrev S4x2x128x128 : Shape := ⟨4, ![4, 2, 128, 128]⟩
abbrev S4x128x2x128 : Shape := ⟨4, ![4, 128, 2, 128]⟩
abbrev S4x128x256 : Shape := ⟨3, ![4, 128, 256]⟩
abbrev S8x128 : Shape := ⟨2, ![8, 128]⟩
abbrev S128x8 : Shape := ⟨2, ![128, 8]⟩
abbrev S128x8x64 : Shape := ⟨3, ![128, 8, 64]⟩
abbrev S128x512 : Shape := ⟨2, ![128, 512]⟩
abbrev S512 : Shape := ⟨1, ![512]⟩
abbrev S512x1 : Shape := ⟨2, ![512, 1]⟩
abbrev S512x512 : Shape := ⟨2, ![512, 512]⟩
abbrev S1x4864 : Shape := ⟨2, ![1, 4864]⟩
abbrev S1x1792 : Shape := ⟨2, ![1, 1792]⟩
abbrev S512x1024 : Shape := ⟨2, ![512, 1024]⟩
abbrev S8x6x1024 : Shape := ⟨3, ![8, 6, 1024]⟩
abbrev S8x6x4x4096x128 : Shape := ⟨5, ![8, 6, 4, 4096, 128]⟩
abbrev S8x4096x512 : Shape := ⟨3, ![8, 4096, 512]⟩
abbrev S1x6x1024 : Shape := ⟨3, ![1, 6, 1024]⟩
abbrev S1x6x4x512x128 : Shape := ⟨5, ![1, 6, 4, 512, 128]⟩
abbrev S1x512x512 : Shape := ⟨3, ![1, 512, 512]⟩
abbrev S520x1792 : Shape := ⟨2, ![520, 1792]⟩
abbrev S8x1792 : Shape := ⟨2, ![8, 1792]⟩
abbrev S1x1x1024 : Shape := ⟨3, ![1, 1, 1024]⟩
abbrev S1x1024 : Shape := ⟨2, ![1, 1024]⟩
abbrev S1x256x1024 : Shape := ⟨3, ![1, 256, 1024]⟩
abbrev S256x1024 : Shape := ⟨2, ![256, 1024]⟩
abbrev S1024x1792 : Shape := ⟨2, ![1024, 1792]⟩
abbrev S256x1792 : Shape := ⟨2, ![256, 1792]⟩
abbrev S1024x512 : Shape := ⟨2, ![1024, 512]⟩
abbrev S256x512 : Shape := ⟨2, ![256, 512]⟩
abbrev S256x256 : Shape := ⟨2, ![256, 256]⟩
abbrev S1024x1024 : Shape := ⟨2, ![1024, 1024]⟩
abbrev S256 : Shape := ⟨1, ![256]⟩
abbrev S256x1 : Shape := ⟨2, ![256, 1]⟩
abbrev S1x256x512 : Shape := ⟨3, ![1, 256, 512]⟩
abbrev S256x128 : Shape := ⟨2, ![256, 128]⟩
abbrev S1x1x1x256x128 : Shape := ⟨5, ![1, 1, 1, 256, 128]⟩
abbrev S128x128 : Shape := ⟨2, ![128, 128]⟩
abbrev S128x256 : Shape := ⟨2, ![128, 256]⟩
abbrev S1x128x256 : Shape := ⟨3, ![1, 128, 256]⟩

abbrev nBuf : Space → Nat
  | .hbm => 105
  | .vmem => 27
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S1024x4864, .bf16⟩
  | .hbm, ⟨3, _⟩ => ⟨S1x4768, .f32⟩
  | .hbm, ⟨4, _⟩ => ⟨S1x512, .f32⟩
  | .hbm, ⟨5, _⟩ => ⟨S1x512, .f32⟩
  | .hbm, ⟨6, _⟩ => ⟨S1x8x128x128, .f32⟩
  | .hbm, ⟨7, _⟩ => ⟨S1x8x128, .f32⟩
  | .hbm, ⟨8, _⟩ => ⟨S1x1696, .f32⟩
  | .hbm, ⟨9, _⟩ => ⟨S1x512, .f32⟩
  | .hbm, ⟨10, _⟩ => ⟨S1x32x512, .f32⟩
  | .hbm, ⟨11, _⟩ => ⟨S1x512, .f32⟩
  | .hbm, ⟨12, _⟩ => ⟨S1x32x512, .f32⟩
  | .hbm, ⟨13, _⟩ => ⟨S1x96x512, .f32⟩
  | .hbm, ⟨14, _⟩ => ⟨S1x512, .f32⟩
  | .hbm, ⟨15, _⟩ => ⟨S1x512, .f32⟩
  | .hbm, ⟨16, _⟩ => ⟨S1x512x1024, .f32⟩
  | .hbm, ⟨17, _⟩ => ⟨S4768, .f32⟩
  | .hbm, ⟨18, _⟩ => ⟨S2720, .f32⟩
  | .hbm, ⟨19, _⟩ => ⟨S_, .f32⟩
  | .hbm, ⟨20, _⟩ => ⟨S96, .f32⟩
  | .hbm, ⟨21, _⟩ => ⟨S2048, .f32⟩
  | .hbm, ⟨22, _⟩ => ⟨S4864, .f32⟩
  | .hbm, ⟨23, _⟩ => ⟨S1696, .f32⟩
  | .hbm, ⟨24, _⟩ => ⟨S_, .f32⟩
  | .hbm, ⟨25, _⟩ => ⟨S96, .f32⟩
  | .hbm, ⟨26, _⟩ => ⟨S1792, .f32⟩
  | .hbm, ⟨27, _⟩ => ⟨S_, .f32⟩
  | .hbm, ⟨28, _⟩ => ⟨S256x1536, .f32⟩
  | .hbm, ⟨29, _⟩ => ⟨S32x512, .f32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S256x1536, .f32⟩
  | .hbm, ⟨36, _⟩ => ⟨S32x512, .f32⟩
  | .hbm, ⟨37, _⟩ => ⟨S_, .i32⟩
  | .hbm, ⟨38, _⟩ => ⟨S1, .i32⟩
  | .hbm, ⟨39, _⟩ => ⟨S_, .i32⟩
  | .hbm, ⟨40, _⟩ => ⟨S1, .i32⟩
  | .hbm, ⟨41, _⟩ => ⟨S2, .i32⟩
  | .hbm, ⟨42, _⟩ => ⟨S256x1536, .f32⟩
  | .hbm, ⟨43, _⟩ => ⟨S96x512, .f32⟩
  | .hbm, ⟨44, _⟩ => ⟨S_, .i32⟩
  | .hbm, ⟨45, _⟩ => ⟨S1, .i32⟩
  | .hbm, ⟨46, _⟩ => ⟨S_, .i32⟩
  | .hbm, ⟨47, _⟩ => ⟨S1, .i32⟩
  | .hbm, ⟨48, _⟩ => ⟨S2, .i32⟩
  | .hbm, ⟨49, _⟩ => ⟨S256x1536, .f32⟩
  | .hbm, ⟨50, _⟩ => ⟨S8x128x128, .f32⟩
  | .hbm, ⟨51, _⟩ => ⟨S4x2x128x128, .f32⟩
  | .hbm, ⟨52, _⟩ => ⟨S4x128x2x128, .f32⟩
  | .hbm, ⟨53, _⟩ => ⟨S4x128x256, .f32⟩
  | .hbm, ⟨54, _⟩ => ⟨S8x128, .f32⟩
  | .hbm, ⟨55, _⟩ => ⟨S128x8, .f32⟩
  | .hbm, ⟨56, _⟩ => ⟨S128x8x64, .f32⟩
  | .hbm, ⟨57, _⟩ => ⟨S128x512, .f32⟩
  | .hbm, ⟨58, _⟩ => ⟨S512, .i32⟩
  | .hbm, ⟨59, _⟩ => ⟨S_, .i32⟩
  | .hbm, ⟨60, _⟩ => ⟨S_, .i32⟩
  | .hbm, ⟨61, _⟩ => ⟨S512, .i32⟩
  | .hbm, ⟨62, _⟩ => ⟨S512, .i32⟩
  | .hbm, ⟨63, _⟩ => ⟨S512, .i32⟩
  | .hbm, ⟨64, _⟩ => ⟨S_, .i32⟩
  | .hbm, ⟨65, _⟩ => ⟨S512, .i32⟩
  | .hbm, ⟨66, _⟩ => ⟨S512, .i1⟩
  | .hbm, ⟨67, _⟩ => ⟨S512, .i32⟩
  | .hbm, ⟨68, _⟩ => ⟨S512, .i32⟩
  | .hbm, ⟨69, _⟩ => ⟨S_, .i32⟩
  | .hbm, ⟨70, _⟩ => ⟨S512, .i32⟩
  | .hbm, ⟨71, _⟩ => ⟨S512, .i1⟩
  | .hbm, ⟨72, _⟩ => ⟨S512, .i1⟩
  | .hbm, ⟨73, _⟩ => ⟨S_, .i32⟩
  | .hbm, ⟨74, _⟩ => ⟨S512, .i32⟩
  | .hbm, ⟨75, _⟩ => ⟨S512, .i32⟩
  | .hbm, ⟨76, _⟩ => ⟨S512, .i32⟩
  | .hbm, ⟨77, _⟩ => ⟨S512x1, .i32⟩
  | .hbm, ⟨78, _⟩ => ⟨S1x512, .i32⟩
  | .hbm, ⟨79, _⟩ => ⟨S512x512, .i32⟩
  | .hbm, ⟨80, _⟩ => ⟨S512x512, .i32⟩
  | .hbm, ⟨81, _⟩ => ⟨S512x512, .i1⟩
  | .hbm, ⟨82, _⟩ => ⟨S512x512, .bf16⟩
  | .hbm, ⟨83, _⟩ => ⟨S1x4864, .f32⟩
  | .hbm, ⟨84, _⟩ => ⟨S512, .f32⟩
  | .hbm, ⟨85, _⟩ => ⟨S1x512, .f32⟩
  | .hbm, ⟨86, _⟩ => ⟨S512, .f32⟩
  | .hbm, ⟨87, _⟩ => ⟨S1x512, .f32⟩
  | .hbm, ⟨88, _⟩ => ⟨S1x1792, .f32⟩
  | .hbm, ⟨89, _⟩ => ⟨S512, .f32⟩
  | .hbm, ⟨90, _⟩ => ⟨S1x512, .f32⟩
  | .hbm, ⟨91, _⟩ => ⟨S512, .f32⟩
  | .hbm, ⟨92, _⟩ => ⟨S1x512, .f32⟩
  | .hbm, ⟨93, _⟩ => ⟨S256x1536, .bf16⟩
  | .hbm, ⟨94, _⟩ => ⟨S512, .f32⟩
  | .hbm, ⟨95, _⟩ => ⟨S1x512, .f32⟩
  | .hbm, ⟨96, _⟩ => ⟨S512, .f32⟩
  | .hbm, ⟨97, _⟩ => ⟨S1x512, .f32⟩
  | .hbm, ⟨98, _⟩ => ⟨S512x1024, .f32⟩
  | .hbm, ⟨99, _⟩ => ⟨S512x1024, .bf16⟩
  | .hbm, ⟨100, _⟩ => ⟨S8x6x1024, .f32⟩
  | .hbm, ⟨101, _⟩ => ⟨S8x4096x1024, .bf16⟩
  | .hbm, ⟨102, _⟩ => ⟨S8x4096x1024, .bf16⟩
  | .hbm, ⟨103, _⟩ => ⟨S8x6x4x4096x128, .f32⟩
  | .hbm, ⟨104, _⟩ => ⟨S8x4096x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x4864, .bf16⟩
  | .local _ .vmem, ⟨5, _⟩ => ⟨S1x4864, .f32⟩
  | .local _ .vmem, ⟨6, _⟩ => ⟨S1x512, .f32⟩
  | .local _ .vmem, ⟨7, _⟩ => ⟨S1x512, .f32⟩
  | .local _ .vmem, ⟨8, _⟩ => ⟨S4x128x256, .f32⟩
  | .local _ .vmem, ⟨9, _⟩ => ⟨S128x512, .f32⟩
  | .local _ .vmem, ⟨10, _⟩ => ⟨S1x1792, .f32⟩
  | .local _ .vmem, ⟨11, _⟩ => ⟨S1x512, .f32⟩
  | .local _ .vmem, ⟨12, _⟩ => ⟨S1x512, .f32⟩
  | .local _ .vmem, ⟨13, _⟩ => ⟨S256x1536, .bf16⟩
  | .local _ .vmem, ⟨14, _⟩ => ⟨S1x512, .f32⟩
  | .local _ .vmem, ⟨15, _⟩ => ⟨S1x512, .f32⟩
  | .local _ .vmem, ⟨16, _⟩ => ⟨S512x512, .bf16⟩
  | .local _ .vmem, ⟨17, _⟩ => ⟨S512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x6x4x512x128, .f32⟩
  | .local _ .vmem, ⟨23, _⟩ => ⟨S1x6x4x512x128, .f32⟩
  | .local _ .vmem, ⟨24, _⟩ => ⟨S1x512x512, .bf16⟩
  | .local _ .vmem, ⟨25, _⟩ => ⟨S1x512x512, .bf16⟩
  | .local _ .vmem, ⟨26, _⟩ => ⟨S520x1792, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_c : Ref sig .tc := ⟨.hbm, 30, rfl⟩
abbrev main_v10 : Ref sig .tc := ⟨.hbm, 31, rfl⟩
abbrev main_c_2 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c_3 : Ref sig .tc := ⟨.hbm, 37, rfl⟩
abbrev main_v15 : Ref sig .tc := ⟨.hbm, 38, rfl⟩
abbrev main_c_4 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c_5 : Ref sig .tc := ⟨.hbm, 44, rfl⟩
abbrev main_v20 : Ref sig .tc := ⟨.hbm, 45, rfl⟩
abbrev main_c_6 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_v6 : Ref sig .tc := ⟨.hbm, 66, rfl⟩
abbrev main_call0_v7 : Ref sig .tc := ⟨.hbm, 67, rfl⟩
abbrev main_call0_v8 : Ref sig .tc := ⟨.hbm, 68, rfl⟩
abbrev main_call0_c : Ref sig .tc := ⟨.hbm, 69, rfl⟩
abbrev main_call0_v9 : Ref sig .tc := ⟨.hbm, 70, rfl⟩
abbrev main_call0_v10 : Ref sig .tc := ⟨.hbm, 71, rfl⟩
abbrev main_call0_v11 : Ref sig .tc := ⟨.hbm, 72, rfl⟩
abbrev main_call0_c_0 : Ref sig .tc := ⟨.hbm, 73, rfl⟩
abbrev main_call0_v12 : Ref sig .tc := ⟨.hbm, 74, rfl⟩
abbrev main_call0_v13 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58_0 : Ref sig .tc := ⟨.hbm, 101, rfl⟩
abbrev main_v58_1 : Ref sig .tc := ⟨.hbm, 102, rfl⟩
abbrev main_v58_2 : Ref sig .tc := ⟨.hbm, 103, rfl⟩
abbrev main_v58_3 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x4864 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4864 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1792 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1536 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x6x4x512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== InprojIdeal.lean ====
variable {F : FTy → Type} [FloatOps F] [Named F]
def κ : String → Option EReal := fun
  | "gelu_cubic" => some ((80338380498831 / 2251799813685248 : ℝ) : EReal)
  | "norm_floor" => some ((5316911940649 / 5316911983139663491615228241121378304 : ℝ) : EReal)
  | _ => none
-- ==== InprojRefIdeal.lean ====
abbrev S8x4096x1024 : Shape := ⟨3, ![8, 4096, 1024]⟩
abbrev S8x6144 : Shape := ⟨2, ![8, 6144]⟩
abbrev S1024x4864 : Shape := ⟨2, ![1024, 4864]⟩
abbrev S1x4768 : Shape := ⟨2, ![1, 4768]⟩
abbrev S1x512 : Shape := ⟨2, ![1, 512]⟩
abbrev S1x8x128x128 : Shape := ⟨4, ![1, 8, 128, 128]⟩
abbrev S1x8x128 : Shape := ⟨3, ![1, 8, 128]⟩
abbrev S1x1696 : Shape := ⟨2, ![1, 1696]⟩
abbrev S1x32x512 : Shape := ⟨3, ![1, 32, 512]⟩
abbrev S1x96x512 : Shape := ⟨3, ![1, 96, 512]⟩
abbrev S1x512x1024 : Shape := ⟨3, ![1, 512, 1024]⟩
abbrev S8x1024 : Shape := ⟨2, ![8, 1024]⟩
abbrev S8x1x1024 : Shape := ⟨3, ![8, 1, 1024]⟩
abbrev S1024x2720 : Shape := ⟨2, ![1024, 2720]⟩
abbrev S1024x2048 : Shape := ⟨2, ![1024, 2048]⟩
abbrev S1024x4768 : Shape := ⟨2, ![1024, 4768]⟩
abbrev S_ : Shape := ⟨0, ![]⟩
abbrev S8x4096x4768 : Shape := ⟨3, ![8, 4096, 4768]⟩
abbrev S4768 : Shape := ⟨1, ![4768]⟩
abbrev S1x1x4768 : Shape := ⟨3, ![1, 1, 4768]⟩
abbrev S8x4096x512 : Shape := ⟨3, ![8, 4096, 512]⟩
abbrev S512 : Shape := ⟨1, ![512]⟩
abbrev S8x4096 : Shape := ⟨2, ![8, 4096]⟩
abbrev S8x4096x1 : Shape := ⟨3, ![8, 4096, 1]⟩
abbrev S1x1x512 : Shape := ⟨3, ![1, 1, 512]⟩
abbrev S8x32x128x8x64 : Shape := ⟨5, ![8, 32, 128, 8, 64]⟩
abbrev S128x128 : Shape := ⟨2, ![128, 128]⟩
abbrev S1x128x128 : Shape := ⟨3, ![1, 128, 128]⟩
abbrev S8x128x128 : Shape := ⟨3, ![8, 128, 128]⟩
abbrev S8x8x32x64x128 : Shape := ⟨5, ![8, 8, 32, 64, 128]⟩
abbrev S8x128 : Shape := ⟨2, ![8, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S8x4096x1696 : Shape := ⟨3, ![8, 4096, 1696]⟩
abbrev S8x4097x1696 : Shape := ⟨3, ![8, 4097, 1696]⟩
abbrev S1696 : Shape := ⟨1, ![1696]⟩
abbrev S1x1x1696 : Shape := ⟨3, ![1, 1, 1696]⟩
abbrev S8x4096x32 : Shape := ⟨3, ![8, 4096, 32]⟩
abbrev S8x4096x96 : Shape := ⟨3, ![8, 4096, 96]⟩
abbrev S32x512 : Shape := ⟨2, ![32, 512]⟩
abbrev S96x512 : Shape := ⟨2, ![96, 512]⟩
abbrev S8x4096x8x64 : Shape := ⟨4, ![8, 4096, 8, 64]⟩
abbrev S8x4096x8 : Shape := ⟨3, ![8, 4096, 8]⟩
abbrev S8x4096x8x1 : Shape := ⟨4, ![8, 4096, 8, 1]⟩
abbrev S8x1x4096x512 : Shape := ⟨4, ![8, 1, 4096, 512]⟩
abbrev S8x6x4096x512 : Shape := ⟨4, ![8, 6, 4096, 512]⟩
abbrev S8x6x4096x4x128 : Shape := ⟨5, ![8, 6, 4096, 4, 128]⟩
abbrev S8x6x4x4096x128 : Shape := ⟨5, ![8, 6, 4, 4096, 128]⟩
abbrev S8x4096x2048 : Shape := ⟨3, ![8, 4096, 2048]⟩
abbrev S512x1024 : Shape := ⟨2, ![512, 1024]⟩

abbrev nBuf : Space → Nat
  | .hbm => 257
  | .vmem => 0
  | .smem => 0
  | _ => 0

abbrev hbmTy0_0 (i : Nat) : BufTy := match i % 128 with
  | 0 => ⟨S8x4096x1024, .f32⟩
  | 1 => ⟨S8x6144, .f32⟩
  | 2 => ⟨S1024x4864, .bf16⟩
  | 3 => ⟨S1x4768, .f32⟩
  | 4 => ⟨S1x512, .f32⟩
  | 5 => ⟨S1x512, .f32⟩
  | 6 => ⟨S1x8x128x128, .f32⟩
  | 7 => ⟨S1x8x128, .f32⟩
  | 8 => ⟨S1x1696, .f32⟩
  | 9 => ⟨S1x512, .f32⟩
  | 10 => ⟨S1x32x512, .f32⟩
  | 11 => ⟨S1x512, .f32⟩
  | 12 => ⟨S1x32x512, .f32⟩
  | 13 => ⟨S1x96x512, .f32⟩
  | 14 => ⟨S1x512, .f32⟩
  | 15 => ⟨S1x512, .f32⟩
  | 16 => ⟨S1x512x1024, .f32⟩
  | 17 => ⟨S8x1024, .f32⟩
  | 18 => ⟨S8x1024, .f32⟩
  | 19 => ⟨S8x1024, .f32⟩
  | 20 => ⟨S8x1024, .f32⟩
  | 21 => ⟨S8x1024, .f32⟩
  | 22 => ⟨S8x1024, .f32⟩
  | 23 => ⟨S8x1x1024, .f32⟩
  | 24 => ⟨S8x1x1024, .f32⟩
  | 25 => ⟨S8x1x1024, .f32⟩
  | 26 => ⟨S8x1x1024, .f32⟩
  | 27 => ⟨S8x1x1024, .f32⟩
  | 28 => ⟨S8x1x1024, .f32⟩
  | 29 => ⟨S1024x4864, .f32⟩
  | 30 => ⟨S1024x2720, .f32⟩
  | 31 => ⟨S1024x2048, .f32⟩
  | 32 => ⟨S1024x4768, .f32⟩
  | 33 => ⟨S_, .f32⟩
  | 34 => ⟨S8x1x1024, .f32⟩
  | 35 => ⟨S8x1x1024, .f32⟩
  | 36 => ⟨S8x4096x1024, .f32⟩
  | 37 => ⟨S8x4096x1024, .f32⟩
  | 38 => ⟨S8x4096x1024, .f32⟩
  | 39 => ⟨S8x4096x1024, .f32⟩
  | 40 => ⟨S8x4096x4768, .f32⟩
  | 41 => ⟨S4768, .f32⟩
  | 42 => ⟨S1x1x4768, .f32⟩
  | 43 => ⟨S8x4096x4768, .f32⟩
  | 44 => ⟨S8x4096x4768, .f32⟩
  | 45 => ⟨S8x4096x1024, .f32⟩
  | 46 => ⟨S8x4096x1024, .f32⟩
  | 47 => ⟨S8x4096x1024, .f32⟩
  | 48 => ⟨S_, .f32⟩
  | 49 => ⟨S8x4096x1024, .f32⟩
  | 50 => ⟨S8x4096x1024, .f32⟩
  | 51 => ⟨S8x4096x1024, .f32⟩
  | 52 => ⟨S_, .f32⟩
  | 53 => ⟨S8x4096x1024, .f32⟩
  | 54 => ⟨S8x4096x1024, .f32⟩
  | 55 => ⟨S8x4096x1024, .f32⟩
  | 56 => ⟨S_, .f32⟩
  | 57 => ⟨S8x4096x1024, .f32⟩
  | 58 => ⟨S8x4096x1024, .f32⟩
  | 59 => ⟨S_, .f32⟩
  | 60 => ⟨S8x4096x1024, .f32⟩
  | 61 => ⟨S8x4096x1024, .f32⟩
  | 62 => ⟨S8x4096x1024, .f32⟩
  | 63 => ⟨S8x4096x512, .f32⟩
  | 64 => ⟨S8x4096x512, .f32⟩
  | 65 => ⟨S512, .f32⟩
  | 66 => ⟨S512, .f32⟩
  | 67 => ⟨S_, .f32⟩
  | 68 => ⟨S8x4096, .f32⟩
  | 69 => ⟨S8x4096x1, .f32⟩
  | 70 => ⟨S_, .f32⟩
  | 71 => ⟨S8x4096x1, .f32⟩
  | 72 => ⟨S8x4096x1, .f32⟩
  | 73 => ⟨S8x4096x512, .f32⟩
  | 74 => ⟨S8x4096x512, .f32⟩
  | 75 => ⟨S8x4096x512, .f32⟩
  | 76 => ⟨S_, .f32⟩
  | 77 => ⟨S8x4096, .f32⟩
  | 78 => ⟨S8x4096x1, .f32⟩
  | 79 => ⟨S_, .f32⟩
  | 80 => ⟨S8x4096x1, .f32⟩
  | 81 => ⟨S8x4096x1, .f32⟩
  | 82 => ⟨S8x4096x512, .f32⟩
  | 83 => ⟨S8x4096x512, .f32⟩
  | 84 => ⟨S_, .f32⟩
  | 85 => ⟨S8x4096x1, .f32⟩
  | 86 => ⟨S8x4096x1, .f32⟩
  | 87 => ⟨S8x4096x1, .f32⟩
  | 88 => ⟨S8x4096x512, .f32⟩
  | 89 => ⟨S8x4096x512, .f32⟩
  | 90 => ⟨S1x1x512, .f32⟩
  | 91 => ⟨S8x4096x512, .f32⟩
  | 92 => ⟨S8x4096x512, .f32⟩
  | 93 => ⟨S1x1x512, .f32⟩
  | 94 => ⟨S8x4096x512, .f32⟩
  | 95 => ⟨S8x4096x512, .f32⟩
  | 96 => ⟨S8x32x128x8x64, .f32⟩
  | 97 => ⟨S_, .i1⟩
  | 98 => ⟨S128x128, .i1⟩
  | 99 => ⟨S128x128, .i32⟩
  | 100 => ⟨S_, .i32⟩
  | 101 => ⟨S128x128, .i32⟩
  | 102 => ⟨S128x128, .i32⟩
  | 103 => ⟨S128x128, .i32⟩
  | 104 => ⟨S128x128, .i1⟩
  | 105 => ⟨S_, .i1⟩
  | 106 => ⟨S128x128, .i1⟩
  | 107 => ⟨S128x128, .i1⟩
  | 108 => ⟨S1x128x128, .i1⟩
  | 109 => ⟨S8x128x128, .f32⟩
  | 110 => ⟨S_, .f32⟩
  | 111 => ⟨S_, .f32⟩
  | 112 => ⟨S8x128x128, .i1⟩
  | 113 => ⟨S8x128x128, .f32⟩
  | 114 => ⟨S8x128x128, .f32⟩
  | 115 => ⟨S8x8x32x64x128, .f32⟩
  | 116 => ⟨S8x32x128x8x64, .f32⟩
  | 117 => ⟨S8x128, .f32⟩
  | 118 => ⟨S128x8, .f32⟩
  | 119 => ⟨S128x8x1, .f32⟩
  | 120 => ⟨S1x1x128x8x1, .f32⟩
  | 121 => ⟨S8x32x128x8x64, .f32⟩
  | 122 => ⟨S8x32x128x8x64, .f32⟩
  | 123 => ⟨S8x4096x512, .f32⟩
  | 124 => ⟨S8x4096x512, .f32⟩
  | 125 => ⟨S8x4096x1696, .f32⟩
  | 126 => ⟨S_, .i32⟩
  | 127 => ⟨S_, .f32⟩
  | _ => ⟨S8x4096x1024, .f32⟩

abbrev hbmTy0_1 (i : Nat) : BufTy := match i % 128 with
  | 0 => ⟨S8x4097x1696, .f32⟩
  | 1 => ⟨S8x4096x1696, .f32⟩
  | 2 => ⟨S8x4096x1696, .f32⟩
  | 3 => ⟨S1696, .f32⟩
  | 4 => ⟨S1x1x1696, .f32⟩
  | 5 => ⟨S8x4096x1696, .f32⟩
  | 6 => ⟨S8x4096x1696, .f32⟩
  | 7 => ⟨S8x4096x1696, .f32⟩
  | 8 => ⟨S8x4096x512, .f32⟩
  | 9 => ⟨S8x4096x512, .f32⟩
  | 10 => ⟨S8x4096x512, .f32⟩
  | 11 => ⟨S8x4096x32, .f32⟩
  | 12 => ⟨S8x4096x32, .f32⟩
  | 13 => ⟨S8x4096x96, .f32⟩
  | 14 => ⟨S512, .f32⟩
  | 15 => ⟨S8x4096x32, .f32⟩
  | 16 => ⟨S32x512, .f32⟩
  | 17 => ⟨S8x4096x512, .f32⟩
  | 18 => ⟨S1x1x512, .f32⟩
  | 19 => ⟨S8x4096x512, .f32⟩
  | 20 => ⟨S8x4096x512, .f32⟩
  | 21 => ⟨S8x4096x512, .f32⟩
  | 22 => ⟨S_, .f32⟩
  | 23 => ⟨S8x4096x512, .f32⟩
  | 24 => ⟨S8x4096x512, .f32⟩
  | 25 => ⟨S8x4096x512, .f32⟩
  | 26 => ⟨S8x4096x512, .f32⟩
  | 27 => ⟨S8x4096x512, .i1⟩
  | 28 => ⟨S8x4096x512, .f32⟩
  | 29 => ⟨S8x4096x512, .f32⟩
  | 30 => ⟨S8x4096x512, .f32⟩
  | 31 => ⟨S8x4096x512, .f32⟩
  | 32 => ⟨S8x4096x512, .f32⟩
  | 33 => ⟨S8x4096x512, .f32⟩
  | 34 => ⟨S8x4096x512, .f32⟩
  | 35 => ⟨S8x4096x512, .f32⟩
  | 36 => ⟨S8x4096x512, .f32⟩
  | 37 => ⟨S_, .f32⟩
  | 38 => ⟨S8x4096x512, .f32⟩
  | 39 => ⟨S8x4096x512, .f32⟩
  | 40 => ⟨S8x4096x512, .f32⟩
  | 41 => ⟨S8x4096x512, .f32⟩
  | 42 => ⟨S512, .f32⟩
  | 43 => ⟨S32x512, .f32⟩
  | 44 => ⟨S8x4096x512, .f32⟩
  | 45 => ⟨S1x1x512, .f32⟩
  | 46 => ⟨S8x4096x512, .f32⟩
  | 47 => ⟨S8x4096x512, .f32⟩
  | 48 => ⟨S8x4096x512, .f32⟩
  | 49 => ⟨S8x4096x512, .f32⟩
  | 50 => ⟨S_, .f32⟩
  | 51 => ⟨S8x4096x512, .f32⟩
  | 52 => ⟨S8x4096x512, .f32⟩
  | 53 => ⟨S_, .f32⟩
  | 54 => ⟨S8x4096x512, .f32⟩
  | 55 => ⟨S8x4096x512, .f32⟩
  | 56 => ⟨S8x4096x96, .f32⟩
  | 57 => ⟨S8x4096x96, .f32⟩
  | 58 => ⟨S_, .f32⟩
  | 59 => ⟨S8x4096x96, .f32⟩
  | 60 => ⟨S8x4096x96, .f32⟩
  | 61 => ⟨S_, .f32⟩
  | 62 => ⟨S8x4096x96, .f32⟩
  | 63 => ⟨S8x4096x96, .f32⟩
  | 64 => ⟨S96x512, .f32⟩
  | 65 => ⟨S8x4096x512, .f32⟩
  | 66 => ⟨S512, .f32⟩
  | 67 => ⟨S1x1x512, .f32⟩
  | 68 => ⟨S8x4096x512, .f32⟩
  | 69 => ⟨S8x4096x512, .f32⟩
  | 70 => ⟨S8x4096x8x64, .f32⟩
  | 71 => ⟨S8x4096x8x64, .f32⟩
  | 72 => ⟨S_, .f32⟩
  | 73 => ⟨S8x4096x8, .f32⟩
  | 74 => ⟨S8x4096x8x1, .f32⟩
  | 75 => ⟨S8x4096x8x1, .f32⟩
  | 76 => ⟨S_, .f32⟩
  | 77 => ⟨S8x4096x8x1, .f32⟩
  | 78 => ⟨S8x4096x8x1, .f32⟩
  | 79 => ⟨S8x4096x8x64, .f32⟩
  | 80 => ⟨S8x4096x8x64, .f32⟩
  | 81 => ⟨S8x4096x512, .f32⟩
  | 82 => ⟨S_, .f32⟩
  | 83 => ⟨S8x4096x512, .f32⟩
  | 84 => ⟨S8x4096x512, .f32⟩
  | 85 => ⟨S512, .f32⟩
  | 86 => ⟨S1x1x512, .f32⟩
  | 87 => ⟨S8x4096x512, .f32⟩
  | 88 => ⟨S8x4096x512, .f32⟩
  | 89 => ⟨S_, .f32⟩
  | 90 => ⟨S8x4096x512, .f32⟩
  | 91 => ⟨S8x4096x512, .f32⟩
  | 92 => ⟨S8x4096x512, .f32⟩
  | 93 => ⟨S8x4096x512, .f32⟩
  | 94 => ⟨S8x4096x512, .f32⟩
  | 95 => ⟨S8x1x4096x512, .f32⟩
  | 96 => ⟨S8x1x4096x512, .f32⟩
  | 97 => ⟨S8x1x4096x512, .f32⟩
  | 98 => ⟨S8x1x4096x512, .f32⟩
  | 99 => ⟨S8x1x4096x512, .f32⟩
  | 100 => ⟨S8x1x4096x512, .f32⟩
  | 101 => ⟨S8x6x4096x512, .f32⟩
  | 102 => ⟨S8x6x4096x4x128, .f32⟩
  | 103 => ⟨S8x6x4x4096x128, .f32⟩
  | 104 => ⟨S8x4096x2048, .f32⟩
  | 105 => ⟨S8x4096x1024, .f32⟩
  | 106 => ⟨S8x4096x1024, .f32⟩
  | 107 => ⟨S8x4096x1024, .f32⟩
  | 108 => ⟨S8x4096x1024, .f32⟩
  | 109 => ⟨S_, .f32⟩
  | 110 => ⟨S8x4096x1024, .f32⟩
  | 111 => ⟨S8x4096x1024, .f32⟩
  | 112 => ⟨S_, .f32⟩
  | 113 => ⟨S8x4096x1024, .f32⟩
  | 114 => ⟨S8x4096x1024, .f32⟩
  | 115 => ⟨S512x1024, .f32⟩
  | 116 => ⟨S8x4096x1024, .f32⟩
  | 117 => ⟨S8x4096x1024, .f32⟩
  | 118 => ⟨S8x4096x1024, .bf16⟩
  | 119 => ⟨S8x4096x1024, .f32⟩
  | 120 => ⟨S8x4096x1024, .f32⟩
  | 121 => ⟨S_, .f32⟩
  | 122 => ⟨S8x4096x1024, .f32⟩
  | 123 => ⟨S8x4096x1024, .f32⟩
  | 124 => ⟨S_, .f32⟩
  | 125 => ⟨S8x4096x1024, .f32⟩
  | 126 => ⟨S8x4096x1024, .f32⟩
  | 127 => ⟨S8x4096x1024, .bf16⟩
  | _ => ⟨S8x4096x1024, .f32⟩

abbrev hbmTy0_2 (i : Nat) : BufTy := match i % 128 with
  | 0 => ⟨S8x4096x512, .bf16⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_0 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_1 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_2 : Ref sig .tc := ⟨.hbm, 56, rfl⟩
abbrev main_v36 : Ref sig .tc := ⟨.hbm, 57, rfl⟩
abbrev main_v37 : Ref sig .tc := ⟨.hbm, 58, rfl⟩
abbrev main_cst_3 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_4 : Ref sig .tc := ⟨.hbm, 67, rfl⟩
abbrev main_v45 : Ref sig .tc := ⟨.hbm, 68, rfl⟩
abbrev main_v46 : Ref sig .tc := ⟨.hbm, 69, rfl⟩
abbrev main_cst_5 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_6 : Ref sig .tc := ⟨.hbm, 76, rfl⟩
abbrev main_v52 : Ref sig .tc := ⟨.hbm, 77, rfl⟩
abbrev main_v53 : Ref sig .tc := ⟨.hbm, 78, rfl⟩
abbrev main_cst_7 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_8 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c : Ref sig .tc := ⟨.hbm, 97, rfl⟩
abbrev main_v70 : Ref sig .tc := ⟨.hbm, 98, rfl⟩
abbrev main_call0_v0 : Ref sig .tc := ⟨.hbm, 99, rfl⟩
abbrev main_call0_c : Ref sig .tc := ⟨.hbm, 100, rfl⟩
abbrev main_call0_v1 : Ref sig .tc := ⟨.hbm, 101, rfl⟩
abbrev main_call0_v2 : Ref sig .tc := ⟨.hbm, 102, rfl⟩
abbrev main_call0_v3 : Ref sig .tc := ⟨.hbm, 103, rfl⟩
abbrev main_call0_v4 : Ref sig .tc := ⟨.hbm, 104, rfl⟩
abbrev main_call0_c_0 : Ref sig .tc := ⟨.hbm, 105, rfl⟩
abbrev main_call0_v5 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_9 : Ref sig .tc := ⟨.hbm, 110, rfl⟩
abbrev main_call1_v0 : Ref sig .tc := ⟨.hbm, 111, rfl⟩
abbrev main_call1_v1 : Ref sig .tc := ⟨.hbm, 112, rfl⟩
abbrev main_call1_v2 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_c_10 : Ref sig .tc := ⟨.hbm, 126, rfl⟩
abbrev main_call2_v0 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_call3_cst : Ref sig .tc := ⟨.hbm, 150, rfl⟩
abbrev main_call3_v0 : Ref sig .tc := ⟨.hbm, 151, rfl⟩
abbrev main_call3_v1 : Ref sig .tc := ⟨.hbm, 152, rfl⟩
abbrev main_call3_v2 : Ref sig .tc := ⟨.hbm, 153, rfl⟩
abbrev main_call3_v3 : Ref sig .tc := ⟨.hbm, 154, rfl⟩
abbrev main_call3_v4 : Ref sig .tc := ⟨.hbm, 155, rfl⟩
abbrev main_call3_v5 : Ref sig .tc := ⟨.hbm, 156, rfl⟩
abbrev main_call3_v6 : Ref sig .tc := ⟨.hbm, 157, rfl⟩
abbrev main_call3_v7 : Ref sig .tc := ⟨.hbm, 158, rfl⟩
abbrev main_call3_v8 : Ref sig .tc := ⟨.hbm, 159, rfl⟩
abbrev main_call3_v9 : Ref sig .tc := ⟨.hbm, 160, rfl⟩
abbrev main_call3_v10 : Ref sig .tc := ⟨.hbm, 161, rfl⟩
abbrev main_call3_v11 : Ref sig .tc := ⟨.hbm, 162, rfl⟩
abbrev main_v108 : Ref sig .tc := ⟨.hbm, 163, rfl⟩
abbrev main_v109 : Ref sig .tc := ⟨.hbm, 164, rfl⟩
abbrev main_cst_11 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_cst_12 : Ref sig .tc := ⟨.hbm, 178, rfl⟩
abbrev main_v122 : Ref sig .tc := ⟨.hbm, 179, rfl⟩
abbrev main_v123 : Ref sig .tc := ⟨.hbm, 180, rfl⟩
abbrev main_cst_13 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_cst_14 : Ref sig .tc := ⟨.hbm, 186, rfl⟩
abbrev main_v128 : Ref sig .tc := ⟨.hbm, 187, rfl⟩
abbrev main_v129 : Ref sig .tc := ⟨.hbm, 188, rfl⟩
abbrev main_cst_15 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_call4_v0 : Ref sig .tc := ⟨.hbm, 199, rfl⟩
abbrev main_call4_cst : Ref sig .tc := ⟨.hbm, 200, rfl⟩
abbrev main_call4_v1 : Ref sig .tc := ⟨.hbm, 201, rfl⟩
abbrev main_call4_v2 : Ref sig .tc := ⟨.hbm, 202, rfl⟩
abbrev main_v139 : Ref sig .tc := ⟨.hbm, 203, rfl⟩
abbrev main_cst_16 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_cst_17 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_cst_18 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_cst_19 : Ref sig .tc := ⟨.hbm, 237, rfl⟩
abbrev main_v170 : Ref sig .tc := ⟨.hbm, 238, rfl⟩
abbrev main_v171 : Ref sig .tc := ⟨.hbm, 239, rfl⟩
abbrev main_cst_20 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_cst_21 : Ref sig .tc := ⟨.hbm, 249, rfl⟩
abbrev main_v180 : Ref sig .tc := ⟨.hbm, 250, rfl⟩
abbrev main_v181 : Ref sig .tc := ⟨.hbm, 251, rfl⟩
abbrev main_cst_22 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩

abbrev nD : Nat := 1
abbrev τ : Topo := Topo.v7x

variable {F : FTy → Type} [FloatOps F]
-- ==== Mod.lean ====
abbrev S8x1024 : Shape := ⟨2, ![8, 1024]⟩
abbrev S1x1024x6144 : Shape := ⟨3, ![1, 1024, 6144]⟩
abbrev S1x6144 : Shape := ⟨2, ![1, 6144]⟩
abbrev S1x1x6144 : Shape := ⟨3, ![1, 1, 6144]⟩
abbrev S8x6144 : Shape := ⟨2, ![8, 6144]⟩
abbrev S1x1024x1024 : Shape := ⟨3, ![1, 1024, 1024]⟩
abbrev S1x1x1024 : Shape := ⟨3, ![1, 1, 1024]⟩
abbrev S1024x1024 : Shape := ⟨2, ![1024, 1024]⟩
abbrev S16x1024 : Shape := ⟨2, ![16, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1x1024x6144, .f32⟩
  | .hbm, ⟨2, _⟩ => ⟨S1x6144, .f32⟩
  | .hbm, ⟨3, _⟩ => ⟨S1x1x6144, .f32⟩
  | .hbm, ⟨4, _⟩ => ⟨S8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModRefIdeal.lean ====
abbrev S8x1024 : Shape := ⟨2, ![8, 1024]⟩
abbrev S1x1024x6144 : Shape := ⟨3, ![1, 1024, 6144]⟩
abbrev S1x6144 : Shape := ⟨2, ![1, 6144]⟩
abbrev S_ : Shape := ⟨0, ![]⟩
abbrev S1024x6144 : Shape := ⟨2, ![1024, 6144]⟩
abbrev S8x6144 : Shape := ⟨2, ![8, 6144]⟩
abbrev S6144 : Shape := ⟨1, ![6144]⟩

abbrev nBuf : Space → Nat
  | .hbm => 18
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1x1024x6144, .f32⟩
  | .hbm, ⟨2, _⟩ => ⟨S1x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1024x6144, .f32⟩
  | .hbm, ⟨13, _⟩ => ⟨S8x6144, .f32⟩
  | .hbm, ⟨14, _⟩ => ⟨S6144, .f32⟩
  | .hbm, ⟨15, _⟩ => ⟨S1x6144, .f32⟩
  | .hbm, ⟨16, _⟩ => ⟨S8x6144, .f32⟩
  | .hbm, ⟨17, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Wprep.lean ====
abbrev S1x1024x4768 : Shape := ⟨3, ![1, 1024, 4768]⟩
abbrev S1024x4768 : Shape := ⟨2, ![1024, 4768]⟩
abbrev S4768x1024 : Shape := ⟨2, ![4768, 1024]⟩
abbrev S1024x4864 : Shape := ⟨2, ![1024, 4864]⟩
abbrev S256x1024 : Shape := ⟨2, ![256, 1024]⟩
abbrev S1024x256 : Shape := ⟨2, ![1024, 256]⟩

abbrev nBuf : Space → Nat
  | .hbm => 4
  | .vmem => 4
  | .smem => 0
  | _ => 0

abbrev bufTy : (tb : Table) → Fin (tcTables nBuf tb) → BufTy
  | .hbm, ⟨0, _⟩ => ⟨S1x1024x4768, .f32⟩
  | .hbm, ⟨1, _⟩ => ⟨S1024x4768, .f32⟩
  | .hbm, ⟨2, _⟩ => ⟨S4768x1024, .f32⟩
  | .hbm, ⟨3, _⟩ => ⟨S1024x4864, .bf16⟩
  | .local _ .vmem, ⟨0, _⟩ => ⟨S256x1024, .f32⟩
  | .local _ .vmem, ⟨1, _⟩ => ⟨S256x1024, .f32⟩
  | .local _ .vmem, ⟨2, _⟩ => ⟨S1024x256, .bf16⟩
  | .local _ .vmem, ⟨3, _⟩ => ⟨S1024x256, .bf16⟩
  | _, _ => ⟨S1x1024x4768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c8_i32 : BitVec 32 := 8#32
  let v0 : BitVec 32 := Scalar.muli arg0 c8_i32
  let c10_i32 : BitVec 32 := 10#32
  let v1 : BitVec 1 := Scalar.cmpi .sle arg0 c10_i32
  let c0_i32 : BitVec 32 := 0#32
  let c3_i32 : BitVec 32 := 3#32
  let v2 : BitVec 32 := Scalar.select v1 c0_i32 c3_i32
  let v3 : BitVec 32 := Scalar.subi v0 v2
  let c32_i32 : BitVec 32 := 32#32
  let v4 : BitVec 32 := Scalar.muli v3 c32_i32
  let c0_i32_0 : BitVec 32 := 0#32
  let c0_i32_1 : BitVec 32 := 0#32
  ![v4.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== WprepRefIdeal.lean ====
abbrev S1x1024x4768 : Shape := ⟨3, ![1, 1024, 4768]⟩
abbrev S1024x4768 : Shape := ⟨2, ![1024, 4768]⟩
abbrev S1024x2720 : Shape := ⟨2, ![1024, 2720]⟩
abbrev S_ : Shape := ⟨0, ![]⟩
abbrev S1024x96 : Shape := ⟨2, ![1024, 96]⟩
abbrev S1024x2048 : Shape := ⟨2, ![1024, 2048]⟩
abbrev S1024x4864 : Shape := ⟨2, ![1024, 4864]⟩

abbrev nBuf : Space → Nat
  | .hbm => 8
  | .vmem => 0
  | .smem => 0
  | _ => 0

abbrev bufTy : (tb : Table) → Fin (tcTables nBuf tb) → BufTy
  | .hbm, ⟨0, _⟩ => ⟨S1x1024x4768, .f32⟩
  | .hbm, ⟨1, _⟩ => ⟨S1024x4768, .f32⟩
  | .hbm, ⟨2, _⟩ => ⟨S1024x2720, .f32⟩
  | .hbm, ⟨3, _⟩ => ⟨S_, .f32⟩
  | .hbm, ⟨4, _⟩ => ⟨S1024x96, .f32⟩
  | .hbm, ⟨5, _⟩ => ⟨S1024x2048, .f32⟩
  | .hbm, ⟨6, _⟩ => ⟨S1024x4864, .f32⟩
  | .hbm, ⟨7, _⟩ => ⟨S1024x4864, .bf16⟩
  | _, _ => ⟨S1x1024x4768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Proof.PostStage.lean ====
/- Layer norm, the gated merge and the channel mixer of the Post kernel, read at one row. -/
module

public import proofs.«01_k».proof.Defs
public import proofs.«01_k».proof.Proof.Gen.PostIdeal.Frame
public import Idealize.ShloMosaic.Lib.Pipeline.ValueKit

@[expose] public section

set_option maxRecDepth 16384

noncomputable section

namespace Cert.Proof.PostStage

open Idealize.ShloMosaic Idealize.ShloMosaic.TcCoe Idealize.SL.Sem
open Cert.PostIdeal Cert.PostIdeal.Gen

/-- Layer norm of a row, at lane `d`, with the gain and the offset of that lane. -/
def lnRow (z : Fin 1024 → EReal) (g b : EReal) (d : Fin 1024) : EReal :=
  (z d - Ideal.div (∑ x, z x) (Ideal.ofBits .f32 0x44800000#32)) *
      Ideal.rsqrt (Ideal.div (∑ x, (z x - Ideal.div (∑ y, z y) (Ideal.ofBits .f32 0x44800000#32))
          * (z x - Ideal.div (∑ y, z y) (Ideal.ofBits .f32 0x44800000#32))) (Ideal.ofBits .f32 0x44800000#32)
        + Ideal.ofBits .f32 0x3727C5AC#32) * g + b

theorem pay10_apply (v1 : FVec Ideal S1x1024 .f32) (v52 : FVec Ideal S256x1024 .bf16) (v53 : FVec Ideal S1024x1024 .bf16) (v56 : FVec Ideal S1x1024 .f32) (v60 : FVec Ideal S1x256x1024 .f32) (v67 : FVec Ideal S1x1024 .f32) (v69 : FVec Ideal S1x1024 .f32) (r : Fin 256) (d : Fin 1024) :
    k0_pay10 v1 v52 v53 v56 v60 v67 v69 (ix2 r d) = lnRow (fun k => Ideal.ofBits .f32 0x3F9837F0#32 * v60 (ix3 0 r k) + v1 (ix2 0 k) * (∑ j, v52 (ix2 r j) * v53 (ix2 j k) + v56 (ix2 0 k))) (v67 (ix2 0 d)) (v69 (ix2 0 d)) d := by
  unfold lnRow
  pointwise [k0_pay10]

theorem pay6_apply (x : Vec Ideal S1x4x512x128 .bf16) (v18 : Vec Ideal S1x256x512 .bf16) (r : Fin 256) (k : Fin 512) :
   k0_pay6 (View.ld x r0_4) (View.ld x r0_5) (View.ld x r0_6) (View.ld x r0_7) v18 (ix2 r k) = x (ix4 0 ⟨k.val / 128, by omega⟩ ⟨r.val, by omega⟩ ⟨k.val % 128, by omega⟩) * v18 (ix3 0 r k) := by
  pointwise [k0_pay6]
  blk_point []
theorem pay6_apply' (x : Vec Ideal S1x4x512x128 .bf16) (v18 : Vec Ideal S1x256x512 .bf16) (r : Fin 256) (k : Fin 512) :
   k0_pay6 (View.ld x r0_10) (View.ld x r0_11) (View.ld x r0_12) (View.ld x r0_13) v18 (ix2 r k) = x (ix4 0 ⟨k.val / 128, by omega⟩ ⟨256 + r.val, by omega⟩ ⟨k.val % 128, by omega⟩) * v18 (ix3 0 r k) := by
  pointwise [k0_pay6]
  blk_point []
theorem pay8_apply (v8 v10 v12 v14 : Vec Ideal S1x1x256x128 .bf16) (v18 : Vec Ideal S1x256x512 .bf16) (v41 : Vec Ideal S512x1024 .bf16) (r : Fin 256) (d : Fin 1024) :
   k0_pay8 v8 v10 v12 v14 v18 v41 (ix2 r d) = ∑ k, k0_pay6 v8 v10 v12 v14 v18 (ix2 r k) * v41 (ix2 k d) := by
  pointwise [k0_pay8, k0_pay6]
theorem pay9_apply (v22 : FVec Ideal S256x512 .bf16) (v24 : FVec Ideal S512x1024 .bf16) (v44 v47 : Vec Ideal S1x256x1024 .bf16)  (r : Fin 256) (k : Fin 1024) :
   k0_pay9 v22 v24 v44 v47 (ix2 r k) = v44 (ix3 0 r k) + v47 (ix3 0 r k) * ∑ x, v22 (ix2 r x) * v24 (ix2 x k) := by
  pointwise [k0_pay9]

/-- The channel mixer's product at lane `d`, before its bias: the squared ReLU of the hidden row against the column. -/
def ffRow (h : Fin 1024 → EReal) (w1 : Fin 1024 → Fin 4096 → EReal) (b1 : Fin 4096 → EReal) (w2 : Fin 4096 → Fin 1024 → EReal) (d : Fin 1024) : EReal :=
  ∑ x, max (∑ y, h y * w1 y x + b1 x) 0 * max (∑ y, h y * w1 y x + b1 x) 0 * w2 x d

theorem pay17_apply (v3 v5 : FVec Ideal S1x1024 .f32) (v90 : FVec Ideal S256x1024 .f32) (v145 : FVec Ideal S1024x4096 .bf16) (v148 : FVec Ideal S1x4096 .f32) (v172 : FVec Ideal S4096x1024 .bf16)  (r : Fin 256) (k : Fin 1024) :
   k0_pay17 v3 v5 v90 v145 v148 v172 (ix2 r k) = ffRow (fun y => v90 (ix2 r y) * (1 + v5 (ix2 0 y)) + v3 (ix2 0 y)) (fun y x => v145 (ix2 y x)) (fun x => v148 (ix2 0 x)) (fun x d => v172 (ix2 x d)) k := by
  unfold ffRow
  pointwise [k0_pay17]

theorem pay18_apply (v7 : FVec Ideal S1x1024 .f32) (v90 v174 : FVec Ideal S256x1024 .f32) (v175 v184 v186 : FVec Ideal S1x1024 .f32) (r : Fin 256) (d : Fin 1024) :
   k0_pay18 v7 v90 v174 v175 v184 v186 (ix3 0 r d) = lnRow (fun k => Ideal.ofBits .f32 0x3F9837F0#32 * v90 (ix2 r k) + v7 (ix2 0 k) * (v174 (ix2 r k) + v175 (ix2 0 k))) (v184 (ix2 0 d)) (v186 (ix2 0 d)) d := by
  unfold lnRow
  pointwise [k0_pay18]

theorem pay1_apply (v7 : FVec Ideal S1x1024 .f32) (v90 v174 : FVec Ideal S256x1024 .f32) (v175 v184 v186 : FVec Ideal S1x1024 .f32) (r : Fin 256) (d : Fin 1024) :
   k0_pay1 v7 v90 v174 v175 v184 v186 (ix3 0 r d) = lnRow (fun k => Ideal.ofBits .f32 0x3F9837F0#32 * v90 (ix2 r k) + v7 (ix2 0 k) * (v174 (ix2 r k) + v175 (ix2 0 k))) (v184 (ix2 0 d)) (v186 (ix2 0 d)) d := by
  unfold lnRow
  pointwise [k0_pay1]

theorem pay15_apply (v1 : FVec Ideal S1x1024 .f32) (v43 v93 : FVec Ideal S256x1024 .f32) (v94 : Vec Ideal S1x256x1024 .bf16) (v100 : Vec Ideal S1024x1024 .bf16) (v103 : Vec Ideal S1x1024 .f32) (v107 : Vec Ideal S1x256x1024 .f32) (g b : FVec Ideal S1x1024 .f32) (r : Fin 256) (d : Fin 1024) :
   k0_pay15 g b (k0_pay14 v1 v43 v93 v94 v100 v103 v107) (ix2 r d) = lnRow (fun k => Ideal.ofBits .f32 0x3F9837F0#32 * v107 (ix3 0 r k) + v1 (ix2 0 k) * (∑ j, (v93 (ix2 r j) + v94 (ix3 0 r j) * v43 (ix2 r j)) * v100 (ix2 j k) + v103 (ix2 0 k))) (g (ix2 0 d)) (b (ix2 0 d)) d := by
  unfold lnRow
  pointwise [k0_pay14, k0_pay15]

theorem pay19_apply (v3 v5 v115 v117 : FVec Ideal S1x1024 .f32) (v133 : FVec Ideal S256x1024 .f32) (v161 : Vec Ideal S1024x4096 .bf16) (v164 : Vec Ideal S1x4096 .f32) (v213 : Vec Ideal S4096x1024 .bf16)  (r : Fin 256) (k : Fin 1024) :
   k0_pay19 (k0_pay16 v3 v5 v115 v117 v133 v161 v164) v213 (ix2 r k) = ffRow (fun y => k0_pay15 v115 v117 v133 (ix2 r y) * (1 + v5 (ix2 0 y)) + v3 (ix2 0 y)) (fun y x => v161 (ix2 y x)) (fun x => v164 (ix2 0 x)) (fun x d => v213 (ix2 x d)) k := by
  unfold ffRow
  pointwise [k0_pay19, k0_pay16, k0_pay15]

/-- The token-mixing sub-layer's result at one token: the gated merge of the branches, the output projection, the
    residual and the first layer norm. -/
def midRow (x gt ma gb : Fin 1024 → EReal) (br : Fin 512 → EReal) (wb : Fin 512 → Fin 1024 → EReal)
    (wo : Fin 1024 → Fin 1024 → EReal) (bo g b : Fin 1024 → EReal) (d : Fin 1024) : EReal :=
  lnRow (fun k => Ideal.ofBits .f32 0x3F9837F0#32 * x k
    + gt k * (∑ j, (ma j + gb j * ∑ i, br i * wb i j) * wo j k + bo k)) (g d) (b d) d

/-- The channel-mixing sub-layer's result at one token. -/
def outRow (h gt sh sc : Fin 1024 → EReal) (w1 : Fin 1024 → Fin 4096 → EReal) (b1 : Fin 4096 → EReal)
    (w2 : Fin 4096 → Fin 1024 → EReal) (b2 g b : Fin 1024 → EReal) (d : Fin 1024) : EReal :=
  lnRow (fun k => Ideal.ofBits .f32 0x3F9837F0#32 * h k
    + gt k * (ffRow (fun y => h y * (1 + sc y) + sh y) w1 b1 w2 k + b2 k)) (g d) (b d) d

section
variable (x0 : Vec Ideal S1x512x1024 .f32) (x1 : Vec Ideal S1x6x1024 .f32) (x2 : Vec Ideal S1x4x512x128 .bf16) (x3 : Vec Ideal S1x512x512 .bf16) (x4 : Vec Ideal S1x512x1024 .bf16) (x5 : Vec Ideal S1x512x1024 .bf16) (x6 : Vec Ideal S512x1024 .bf16) (x7 : Vec Ideal S1024x1024 .bf16) (x8 : Vec Ideal S1x1024 .f32) (x9 : Vec Ideal S1x1024 .f32) (x10 : Vec Ideal S1x1024 .f32) (x11 : Vec Ideal S1024x4096 .bf16) (x12 : Vec Ideal S1x4096 .f32) (x13 : Vec Ideal S4096x1024 .bf16) (x14 : Vec Ideal S1x1024 .f32) (x15 : Vec Ideal S1x1024 .f32) (x16 : Vec Ideal S1x1024 .f32)

/-- Row `r` of a block after the token-mixing sub-layer. -/
def midBlk (r : Fin 512) (d : Fin 1024) : EReal :=
  midRow (fun k => x0 (ix3 0 r k)) (fun k => x1 (ix3 0 2 k)) (fun k => x5 (ix3 0 r k)) (fun k => x4 (ix3 0 r k))
    (fun k => x2 (ix4 0 ⟨k.val / 128, by omega⟩ r ⟨k.val % 128, by omega⟩) * x3 (ix3 0 r k)) (fun i j => x6 (ix2 i j))
    (fun i j => x7 (ix2 i j)) (fun k => x8 (ix2 0 k)) (fun k => x9 (ix2 0 k)) (fun k => x10 (ix2 0 k)) d

/-- Row `r` of the block the body stores. -/
def outBlk (r : Fin 512) (d : Fin 1024) : EReal :=
  outRow (midBlk x0 x1 x2 x3 x4 x5 x6 x7 x8 x9 x10 r) (fun k => x1 (ix3 0 5 k)) (fun k => x1 (ix3 0 3 k)) (fun k => x1 (ix3 0 4 k))
    (fun i j => x11 (ix2 i j)) (fun k => x12 (ix2 0 k)) (fun i j => x13 (ix2 i j)) (fun k => x14 (ix2 0 k)) (fun k => x15 (ix2 0 k)) (fun k => x16 (ix2 0 k)) d

theorem mid_first (r : Fin 256) (d : Fin 1024) :
    k0_pay24 x0 x1 x2 x3 x4 x5 x6 x7 x8 x9 x10 x11 x12 x13 x14 x15 x16 (ix2 r d) = midBlk x0 x1 x2 x3 x4 x5 x6 x7 x8 x9 x10 ⟨r.val, by omega⟩ d := by
  unfold k0_pay24 midBlk midRow
  rw [pay10_apply]
  simp only [pay9_apply, pay6_apply]
  pointwise [k0_pay20, k0_pay7, k0_pay2]

theorem mid_second (r : Fin 256) (d : Fin 1024) :
    k0_pay15 (k0_pay25 x0 x1 x2 x3 x4 x5 x6 x7 x8 x9 x10 x11 x12 x13 x14 x15 x16) (k0_pay26 x0 x1 x2 x3 x4 x5 x6 x7 x8 x9 x10 x11 x12 x13 x14 x15 x16) (k0_pay27 x0 x1 x2 x3 x4 x5 x6 x7 x8 x9 x10 x11 x12 x13 x14 x15 x16) (ix2 r d) = midBlk x0 x1 x2 x3 x4 x5 x6 x7 x8 x9 x10 ⟨256 + r.val, by omega⟩ d := by
  unfold k0_pay27 midBlk midRow
  rw [pay15_apply]
  simp only [pay8_apply, pay6_apply']
  pointwise [k0_pay20, k0_pay2, k0_pay25, k0_pay26, k0_pay12, k0_pay13, k0_pay11]

/-- The block the body stores, row by row. -/
theorem out_row (r : Fin 512) (d : Fin 1024) :
    out0_17 x0 x1 x2 x3 x4 x5 x6 x7 x8 x9 x10 x11 x12 x13 x14 x15 x16 (ix3 0 r d) = outBlk x0 x1 x2 x3 x4 x5 x6 x7 x8 x9 x10 x11 x12 x13 x14 x15 x16 r d := by
  unfold out0_17
  canon_tiles x h
  case piece0 =>
    have h1' : r.val = 256 + (x 1).val := h1
    have h2' : d.val = (x 2).val := h2
    obtain ⟨q, hq⟩ : ∃ q : Fin 256, q.val = (x 1).val := ⟨⟨(x 1).val, x1_lt⟩, rfl⟩
    have hx : x = ix3 0 q d := by blk_ext
    have hr : r = ⟨256 + q.val, by omega⟩ := Fin.ext (by show r.val = 256 + q.val; omega)
    rw [hx, hr, pay1_apply]
    unfold outBlk outRow
    simp only [pay19_apply, mid_second]
    pointwise [k0_pay21, k0_pay22, k0_pay23, k0_pay3, k0_pay4, k0_pay5]
  case piece1 =>
    have h1' : r.val = (x 1).val := h1
    have h2' : d.val = (x 2).val := h2
    obtain ⟨q, hq⟩ : ∃ q : Fin 256, q.val = (x 1).val := ⟨⟨(x 1).val, x1_lt⟩, rfl⟩
    have hx : x = ix3 0 q d := by blk_ext
    have hr : r = ⟨q.val, by omega⟩ := Fin.ext (by show r.val = q.val; omega)
    rw [hx, hr, pay18_apply]
    unfold outBlk outRow
    simp only [pay17_apply, mid_first]
    pointwise [k0_pay21, k0_pay22, k0_pay23, k0_pay3, k0_pay4, k0_pay5]

end
end Cert.Proof.PostStage

end
-- ==== Proof.PostRef.lean ====
/- The reference of the Post kernel, read at one token. -/
module

public import proofs.«01_k».proof.Proof.Gen.PostRefIdeal.Read
public import proofs.«01_k».proof.Proof.PostStage

@[expose] public section

set_option maxRecDepth 16384

noncomputable section

namespace Cert.Proof.PostRef

open Idealize.ShloMosaic Idealize.ShloMosaic.TcCoe Idealize.SL.Sem
open Cert.PostRefIdeal Cert.PostRefIdeal.Gen Cert.PostRefIdeal.Read
open Cert.Proof.PostStage (lnRow ffRow midRow outRow)

variable (X0 : FVec Ideal S8x4096x1024 .f32) (X1 : FVec Ideal S8x6144 .f32) (X2 X3 : FVec Ideal S8x4096x512 .bf16) (X4 X5 : FVec Ideal S8x4096x1024 .bf16)
  (X6 : FVec Ideal S1x512x1024 .f32) (X7 : FVec Ideal S1x1024x1024 .f32) (X8 X9 X10 : FVec Ideal S1x1024 .f32) (X11 : FVec Ideal S1x1024x4096 .f32)
  (X12 : FVec Ideal S1x4096 .f32) (X13 : FVec Ideal S1x4096x1024 .f32) (X14 X15 X16 : FVec Ideal S1x1024 .f32)

/-- The residual sum before the first layer norm. -/
theorem v31_at (b : Fin 8) (s : Fin 4096) (k : Fin 1024) :
    val_main_v31 (F := Ideal) X0 X1 X2 X3 X4 X5 X6 X7 X8 (ix3 b s k) = Ideal.ofBits .f32 0x3F9837F0#32 * X0 (ix3 b s k)
      + X1 (ix2 b ⟨2048 + k.val, by omega⟩) * (∑ j, (X5 (ix3 b s j) + X4 (ix3 b s j) * ∑ i, X2 (ix3 b s i) * X3 (ix3 b s i) * X6 (ix3 0 i j)) * X7 (ix3 0 j k) + X8 (ix2 0 k)) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_cst, val_main_v27, val_main_v28, val_main_v29, val_main_v30, val_main_v31]

/-- The first layer norm's result at one token. -/
theorem v57_at (b : Fin 8) (s : Fin 4096) (d : Fin 1024) :
    val_main_v57 (F := Ideal) X0 X1 X2 X3 X4 X5 X6 X7 X8 X9 X10 (ix3 b s d) = midRow (fun k => X0 (ix3 b s k)) (fun k => X1 (ix2 b ⟨2048 + k.val, by omega⟩))
      (fun k => X5 (ix3 b s k)) (fun k => X4 (ix3 b s k)) (fun k => X2 (ix3 b s k) * X3 (ix3 b s k)) (fun i j => X6 (ix3 0 i j))
      (fun i j => X7 (ix3 0 i j)) (fun k => X8 (ix2 0 k)) (fun k => X9 (ix2 0 k)) (fun k => X10 (ix2 0 k)) d := by
  unfold midRow lnRow
  simp only [← v31_at X0 X1 X2 X3 X4 X5 X6 X7 X8]
  generalize hz : val_main_v31 (F := Ideal) X0 X1 X2 X3 X4 X5 X6 X7 X8 = z
  pointwise [val_main_v32, val_main_v33, val_main_cst_0, val_main_v34, val_main_v35, val_main_cst_1, val_main_v36, val_main_v37, val_main_v38, val_main_v39, val_main_v40, val_main_cst_2, val_main_v41, val_main_v42, val_main_cst_3, val_main_v43, val_main_v44, val_main_v45, val_main_v46, val_main_cst_4, val_main_v47, val_main_v48, val_main_v49, val_main_v50, val_main_v51, val_main_v52, val_main_v53, val_main_v54, val_main_v55, val_main_v56, val_main_v57, hz]

/-- The channel mixer's product, before its bias. -/
theorem v73_at (b : Fin 8) (s : Fin 4096) (d : Fin 1024) :
    val_main_v73 (F := Ideal) X0 X1 X2 X3 X4 X5 X6 X7 X8 X9 X10 X11 X12 X13 (ix3 b s d) = ffRow (fun y => val_main_v57 (F := Ideal) X0 X1 X2 X3 X4 X5 X6 X7 X8 X9 X10 (ix3 b s y) * (1 + X1 (ix2 b ⟨4096 + y.val, by omega⟩)) + X1 (ix2 b ⟨3072 + y.val, by omega⟩))
      (fun i j => X11 (ix3 0 i j)) (fun k => X12 (ix2 0 k)) (fun i j => X13 (ix3 0 i j)) d := by
  unfold ffRow
  pointwise [val_main_cst_5, val_main_v58, val_main_v59, val_main_v60, val_main_v61, val_main_v62, val_main_v63, val_main_v64, val_main_v65, val_main_v66, val_main_v67, val_main_v68, val_main_v69, val_main_call0_cst, val_main_call0_v0, val_main_v70, val_main_v71, val_main_v72, val_main_v73, val_main_v8, val_main_v2, val_main_v9, val_main_v3, val_main_v10, val_main_v4, val_main_v11, val_main_v5]

/-- The residual sum before the second layer norm. -/
theorem v82_at (b : Fin 8) (s : Fin 4096) (k : Fin 1024) :
    val_main_v82 (F := Ideal) X0 X1 X2 X3 X4 X5 X6 X7 X8 X9 X10 X11 X12 X13 X14 (ix3 b s k) = Ideal.ofBits .f32 0x3F9837F0#32 * val_main_v57 (F := Ideal) X0 X1 X2 X3 X4 X5 X6 X7 X8 X9 X10 (ix3 b s k)
      + X1 (ix2 b ⟨5120 + k.val, by omega⟩) * (val_main_v73 (F := Ideal) X0 X1 X2 X3 X4 X5 X6 X7 X8 X9 X10 X11 X12 X13 (ix3 b s k) + X14 (ix2 0 k)) := by
  pointwise [val_main_v74, val_main_v75, val_main_v76, val_main_v77, val_main_cst_6, val_main_v78, val_main_v79, val_main_v80, val_main_v81, val_main_v82, val_main_v8, val_main_v2, val_main_v9, val_main_v3, val_main_v10, val_main_v4, val_main_v11, val_main_v5]

/-- The reference's result at one token. -/
theorem result_at (b : Fin 8) (s : Fin 4096) (d : Fin 1024) :
    val_main_v108 (F := Ideal) X0 X1 X2 X3 X4 X5 X6 X7 X8 X9 X10 X11 X12 X13 X14 X15 X16 (ix3 b s d) = outRow (midRow (fun k => X0 (ix3 b s k)) (fun k => X1 (ix2 b ⟨2048 + k.val, by omega⟩))
      (fun k => X5 (ix3 b s k)) (fun k => X4 (ix3 b s k)) (fun k => X2 (ix3 b s k) * X3 (ix3 b s k)) (fun i j => X6 (ix3 0 i j))
      (fun i j => X7 (ix3 0 i j)) (fun k => X8 (ix2 0 k)) (fun k => X9 (ix2 0 k)) (fun k => X10 (ix2 0 k)))
      (fun k => X1 (ix2 b ⟨5120 + k.val, by omega⟩)) (fun k => X1 (ix2 b ⟨3072 + k.val, by omega⟩)) (fun k => X1 (ix2 b ⟨4096 + k.val, by omega⟩))
      (fun i j => X11 (ix3 0 i j)) (fun k => X12 (ix2 0 k)) (fun i j => X13 (ix3 0 i j)) (fun k => X14 (ix2 0 k)) (fun k => X15 (ix2 0 k)) (fun k => X16 (ix2 0 k)) d := by
  have hm := v57_at X0 X1 X2 X3 X4 X5 X6 X7 X8 X9 X10 b s
  unfold outRow
  simp only [← hm]
  unfold lnRow
  simp only [← v73_at X0 X1 X2 X3 X4 X5 X6 X7 X8 X9 X10 X11 X12 X13, ← v82_at X0 X1 X2 X3 X4 X5 X6 X7 X8 X9 X10 X11 X12 X13 X14]
  generalize hz : val_main_v82 (F := Ideal) X0 X1 X2 X3 X4 X5 X6 X7 X8 X9 X10 X11 X12 X13 X14 = z
  pointwise [val_main_v83, val_main_v84, val_main_cst_7, val_main_v85, val_main_v86, val_main_cst_8, val_main_v87, val_main_v88, val_main_v89, val_main_v90, val_main_v91, val_main_cst_9, val_main_v92, val_main_v93, val_main_cst_10, val_main_v94, val_main_v95, val_main_v96, val_main_v97, val_main_cst_11, val_main_v98, val_main_v99, val_main_v100, val_main_v101, val_main_v102, val_main_v103, val_main_v104, val_main_v105, val_main_v106, val_main_v107, val_main_v108, hz]

end Cert.Proof.PostRef

end
-- ==== Proof.PostFinal.lean ====
/- The result array of the Post kernel after its run is the reference's. -/
module

public import proofs.«01_k».proof.Proof.Gen.PostIdeal.Frame
public import proofs.«01_k».proof.Proof.Gen.PostIdeal.Value
public import proofs.«01_k».proof.Proof.PostStage
public import proofs.«01_k».proof.Proof.PostRef
public import Idealize.ShloMosaic.Lib.Pipeline.ValueKit

@[expose] public section

set_option maxRecDepth 16384

noncomputable section

namespace Cert.Proof.PostFinal

open Idealize.ShloMosaic Idealize.ShloMosaic.TcCoe Idealize.SL.Sem
open Idealize.ShloMosaic.Pipeline (Dat)
open Cert.PostIdeal Cert.PostIdeal.Gen

variable (m : (ℓ : Loc nD τ sig) → Buf (Elt Ideal) ℓ)

/-- The block index of every window at every grid point. -/
theorem idx : ∀ t : Fin cfg0.N, (t.val < 64) ∧ win0_0.index t = ![t.val / 8, t.val % 8, 0] ∧ win0_1.index t = ![t.val / 8, 0, 0]
    ∧ win0_2.index t = ![t.val / 8, 0, t.val % 8, 0] ∧ win0_3.index t = ![t.val / 8, t.val % 8, 0] ∧ win0_4.index t = ![t.val / 8, t.val % 8, 0]
    ∧ win0_5.index t = ![t.val / 8, t.val % 8, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] ∧ win0_13.index t = ![0, 0]
    ∧ win0_14.index t = ![0, 0] ∧ win0_15.index t = ![0, 0] ∧ win0_16.index t = ![0, 0] ∧ win0_17.index t = ![t.val / 8, t.val % 8, 0] :=
  (by decide +kernel : ∀ t : Fin grid0.N, _)

/-- The batch row of a grid point. -/
theorem lt8 (t : Fin cfg0.N) : t.val / 8 < 8 := by
  have := (idx t).1
  omega

/-- The token of row `r` of a grid point's block. -/
theorem ltS (t : Fin cfg0.N) (r : Fin 512) : t.val % 8 * 512 + r.val < 4096 := by omega

theorem idx0 : ∀ t : Fin cfg0.N, win0_0.index t = ![t.val / 8, t.val % 8, 0] := (by decide +kernel : ∀ t : Fin grid0.N, _)
theorem idx1 : ∀ t : Fin cfg0.N, win0_1.index t = ![t.val / 8, 0, 0] := (by decide +kernel : ∀ t : Fin grid0.N, _)
theorem idx2 : ∀ t : Fin cfg0.N, win0_2.index t = ![t.val / 8, 0, t.val % 8, 0] := (by decide +kernel : ∀ t : Fin grid0.N, _)
theorem idx3 : ∀ t : Fin cfg0.N, win0_3.index t = ![t.val / 8, t.val % 8, 0] := (by decide +kernel : ∀ t : Fin grid0.N, _)
theorem idx4 : ∀ t : Fin cfg0.N, win0_4.index t = ![t.val / 8, t.val % 8, 0] := (by decide +kernel : ∀ t : Fin grid0.N, _)
theorem idx5 : ∀ t : Fin cfg0.N, win0_5.index t = ![t.val / 8, t.val % 8, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![0, 0] := (by decide +kernel : ∀ t : Fin grid0.N, _)
theorem idx16 : ∀ t : Fin cfg0.N, win0_16.index t = ![0, 0] := (by decide +kernel : ∀ t : Fin grid0.N, _)

theorem rd0 (c : Dev nD) (t : Fin cfg0.N) (r : Fin 512) (k : Fin 1024) : iblk m c 0 t (ix3 0 r k) = m ((c : Thread nD τ).loc main_arg0) (ix3 ⟨t.val / 8, lt8 t⟩ ⟨t.val % 8 * 512 + r.val, ltS t r⟩ k) := by
  have h := idx0 t
  blk_point [iblk, V, h]

theorem rd1_2 (c : Dev nD) (t : Fin cfg0.N) (k : Fin 1024) : iblk m c 1 t (ix3 0 2 k) = m ((c : Thread nD τ).loc main_arg1) (ix2 ⟨t.val / 8, lt8 t⟩ ⟨2048 + k.val, by omega⟩) := by
  have h := idx1 t
  blk_point [iblk, V, h]

theorem rd1_3 (c : Dev nD) (t : Fin cfg0.N) (k : Fin 1024) : iblk m c 1 t (ix3 0 3 k) = m ((c : Thread nD τ).loc main_arg1) (ix2 ⟨t.val / 8, lt8 t⟩ ⟨3072 + k.val, by omega⟩) := by
  have h := idx1 t
  blk_point [iblk, V, h]

theorem rd1_4 (c : Dev nD) (t : Fin cfg0.N) (k : Fin 1024) : iblk m c 1 t (ix3 0 4 k) = m ((c : Thread nD τ).loc main_arg1) (ix2 ⟨t.val / 8, lt8 t⟩ ⟨4096 + k.val, by omega⟩) := by
  have h := idx1 t
  blk_point [iblk, V, h]

theorem rd1_5 (c : Dev nD) (t : Fin cfg0.N) (k : Fin 1024) : iblk m c 1 t (ix3 0 5 k) = m ((c : Thread nD τ).loc main_arg1) (ix2 ⟨t.val / 8, lt8 t⟩ ⟨5120 + k.val, by omega⟩) := by
  have h := idx1 t
  blk_point [iblk, V, h]

theorem rd2' (c : Dev nD) (t : Fin cfg0.N) (r : Fin 512) (h : Fin 4) (e : Fin 128) : iblk m c 2 t (ix4 0 h r e) = V m c main_v23 (ix4 ⟨t.val / 8, lt8 t⟩ h ⟨t.val % 8 * 512 + r.val, ltS t r⟩ e) := by
  have h := idx2 t
  blk_ext [iblk, h]

theorem rdv (c : Dev nD) (b : Fin 8) (s : Fin 4096) (h : Fin 4) (e : Fin 128) : V m c main_v23 (ix4 b h s e) = m ((c : Thread nD τ).loc main_arg2) (ix3 b s ⟨h.val * 128 + e.val, by omega⟩) := by
  entry_read
  pointwise

theorem rd2 (c : Dev nD) (t : Fin cfg0.N) (r : Fin 512) (k : Fin 512) : iblk m c 2 t (ix4 0 ⟨k.val / 128, by omega⟩ r ⟨k.val % 128, by omega⟩) = m ((c : Thread nD τ).loc main_arg2) (ix3 ⟨t.val / 8, lt8 t⟩ ⟨t.val % 8 * 512 + r.val, ltS t r⟩ k) := by
  refine (rd2' m c t r _ _).trans ((rdv m c _ _ _ _).trans ?_)
  have hk : (⟨k.val / 128 * 128 + k.val % 128, by omega⟩ : Fin 512) = k := Fin.ext (by simp only; omega)
  exact congrArg (fun q => m ((c : Thread nD τ).loc main_arg2) (ix3 ⟨t.val / 8, lt8 t⟩ ⟨t.val % 8 * 512 + r.val, ltS t r⟩ q)) hk

theorem rd3 (c : Dev nD) (t : Fin cfg0.N) (r : Fin 512) (k : Fin 512) : iblk m c 3 t (ix3 0 r k) = m ((c : Thread nD τ).loc main_arg3) (ix3 ⟨t.val / 8, lt8 t⟩ ⟨t.val % 8 * 512 + r.val, ltS t r⟩ k) := by
  have h := idx3 t
  blk_point [iblk, V, h]

theorem rd4 (c : Dev nD) (t : Fin cfg0.N) (r : Fin 512) (k : Fin 1024) : iblk m c 4 t (ix3 0 r k) = m ((c : Thread nD τ).loc main_arg4) (ix3 ⟨t.val / 8, lt8 t⟩ ⟨t.val % 8 * 512 + r.val, ltS t r⟩ k) := by
  have h := idx4 t
  blk_point [iblk, V, h]

theorem rd5 (c : Dev nD) (t : Fin cfg0.N) (r : Fin 512) (k : Fin 1024) : iblk m c 5 t (ix3 0 r k) = m ((c : Thread nD τ).loc main_arg5) (ix3 ⟨t.val / 8, lt8 t⟩ ⟨t.val % 8 * 512 + r.val, ltS t r⟩ k) := by
  have h := idx5 t
  blk_point [iblk, V, h]

theorem rd6 (c : Dev nD) (t : Fin cfg0.N) (i : Fin 512) (j : Fin 1024) : iblk m c 6 t (ix2 i j) = m ((c : Thread nD τ).loc main_arg6) (ix3 0 i j) := by
  have h := idx6 t
  blk_point [iblk, V, h]

theorem rd7 (c : Dev nD) (t : Fin cfg0.N) (i : Fin 1024) (j : Fin 1024) : iblk m c 7 t (ix2 i j) = m ((c : Thread nD τ).loc main_arg7) (ix3 0 i j) := by
  have h := idx7 t
  blk_point [iblk, V, h]

theorem rd11 (c : Dev nD) (t : Fin cfg0.N) (i : Fin 1024) (j : Fin 4096) : iblk m c 11 t (ix2 i j) = m ((c : Thread nD τ).loc main_arg11) (ix3 0 i j) := by
  have h := idx11 t
  blk_point [iblk, V, h]

theorem rd13 (c : Dev nD) (t : Fin cfg0.N) (i : Fin 4096) (j : Fin 1024) : iblk m c 13 t (ix2 i j) = m ((c : Thread nD τ).loc main_arg13) (ix3 0 i j) := by
  have h := idx13 t
  blk_point [iblk, V, h]

theorem rd8 (c : Dev nD) (t : Fin cfg0.N) (k : Fin 1024) : iblk m c 8 t (ix2 0 k) = m ((c : Thread nD τ).loc main_arg8) (ix2 0 k) := by
  have h := idx8 t
  blk_point [iblk, V, h]

theorem rd9 (c : Dev nD) (t : Fin cfg0.N) (k : Fin 1024) : iblk m c 9 t (ix2 0 k) = m ((c : Thread nD τ).loc main_arg9) (ix2 0 k) := by
  have h := idx9 t
  blk_point [iblk, V, h]

theorem rd10 (c : Dev nD) (t : Fin cfg0.N) (k : Fin 1024) : iblk m c 10 t (ix2 0 k) = m ((c : Thread nD τ).loc main_arg10) (ix2 0 k) := by
  have h := idx10 t
  blk_point [iblk, V, h]

theorem rd12 (c : Dev nD) (t : Fin cfg0.N) (k : Fin 4096) : iblk m c 12 t (ix2 0 k) = m ((c : Thread nD τ).loc main_arg12) (ix2 0 k) := by
  have h := idx12 t
  blk_point [iblk, V, h]

theorem rd14 (c : Dev nD) (t : Fin cfg0.N) (k : Fin 1024) : iblk m c 14 t (ix2 0 k) = m ((c : Thread nD τ).loc main_arg14) (ix2 0 k) := by
  have h := idx14 t
  blk_point [iblk, V, h]

theorem rd15 (c : Dev nD) (t : Fin cfg0.N) (k : Fin 1024) : iblk m c 15 t (ix2 0 k) = m ((c : Thread nD τ).loc main_arg15) (ix2 0 k) := by
  have h := idx15 t
  blk_point [iblk, V, h]

theorem rd16 (c : Dev nD) (t : Fin cfg0.N) (k : Fin 1024) : iblk m c 16 t (ix2 0 k) = m ((c : Thread nD τ).loc main_arg16) (ix2 0 k) := by
  have h := idx16 t
  blk_point [iblk, V, h]

/-- What grid point `t` stores at `y` is the reference's result where `y` sits in the array. -/
theorem point (c : Dev nD) (t : Fin cfg0.N) (y : S1x512x1024.Idx) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y
    = Cert.PostRefIdeal.Read.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (((cfg0.win 17).blk t).view.emb y) := by
  obtain ⟨ht, hi⟩ := idx t
  have hy0 : (y 0).val < 1 := (y 0).isLt
  have hy1 : (y 1).val < 512 := (y 1).isLt
  have hy2 : (y 2).val < 1024 := (y 2).isLt
  obtain ⟨r, hr⟩ : ∃ r : Fin 512, r.val = (y 1).val := ⟨⟨_, hy1⟩, rfl⟩
  obtain ⟨d, hd⟩ : ∃ d : Fin 1024, d.val = (y 2).val := ⟨⟨_, hy2⟩, rfl⟩
  have hyy : y = ix3 0 r d := by blk_ext
  have he : ((cfg0.win 17).blk t).view.emb y = ix3 (⟨t.val / 8, by omega⟩ : Fin 8) (⟨t.val % 8 * 512 + r.val, by omega⟩ : Fin 4096) d := by
    blk_ext [hi]
  refine Eq.trans ?_ ((Cert.Proof.PostRef.result_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) ⟨t.val / 8, by omega⟩ ⟨t.val % 8 * 512 + r.val, by omega⟩ d).symm.trans (congrArg _ he.symm))
  refine (congrArg (out0_17 _ _ _ _ _ _ _ _ _ _ _ _ _ _ _ _ _) hyy).trans ?_
  refine (Cert.Proof.PostStage.out_row _ _ _ _ _ _ _ _ _ _ _ _ _ _ _ _ _ r d).trans ?_
  unfold Cert.Proof.PostStage.outBlk Cert.Proof.PostStage.midBlk
  simp only [rd0 m, rd1_2 m, rd1_3 m, rd1_4 m, rd1_5 m, rd2 m, rd3 m, rd4 m, rd5 m, rd6 m, rd7 m, rd11 m, rd13 m, rd8 m, rd9 m, rd10 m, rd12 m, rd14 m, rd15 m, rd16 m]

/-- The result array after the run. -/
theorem final (c : Dev nD) : (dats m 0 c).arrAt 17 (cfgs 0).N
    = Cert.PostRefIdeal.Read.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (dats m 0 c).arrAt_eq_of_covers 17 _ (by decide +kernel) fun t _ y => ?_
  blk_simp
  rw [after0_17]
  exact point m c t y

end Cert.Proof.PostFinal

end
-- ==== Proof.IpRead.lean ====
/- What each window of the input projection kernel holds at a grid point, in terms of the program's arguments. -/
module

public import proofs.«01_k».proof.Proof.Gen.InprojIdeal.Frame
public import proofs.«01_k».proof.Proof.Gen.InprojIdeal.Value
public import Idealize.ShloMosaic.Lib.Pipeline.ValueKit

@[expose] public section

set_option maxRecDepth 16384

noncomputable section

namespace Cert.Proof.IpRead

open Idealize.ShloMosaic Idealize.ShloMosaic.TcCoe Idealize.SL.Sem
open Cert.InprojIdeal Cert.InprojIdeal.Gen

variable (m : (ℓ : Loc nD τ sig) → Buf (Elt Ideal) ℓ)

/-- The batch row of a grid point. -/
theorem lt8 (t : Fin cfg0.N) : t.val / 8 < 8 := by
  have : ∀ t : Fin cfg0.N, t.val < 64 := (by decide +kernel : ∀ t : Fin grid0.N, _)
  have := this t
  omega
/-- The token of row `r` of a grid point's block. -/
theorem ltS (t : Fin cfg0.N) (r : Fin 512) : t.val % 8 * 512 + r.val < 4096 := by omega

theorem idx0 : ∀ t : Fin cfg0.N, win0_0.index t = ![t.val / 8, t.val % 8, 0] := (by decide +kernel : ∀ t : Fin grid0.N, _)
theorem idx1 : ∀ t : Fin cfg0.N, win0_1.index t = ![t.val / 8, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![0, 0] := (by decide +kernel : ∀ t : Fin grid0.N, _)
theorem rd0 (c : Dev nD) (t : Fin cfg0.N) (r : Fin 512) (k : Fin 1024) : iblk m c 0 t (ix3 0 r k) = m ((c : Thread nD τ).loc main_arg0) (ix3 ⟨t.val / 8, lt8 t⟩ ⟨t.val % 8 * 512 + r.val, ltS t r⟩ k) := by
  have h := idx0 t
  blk_point [iblk, V, h]
theorem rd1' (c : Dev nD) (t : Fin cfg0.N) (i : Fin 6) (k : Fin 1024) : iblk m c 1 t (ix3 0 i k) = V m c main_v57 (ix3 ⟨t.val / 8, lt8 t⟩ i k) := by
  have h := idx1 t
  blk_ext [iblk, h]
theorem v57_at (c : Dev nD) (b : Fin 8) (i : Fin 6) (k : Fin 1024) : V m c main_v57 (ix3 b i k) = m ((c : Thread nD τ).loc main_arg1) (ix2 b ⟨i.val * 1024 + k.val, by omega⟩) := by
  unfold V
  simp only [List.flatten_cons, List.flatten_nil, List.cons_append, List.nil_append, List.append_nil]
  entry_read
  pointwise
theorem rd2 (c : Dev nD) (t : Fin cfg0.N) (i : Fin 1024) (j : Fin 4864) : iblk m c 2 t (ix2 i j) = m ((c : Thread nD τ).loc main_arg2) (ix2 i j) := by
  have h := idx2 t
  blk_point [iblk, V, h]
theorem rd3' (c : Dev nD) (t : Fin cfg0.N) (j : Fin 4864) : iblk m c 3 t (ix2 0 j) = V m c main_v40 (ix2 0 j) := by
  have h := idx3 t
  blk_ext [iblk, h]
theorem cat_lo (A : FVec Ideal S1x4768 .f32) (j : Fin 2720) : (concatenate S4864 0 [⟨S2720, (extractStridedSlice S2720 ![0] (shapeCast S4768 (A) shapeCasts_S1x4768_S4768) slices_S4768_S2720_0 : FVec Ideal S2720 .f32)⟩, ⟨S96, (broadcastInDim S96 ![] bcast_S_S96 (constant S_ .f32 0x00000000#32) : FVec Ideal S96 .f32)⟩, ⟨S2048, (extractStridedSlice S2048 ![2720] (shapeCast S4768 (A) shapeCasts_S1x4768_S4768) slices_S4768_S2048_2720 : FVec Ideal S2048 .f32)⟩] concatenates_S2720_S96_S2048_S4864_d0 : FVec Ideal S4864 .f32) (ix1 ⟨j.val, by omega⟩) = A (ix2 0 ⟨j.val, by omega⟩) := by
  pointwise
theorem cat_hi (A : FVec Ideal S1x4768 .f32) (j : Fin 2048) : (concatenate S4864 0 [⟨S2720, (extractStridedSlice S2720 ![0] (shapeCast S4768 (A) shapeCasts_S1x4768_S4768) slices_S4768_S2720_0 : FVec Ideal S2720 .f32)⟩, ⟨S96, (broadcastInDim S96 ![] bcast_S_S96 (constant S_ .f32 0x00000000#32) : FVec Ideal S96 .f32)⟩, ⟨S2048, (extractStridedSlice S2048 ![2720] (shapeCast S4768 (A) shapeCasts_S1x4768_S4768) slices_S4768_S2048_2720 : FVec Ideal S2048 .f32)⟩] concatenates_S2720_S96_S2048_S4864_d0 : FVec Ideal S4864 .f32) (ix1 ⟨2816 + j.val, by omega⟩) = A (ix2 0 ⟨2720 + j.val, by omega⟩) := by
  pointwise
  rw [dif_neg (by omega), dif_neg (by omega)]
  exact congrArg (fun k => A (ix2 0 k)) (Fin.ext (by show 2720 + (2816 + j.val - 2720 - 96) = 2720 + j.val; omega))
set_option maxHeartbeats 2000000 in
theorem v40_eq (c : Dev nD) (j : Fin 4864) : V m c main_v40 (ix2 0 j) = concatenate S4864 0 [⟨S2720, (extractStridedSlice S2720 ![0] (shapeCast S4768 (m (c, main_arg3)) shapeCasts_S1x4768_S4768) slices_S4768_S2720_0 : FVec Ideal S2720 .f32)⟩, ⟨S96, (broadcastInDim S96 ![] bcast_S_S96 (constant S_ .f32 0x00000000#32) : FVec Ideal S96 .f32)⟩, ⟨S2048, (extractStridedSlice S2048 ![2720] (shapeCast S4768 (m (c, main_arg3)) shapeCasts_S1x4768_S4768) slices_S4768_S2048_2720 : FVec Ideal S2048 .f32)⟩] concatenates_S2720_S96_S2048_S4864_d0 (ix1 j) := by
  unfold V
  simp only [List.flatten_cons, List.flatten_nil, List.cons_append, List.nil_append, List.append_nil]
  try unfold hostOps0
  iterate 6 rw [StableHlo.after_cons]
  generalize hσ : HloOp.result _ _ = σ
  have hv : σ main_v4 = concatenate S4864 0 [⟨S2720, (extractStridedSlice S2720 ![0] (shapeCast S4768 (m (c, main_arg3)) shapeCasts_S1x4768_S4768) slices_S4768_S2720_0 : FVec Ideal S2720 .f32)⟩, ⟨S96, (broadcastInDim S96 ![] bcast_S_S96 (constant S_ .f32 0x00000000#32) : FVec Ideal S96 .f32)⟩, ⟨S2048, (extractStridedSlice S2048 ![2720] (shapeCast S4768 (m (c, main_arg3)) shapeCasts_S1x4768_S4768) slices_S4768_S2048_2720 : FVec Ideal S2048 .f32)⟩] concatenates_S2720_S96_S2048_S4864_d0 := by
    rw [← hσ, StableHlo.nary_result]
    rfl
  clear hσ
  entry_read
  rw [hv]
  generalize (concatenate S4864 0 _ _ : FVec Ideal S4864 .f32) = Y
  pointwise
theorem v40_lo (c : Dev nD) (j : Fin 2720) : V m c main_v40 (ix2 0 ⟨j.val, by omega⟩) = m ((c : Thread nD τ).loc main_arg3) (ix2 0 ⟨j.val, by omega⟩) := by
  exact (v40_eq m c _).trans (cat_lo _ j)
theorem v40_hi (c : Dev nD) (j : Fin 2048) : V m c main_v40 (ix2 0 ⟨2816 + j.val, by omega⟩) = m ((c : Thread nD τ).loc main_arg3) (ix2 0 ⟨2720 + j.val, by omega⟩) := by
  exact (v40_eq m c _).trans (cat_hi _ j)
theorem rd4' (c : Dev nD) (t : Fin cfg0.N) (j : Fin 512) : iblk m c 4 t (ix2 0 j) = V m c main_v42 (ix2 0 j) := by
  have h := idx4 t
  blk_ext [iblk, h]
theorem v42_at (c : Dev nD) (j : Fin 512) : V m c main_v42 (ix2 0 j) = m ((c : Thread nD τ).loc main_arg4) (ix2 0 j) := by
  unfold V
  simp only [List.flatten_cons, List.flatten_nil, List.cons_append, List.nil_append, List.append_nil]
  entry_read
  pointwise
theorem rd5' (c : Dev nD) (t : Fin cfg0.N) (j : Fin 512) : iblk m c 5 t (ix2 0 j) = V m c main_v44 (ix2 0 j) := by
  have h := idx5 t
  blk_ext [iblk, h]
theorem v44_at (c : Dev nD) (j : Fin 512) : V m c main_v44 (ix2 0 j) = m ((c : Thread nD τ).loc main_arg5) (ix2 0 j) := by
  unfold V
  simp only [List.flatten_cons, List.flatten_nil, List.cons_append, List.nil_append, List.append_nil]
  entry_read
  pointwise
theorem rd9' (c : Dev nD) (t : Fin cfg0.N) (j : Fin 512) : iblk m c 9 t (ix2 0 j) = V m c main_v47 (ix2 0 j) := by
  have h := idx9 t
  blk_ext [iblk, h]
theorem v47_at (c : Dev nD) (j : Fin 512) : V m c main_v47 (ix2 0 j) = m ((c : Thread nD τ).loc main_arg9) (ix2 0 j) := by
  unfold V
  simp only [List.flatten_cons, List.flatten_nil, List.cons_append, List.nil_append, List.append_nil]
  entry_read
  pointwise
theorem rd10' (c : Dev nD) (t : Fin cfg0.N) (j : Fin 512) : iblk m c 10 t (ix2 0 j) = V m c main_v49 (ix2 0 j) := by
  have h := idx10 t
  blk_ext [iblk, h]
theorem v49_at (c : Dev nD) (j : Fin 512) : V m c main_v49 (ix2 0 j) = m ((c : Thread nD τ).loc main_arg11) (ix2 0 j) := by
  unfold V
  simp only [List.flatten_cons, List.flatten_nil, List.cons_append, List.nil_append, List.append_nil]
  entry_read
  pointwise
theorem rd12' (c : Dev nD) (t : Fin cfg0.N) (j : Fin 512) : iblk m c 12 t (ix2 0 j) = V m c main_v52 (ix2 0 j) := by
  have h := idx12 t
  blk_ext [iblk, h]
theorem v52_at (c : Dev nD) (j : Fin 512) : V m c main_v52 (ix2 0 j) = m ((c : Thread nD τ).loc main_arg14) (ix2 0 j) := by
  unfold V
  simp only [List.flatten_cons, List.flatten_nil, List.cons_append, List.nil_append, List.append_nil]
  entry_read
  pointwise
theorem rd13' (c : Dev nD) (t : Fin cfg0.N) (j : Fin 512) : iblk m c 13 t (ix2 0 j) = V m c main_v54 (ix2 0 j) := by
  have h := idx13 t
  blk_ext [iblk, h]
theorem v54_at (c : Dev nD) (j : Fin 512) : V m c main_v54 (ix2 0 j) = m ((c : Thread nD τ).loc main_arg15) (ix2 0 j) := by
  unfold V
  simp only [List.flatten_cons, List.flatten_nil, List.cons_append, List.nil_append, List.append_nil]
  entry_read
  pointwise
theorem rd6' (c : Dev nD) (t : Fin cfg0.N) (q : Fin 4) (t' : Fin 128) (s : Fin 256) : iblk m c 6 t (ix3 q t' s) = V m c main_v27 (ix3 q t' s) := by
  have h := idx6 t
  blk_ext [iblk, h]
theorem v27_at (c : Dev nD) (q : Fin 4) (t' : Fin 128) (s : Fin 256) : V m c main_v27 (ix3 q t' s) = m ((c : Thread nD τ).loc main_arg6) (ix4 0 ⟨q.val * 2 + s.val / 128, by omega⟩ t' ⟨s.val % 128, by omega⟩) := by
  unfold V
  simp only [List.flatten_cons, List.flatten_nil, List.cons_append, List.nil_append, List.append_nil]
  entry_read
  pointwise
theorem rd7' (c : Dev nD) (t : Fin cfg0.N) (r : Fin 128) (e : Fin 512) : iblk m c 7 t (ix2 r e) = V m c main_v31 (ix2 r e) := by
  have h := idx7 t
  blk_ext [iblk, h]
theorem v31_at (c : Dev nD) (r : Fin 128) (e : Fin 512) : V m c main_v31 (ix2 r e) = m ((c : Thread nD τ).loc main_arg7) (ix3 0 ⟨e.val / 64, by omega⟩ r) := by
  unfold V
  simp only [List.flatten_cons, List.flatten_nil, List.cons_append, List.nil_append, List.append_nil]
  entry_read
  pointwise
theorem rd8' (c : Dev nD) (t : Fin cfg0.N) (j : Fin 1792) : iblk m c 8 t (ix2 0 j) = V m c main_v45 (ix2 0 j) := by
  have h := idx8 t
  blk_ext [iblk, h]
theorem v45_at (c : Dev nD) (j : Fin 1696) : V m c main_v45 (ix2 0 ⟨j.val, by omega⟩) = m ((c : Thread nD τ).loc main_arg8) (ix2 0 j) := by
  unfold V
  simp only [List.flatten_cons, List.flatten_nil, List.cons_append, List.nil_append, List.append_nil]
  entry_read
  pointwise
set_option maxRecDepth 100000 in
theorem rd11' (c : Dev nD) (t : Fin cfg0.N) (i : Fin 256) (j : Fin 1536) : iblk m c 11 t (ix2 i j) = V m c main_v50 (ix2 i j) := by
  have h : win0_11.index t = ![0, 0] := (by decide +kernel : ∀ t : Fin grid0.N, win0_11.index t = ![0, 0]) t
  unfold iblk
  refine congrArg (V m c main_v50) ?_
  blk_ext [h]
theorem rd14' (c : Dev nD) (t : Fin cfg0.N) (i j : Fin 512) : iblk m c 14 t (ix2 i j) = V m c main_v39 (ix2 i j) := by
  have h := idx14 t
  blk_ext [iblk, h]
theorem rd15' (c : Dev nD) (t : Fin cfg0.N) (i : Fin 512) (j : Fin 1024) : iblk m c 15 t (ix2 i j) = V m c main_v56 (ix2 i j) := by
  have h := idx15 t
  blk_ext [iblk, h]
theorem v56_at (c : Dev nD) (i : Fin 512) (j : Fin 1024) : V m c main_v56 (ix2 i j) = m ((c : Thread nD τ).loc main_arg16) (ix3 0 i j) := by
  unfold V
  simp only [List.flatten_cons, List.flatten_nil, List.cons_append, List.nil_append, List.append_nil]
  entry_read
  pointwise

end Cert.Proof.IpRead

end
-- ==== Proof.IpHost.lean ====
/- What each window of the input projection kernel holds at a grid point, in terms of the program's arguments. -/
module

public import proofs.«01_k».proof.Proof.Gen.InprojIdeal.Frame
public import proofs.«01_k».proof.Proof.Gen.InprojIdeal.Value
public import Idealize.ShloMosaic.Lib.Pipeline.ValueKit
public import Idealize.ShloMosaic.Lib.Routing.OpsSet

@[expose] public section

set_option maxRecDepth 16384

noncomputable section

namespace Cert.Proof.IpHost

open Idealize.ShloMosaic Idealize.ShloMosaic.TcCoe Idealize.SL.Sem
open Cert.InprojIdeal Cert.InprojIdeal.Gen

variable (m : (ℓ : Loc nD τ sig) → Buf (Elt Ideal) ℓ)

/-- Where an update of a two-dimensional window lands. -/
theorem lands {n : Nat} (d : ScatterDims S256x1536 S2 ⟨2, ![n, 512]⟩) (hu : d.updateWindowDims = [0, 1]) (hi : d.insertedWindowDims = [])
    (hs : d.scatterDimsToOperandDims = [0, 1]) (hv : d.indexVectorDim = 0) (idx : IVec S2 32) (o1 o2 : Nat) (h1 : (idx (ix1 0)).toInt = o1) (h2 : (idx (ix1 1)).toInt = o2)
    (p : Fin n) (q : Fin 512) (a : Fin 256) (b : Fin 1536) : d.resultIdx? (ix2 p q) idx = some (ix2 a b) ↔ a.val = o1 + p.val ∧ b.val = o2 + q.val := by
  obtain ⟨u, i, s, v, wf⟩ := d
  simp only at hu hi hs hv
  subst hu hi hs hv
  have h0 : ∀ a : Fin 2, a ∈ ([0, 1] : List (Fin 2)) := by decide
  have hk : ∀ a : Fin 2, a ∈ (ScatterDims.mk [0, 1] [] [0, 1] 0 wf : ScatterDims S256x1536 S2 ⟨2, ![n, 512]⟩).sKept := by
    intro a
    have e : (ScatterDims.mk [0, 1] [] [0, 1] 0 wf : ScatterDims S256x1536 S2 ⟨2, ![n, 512]⟩).sKept = [(0 : Fin 2), (1 : Fin 2)] := rfl
    rw [e]
    revert a
    decide
  generalize hd : (ScatterDims.mk [0, 1] [] [0, 1] 0 wf : ScatterDims S256x1536 S2 ⟨2, ![n, 512]⟩) = d
  have s0 : d.start (ix2 p q) idx 0 = o1 := by
    rw [← h1, ← hd]; unfold ScatterDims.start; rw [dif_pos (h0 _)]
    exact congrArg (fun z => (idx z).toInt) (funext fun b => match b with | ⟨0, _⟩ => rfl)
  have s1 : d.start (ix2 p q) idx 1 = o2 := by
    rw [← h2, ← hd]; unfold ScatterDims.start; rw [dif_pos (h0 _)]
    exact congrArg (fun z => (idx z).toInt) (funext fun b => match b with | ⟨0, _⟩ => rfl)
  have w0 : d.window (ix2 p q) 0 = p.val := by
    rw [← hd]; unfold ScatterDims.window; rw [dif_pos (hk 0)]; rfl
  have w1 : d.window (ix2 p q) 1 = q.val := by
    rw [← hd]; unfold ScatterDims.window; rw [dif_pos (hk 1)]; rfl
  unfold ScatterDims.resultIdx?
  constructor
  · intro h
    split at h
    · rename_i hb
      have h' := Option.some.inj h
      have e0 := congrArg Fin.val (congrFun h' 0)
      have e1 := congrArg Fin.val (congrFun h' 1)
      simp only [s0, s1, w0, w1] at e0 e1
      constructor
      · have : ((o1 : Int) + (p.val : Int)).toNat = a.val := e0
        omega
      · have : ((o2 : Int) + (q.val : Int)).toNat = b.val := e1
        omega
    · exact absurd h nofun
  · rintro ⟨ha, hb⟩
    have hlt := a.isLt
    have hlt' := b.isLt
    rw [dif_pos]
    · refine congrArg some (funext fun x => ?_)
      match x with
      | ⟨0, _⟩ => exact Fin.ext (by show (d.start (ix2 p q) idx 0 + d.window (ix2 p q) 0).toNat = a.val; rw [s0, w0]; omega)
      | ⟨1, _⟩ => exact Fin.ext (by show (d.start (ix2 p q) idx 1 + d.window (ix2 p q) 1).toNat = b.val; rw [s1, w1]; omega)
    · intro x
      match x with
      | ⟨0, _⟩ => show 0 ≤ d.start (ix2 p q) idx 0 + d.window (ix2 p q) 0 ∧ d.start (ix2 p q) idx 0 + d.window (ix2 p q) 0 < (256 : Nat); rw [s0, w0]; omega
      | ⟨1, _⟩ => show 0 ≤ d.start (ix2 p q) idx 1 + d.window (ix2 p q) 1 ∧ d.start (ix2 p q) idx 1 + d.window (ix2 p q) 1 < (1536 : Nat); rw [s1, w1]; omega

/-- A window written into an array, read at an entry. -/
theorem setAt {n : Nat} (d : ScatterDims S256x1536 S2 ⟨2, ![n, 512]⟩) (hu : d.updateWindowDims = [0, 1]) (hi : d.insertedWindowDims = [])
    (hs : d.scatterDimsToOperandDims = [0, 1]) (hv : d.indexVectorDim = 0) (x : S256x1536.Idx → EReal) (idx : IVec S2 32) (upd : (⟨2, ![n, 512]⟩ : Shape).Idx → EReal) (o1 o2 : Nat)
    (h1 : (idx (ix1 0)).toInt = o1) (h2 : (idx (ix1 1)).toInt = o2) (a : Fin 256) (b : Fin 1536) :
    Host.scatter d (fun _ b => b) x idx upd (ix2 a b) = if h : (o1 ≤ a.val ∧ a.val < o1 + n) ∧ o2 ≤ b.val ∧ b.val < o2 + 512 then upd (ix2 ⟨a.val - o1, by omega⟩ ⟨b.val - o2, by omega⟩) else x (ix2 a b) := by
  have L := lands d hu hi hs hv idx o1 o2 h1 h2
  split
  · rename_i h
    refine Routing.scatter_set_hit d x idx upd (ix2 a b) _ (fun k hk => ?_) (ix2 ⟨a.val - o1, by omega⟩ ⟨b.val - o2, by omega⟩) ((L _ _ _ _).2 ⟨by show a.val = o1 + (a.val - o1); omega, by show b.val = o2 + (b.val - o2); omega⟩)
    obtain ⟨k0, k1, rfl⟩ : ∃ k0 k1, k = ix2 k0 k1 := ⟨k 0, k 1, funext fun x => match x with | ⟨0, _⟩ => rfl | ⟨1, _⟩ => rfl⟩
    obtain ⟨e0, e1⟩ := (L _ _ _ _).1 hk
    refine congrArg upd (funext fun x => ?_)
    match x with
    | ⟨0, _⟩ => exact Fin.ext (by show k0.val = a.val - o1; omega)
    | ⟨1, _⟩ => exact Fin.ext (by show k1.val = b.val - o2; omega)
  · rename_i h
    refine Routing.scatter_set_miss d x idx upd (ix2 a b) fun k hk => h ?_
    obtain ⟨k0, k1, rfl⟩ : ∃ k0 k1, k = ix2 k0 k1 := ⟨k 0, k 1, funext fun x => match x with | ⟨0, _⟩ => rfl | ⟨1, _⟩ => rfl⟩
    obtain ⟨e0, e1⟩ := (L _ _ _ _).1 hk
    have := k0.isLt
    have := k1.isLt
    omega

/-- Two lanes of one head. -/
theorem same_head (w : S512.Idx → BitVec 32) (h : ∀ i : Fin 512, w (ix1 i) = BitVec.ofNat 32 (i.val / 64)) (i j : Fin 512) :
    FloatOps.uitofp (F := Ideal) FTy.bf16 (IntOp.cmpi CmpIPredicate.eq (w (ix1 i)) (w (ix1 j))) = (if i.val / 64 = j.val / 64 then 1 else 0 : EReal) := by
  rw [h, h]
  have e : ∀ a b : Fin 8, IntOp.cmpi CmpIPredicate.eq (BitVec.ofNat 32 a.val) (BitVec.ofNat 32 b.val) = if a.val = b.val then 1#1 else 0#1 := by decide +kernel
  rw [e ⟨i.val / 64, by omega⟩ ⟨j.val / 64, by omega⟩]
  by_cases hij : i.val / 64 = j.val / 64
  · rw [if_pos hij, if_pos hij]
    simp [FloatOps.uitofp, FloatOps.uitofp]
  · rw [if_neg hij, if_neg hij]
    simp [FloatOps.uitofp, FloatOps.uitofp]

theorem v39_at (c : Dev nD) (i j : Fin 512) : V m c main_v39 (ix2 i j) = (if i.val / 64 = j.val / 64 then 1 else 0 : EReal) := by
  unfold V
  simp only [List.flatten_cons, List.flatten_nil, List.cons_append, List.nil_append, List.append_nil]
  entry_read
  simp only [StableHlo.TRef.ofBuf_toBuf]
  pointwise
  refine same_head _ ?_ i j
  decide +kernel
theorem v50_at (c : Dev nD) (i : Fin 256) (j : Fin 1536) : V m c main_v50 (ix2 i j) =
    (if h : (64 ≤ i.val ∧ i.val < 64 + 96) ∧ 1024 ≤ j.val ∧ j.val < 1024 + 512 then m ((c : Thread nD τ).loc main_arg13) (ix3 0 ⟨i.val - 64, by omega⟩ ⟨j.val - 1024, by omega⟩)
    else if h : (32 ≤ i.val ∧ i.val < 32 + 32) ∧ 512 ≤ j.val ∧ j.val < 512 + 512 then m ((c : Thread nD τ).loc main_arg12) (ix3 0 ⟨i.val - 32, by omega⟩ ⟨j.val - 512, by omega⟩)
    else if h : (0 ≤ i.val ∧ i.val < 0 + 32) ∧ 0 ≤ j.val ∧ j.val < 0 + 512 then m ((c : Thread nD τ).loc main_arg10) (ix3 0 ⟨i.val - 0, by omega⟩ ⟨j.val - 0, by omega⟩) else 0 : EReal) := by
  unfold V
  simp only [List.flatten_cons, List.flatten_nil, List.cons_append, List.nil_append, List.append_nil]
  entry_read
  pointwise
  refine (setAt scatter_S256x1536_S2_S96x512_01_n_01_0 rfl rfl rfl rfl _ _ _ 64 1024 (by decide +kernel) (by decide +kernel) i j).trans ?_
  split
  · (pointwise; repeat' split) <;> first | rfl | (exfalso; omega)
  · refine (setAt scatter_S256x1536_S2_S32x512_01_n_01_0 rfl rfl rfl rfl _ _ _ 32 512 (by decide +kernel) (by decide +kernel) i j).trans ?_
    split
    · (pointwise; repeat' split) <;> first | rfl | (exfalso; omega)
    · refine (setAt scatter_S256x1536_S2_S32x512_01_n_01_0 rfl rfl rfl rfl _ _ _ 0 0 (by decide +kernel) (by decide +kernel) i j).trans ?_
      split
      · (pointwise; repeat' split) <;> first | rfl | (exfalso; omega)
      · (pointwise; repeat' split) <;> first | rfl | (exfalso; omega)

end Cert.Proof.IpHost
end
-- ==== Proof.IpSpec.lean ====
/- The scalar functions the input projection computes row by row. -/
module

public import Idealize.ShloMosaic.Lib.Pipeline.ValueKit

@[expose] public section

set_option maxRecDepth 16384

noncomputable section

namespace Cert.Proof.IpSpec

open Idealize.ShloMosaic

/-- The logistic function as the kernel spells it. -/
def sg (x : EReal) : EReal := Ideal.div 1 (1 + Ideal.exp (0 - x))

/-- Layer norm of a row of 512, at lane `d`, before its gain and offset. -/
def ln0 (z : Fin 512 → EReal) (d : Fin 512) : EReal :=
  (z d - Ideal.div (∑ x, z x) (Ideal.ofBits .f32 0x44000000#32)) *
      Ideal.rsqrt (Ideal.div (∑ x, (z x - Ideal.div (∑ y, z y) (Ideal.ofBits .f32 0x44000000#32))
          * (z x - Ideal.div (∑ y, z y) (Ideal.ofBits .f32 0x44000000#32))) (Ideal.ofBits .f32 0x44000000#32)
        + Ideal.ofBits .f32 0x3727C5AC#32)

/-- The activation of lane `j` of the 256 low-rank lanes. -/
def lact (j : Fin 256) (x : EReal) : EReal := if j.val < 32 then Ideal.tanh x else if j.val < 64 then x else sg x

/-- The causal mix of one chunk at row `t`, lane `e`: the lane's head reads its half of the pair's weights. -/
def spat (ws : Fin 4 → Fin 128 → Fin 256 → EReal) (V : Fin 128 → Fin 512 → EReal) (t : Fin 128) (e : Fin 512) : EReal :=
  ∑ s : Fin 128, (if s.val ≤ t.val then ws ⟨e.val / 128, by omega⟩ t ⟨e.val % 128 / 64 * 128 + s.val, by omega⟩ else 0) * V s e

end Cert.Proof.IpSpec

end
-- ==== Proof.IpStage.lean ====
/- The input projection kernel's stored values, layer by layer, read at one row. -/
module

public import proofs.«01_k».proof.Proof.Gen.InprojIdeal.Skeleton
public import proofs.«01_k».proof.Proof.IpSpec

@[expose] public section

set_option maxRecDepth 16384

noncomputable section

namespace Cert.Proof.IpStage

open Idealize.ShloMosaic Idealize.ShloMosaic.TcCoe Idealize.SL.Sem
open Cert.InprojIdeal Cert.InprojIdeal.Gen Cert.Proof.IpSpec

/-- The tanh form of the Gaussian error unit as the kernel spells it. -/
def kgelu (x : EReal) : EReal :=
  Ideal.ofBits .f32 0x3F000000#32 * x + Ideal.ofBits .f32 0x3F000000#32 * x *
    Ideal.tanh (x * (Ideal.ofBits .f32 0x3F4C422A#32 + Named.named (F := Ideal) κ "gelu_cubic" 0x3D122279#32 * (x * x)))

theorem h0 (v3 v5 : Vec Ideal S1x1x1024 .f32) (x : Vec Ideal S1x256x1024 .f32) (r : Fin 256) (k : Fin 1024) :
    k0_pay5 v3 v5 x (ix2 r k) = x (ix3 0 r k) * (1 + v5 (ix3 0 0 k)) + v3 (ix3 0 0 k) := by
  pointwise [k0_pay5, k0_pay3, k0_pay4]
theorem h1 (v3 v5 : Vec Ideal S1x1x1024 .f32) (x : Vec Ideal S1x256x1024 .f32) (r : Fin 256) (k : Fin 1024) :
    k0_pay6 v3 v5 x (ix2 r k) = x (ix3 0 r k) * (1 + v5 (ix3 0 0 k)) + v3 (ix3 0 0 k) := by
  pointwise [k0_pay6, k0_pay3, k0_pay4]
theorem zr0 (v3 v5 : Vec Ideal S1x1x1024 .f32) (x : Vec Ideal S1x256x1024 .f32) (w : Vec Ideal S1024x1792 .bf16) (b : Vec Ideal S1x1792 .f32) (r : Fin 256) (j : Fin 1792) :
    k0_pay7 v3 v5 x w b (ix2 r j) = ∑ k, k0_pay5 v3 v5 x (ix2 r k) * w (ix2 k j) + b (ix2 0 j) := by
  pointwise [k0_pay7]
theorem zr1 (v3 v5 : Vec Ideal S1x1x1024 .f32) (x : Vec Ideal S1x256x1024 .f32) (w : Vec Ideal S1024x1792 .bf16) (b : Vec Ideal S1x1792 .f32) (r : Fin 256) (j : Fin 1792) :
    k0_pay9 (k0_pay8 v3 v5 x w) b (ix2 r j) = ∑ k, k0_pay6 v3 v5 x (ix2 r k) * w (ix2 k j) + b (ix2 0 j) := by
  pointwise [k0_pay8, k0_pay9]
theorem zu0 (h : FVec Ideal S256x1024 .bf16) (w : Vec Ideal S1024x512 .bf16) (b : Vec Ideal S1x512 .f32) (r : Fin 256) (j : Fin 512) :
    k0_pay12 h w b (ix2 r j) = ∑ k, h (ix2 r k) * w (ix2 k j) + b (ix2 0 j) := by pointwise [k0_pay12]
theorem zu1 (h : FVec Ideal S256x1024 .bf16) (w : Vec Ideal S1024x512 .bf16) (b : Vec Ideal S1x512 .f32) (r : Fin 256) (j : Fin 512) :
    k0_pay13 h w b (ix2 r j) = ∑ k, h (ix2 r k) * w (ix2 k j) + b (ix2 0 j) := by pointwise [k0_pay13]
theorem zv0 (h : FVec Ideal S256x1024 .bf16) (w : Vec Ideal S1024x512 .bf16) (b : Vec Ideal S1x512 .f32) (r : Fin 256) (j : Fin 512) :
    k0_pay14 h w b (ix2 r j) = ∑ k, h (ix2 r k) * w (ix2 k j) + b (ix2 0 j) := by pointwise [k0_pay14]
theorem zv1 (h : FVec Ideal S256x1024 .bf16) (w : Vec Ideal S1024x512 .bf16) (b : Vec Ideal S1x512 .f32) (r : Fin 256) (j : Fin 512) :
    k0_pay17 (k0_pay15 h w) (k0_pay16 b) (ix2 r j) = ∑ k, h (ix2 r k) * w (ix2 k j) + b (ix2 0 j) := by pointwise [k0_pay17, k0_pay15, k0_pay16]
theorem zgb0 (h : FVec Ideal S256x1024 .bf16) (w : Vec Ideal S1024x1024 .bf16) (b : Vec Ideal S1x1024 .f32) (r : Fin 256) (j : Fin 1024) :
    k0_pay26 h w b (ix2 r j) = ∑ k, h (ix2 r k) * w (ix2 k j) + b (ix2 0 j) := by pointwise [k0_pay26]
theorem zgb1 (h : FVec Ideal S256x1024 .bf16) (w : Vec Ideal S1024x1024 .bf16) (b : Vec Ideal S1x1024 .f32) (r : Fin 256) (j : Fin 1024) :
    k0_pay27 h w b (ix2 r j) = ∑ k, h (ix2 r k) * w (ix2 k j) + b (ix2 0 j) := by pointwise [k0_pay27]
theorem zga0 (h : FVec Ideal S256x1024 .bf16) (w : Vec Ideal S1024x1024 .bf16) (b : Vec Ideal S1x1024 .f32) (r : Fin 256) (j : Fin 1024) :
    k0_pay104 h w b (ix2 r j) = ∑ k, h (ix2 r k) * w (ix2 k j) + b (ix2 0 j) := by pointwise [k0_pay104]
theorem zga1 (h : FVec Ideal S256x1024 .bf16) (w : Vec Ideal S1024x1024 .bf16) (b : Vec Ideal S1x1024 .f32) (r : Fin 256) (j : Fin 1024) :
    k0_pay105 h w b (ix2 r j) = ∑ k, h (ix2 r k) * w (ix2 k j) + b (ix2 0 j) := by pointwise [k0_pay105]
theorem z0 (zr p : Vec Ideal S256x1792 .f32) (mu : Vec Ideal S1x1792 .f32) (r : Fin 256) (j : Fin 1792) :
    k0_pay18 zr p mu (ix2 r j) = zr (ix2 r j) + (p (ix2 r j) - zr (ix2 r j)) * mu (ix2 0 j) := by pointwise [k0_pay18]
theorem z1 (zr p : Vec Ideal S256x1792 .f32) (mu : Vec Ideal S1x1792 .f32) (r : Fin 256) (j : Fin 1792) :
    k0_pay19 zr p mu (ix2 r j) = zr (ix2 r j) + (p (ix2 r j) - zr (ix2 r j)) * mu (ix2 0 j) := by pointwise [k0_pay19]
theorem lt32 : ∀ j : Fin 256, IntOp.cmpi CmpIPredicate.slt (BitVec.ofNat 32 j.val) 32#32 = if j.val < 32 then 1#1 else 0#1 := by decide +kernel
theorem lt64 : ∀ j : Fin 256, IntOp.cmpi CmpIPredicate.slt (BitVec.ofNat 32 j.val) 64#32 = if j.val < 64 then 1#1 else 0#1 := by decide +kernel
theorem sel {α : Type} (p : Prop) [Decidable p] (x y : α) : Scalar.select (if p then 1#1 else 0#1) x y = if p then x else y := by
  split <;> rfl
theorem lin0 (zr p : Vec Ideal S256x1792 .f32) (mu : Vec Ideal S1x1792 .f32) (r : Fin 256) (j : Fin 256) :
    k0_pay21 zr p mu (ix2 r j) = lact j (k0_pay18 zr p mu (ix2 r ⟨1536 + j.val, by omega⟩)) := by
  pointwise [k0_pay21]
  rw [lt32, lt64, sel, sel]
  rfl
theorem up0 (l : FVec Ideal S256x256 .bf16) (w : Vec Ideal S256x1536 .bf16) (r : Fin 256) (j : Fin 1536) :
    k0_pay28 l w (ix2 r j) = ∑ k, l (ix2 r k) * w (ix2 k j) := by pointwise [k0_pay28]
theorem up1 (zr p : Vec Ideal S256x1792 .f32) (mu : Vec Ideal S1x1792 .f32) (w : Vec Ideal S256x1536 .bf16) (r : Fin 256) (j : Fin 1536) :
    k0_pay29 (iota .tc S256x256 32 [1] iota_S256x256_d1_w32) (k0_pay22 zr p mu) k0_pay23 (k0_pay24 zr p mu) k0_pay25 w (ix2 r j) = ∑ k, lact k (k0_pay19 zr p mu (ix2 r ⟨1536 + k.val, by omega⟩)) * w (ix2 k j) := by
  pointwise [k0_pay29, k0_pay22, k0_pay23, k0_pay24, k0_pay25]
  refine Finset.sum_congr rfl fun x _ => ?_
  rw [lt32, lt64, sel, sel]
  rfl
theorem u0 (z : FVec Ideal S256x512 .f32) (r : Fin 256) (j : Fin 512) :
    k0_pay32 (k0_pay30 z) (k0_pay31 z) (ix2 r j) = kgelu (z (ix2 r j)) := by
  unfold kgelu; pointwise [k0_pay32, k0_pay30, k0_pay31]
theorem u1 (z : FVec Ideal S256x512 .f32) (r : Fin 256) (j : Fin 512) :
    k0_pay33 z (ix2 r j) = kgelu (z (ix2 r j)) := by
  unfold kgelu; pointwise [k0_pay33]
theorem v0 (z : FVec Ideal S256x512 .f32) (g b : Vec Ideal S1x512 .f32) (r : Fin 256) (j : Fin 512) :
    k0_pay37 (k0_pay34 b) (k0_pay35 z) (k0_pay36 g) (ix2 r j) = ln0 (fun e => kgelu (z (ix2 r e))) j * g (ix2 0 j) + b (ix2 0 j) := by
  unfold kgelu ln0; pointwise [k0_pay37, k0_pay34, k0_pay35, k0_pay36]
theorem v1 (z : FVec Ideal S256x512 .f32) (g b : Vec Ideal S1x512 .f32) (r : Fin 256) (j : Fin 512) :
    k0_pay38 z g b (ix2 r j) = ln0 (fun e => kgelu (z (ix2 r e))) j * g (ix2 0 j) + b (ix2 0 j) := by
  unfold kgelu ln0; pointwise [k0_pay38]
theorem rem128 : ∀ s : Fin 256, (Scalar.select
        (IntOp.andi
          (IntOp.xori
            (IntOp.cmpi CmpIPredicate.slt
              (IntOp.remsi ArithUnit.vector (BitVec.ofNat 32 s.val)
                (Scalar.select (Scalar.cmpi CmpIPredicate.eq 128#32 0#32) 1#32 128#32))
              0#32)
            (Scalar.cmpi CmpIPredicate.slt (Scalar.select (Scalar.cmpi CmpIPredicate.eq 128#32 0#32) 1#32 128#32) 0#32))
          (IntOp.cmpi CmpIPredicate.ne
            (IntOp.remsi ArithUnit.vector (BitVec.ofNat 32 s.val)
              (Scalar.select (Scalar.cmpi CmpIPredicate.eq 128#32 0#32) 1#32 128#32))
            0#32))
        (IntOp.addi
          (IntOp.remsi ArithUnit.vector (BitVec.ofNat 32 s.val)
            (Scalar.select (Scalar.cmpi CmpIPredicate.eq 128#32 0#32) 1#32 128#32))
          (Scalar.select (Scalar.cmpi CmpIPredicate.eq 128#32 0#32) 1#32 128#32))
        (IntOp.remsi ArithUnit.vector (BitVec.ofNat 32 s.val)
          (Scalar.select (Scalar.cmpi CmpIPredicate.eq 128#32 0#32) 1#32 128#32))) = BitVec.ofNat 32 (s.val % 128) := by decide +kernel
theorem ge128 : ∀ t s : Fin 128, IntOp.cmpi CmpIPredicate.sge (BitVec.ofNat 32 t.val) (BitVec.ofNat 32 s.val) = if s.val ≤ t.val then 1#1 else 0#1 := by decide +kernel
theorem mask (t : Fin 128) (s : Fin 256) : k0_pay80 (ix2 t s) = if s.val % 128 ≤ t.val then 1#1 else 0#1 := by
  pointwise [k0_pay80]
  rw [rem128]
  exact ge128 t ⟨s.val % 128, by omega⟩
theorem lane (r : Fin 128) (d : Fin 128) : k0_pay79 (ix2 r d) = if d.val < 64 then 1#1 else 0#1 := by
  pointwise [k0_pay79]
  exact lt64 ⟨d.val, by omega⟩
/-- A masked pair of halves, as the product over the pair's stacked values spells it. -/
abbrev PF (t d : Fin 128) (W : Fin 256 → EReal) (V : Fin 128 → EReal) : EReal :=
    ∑ x : Fin 128, Scalar.select (k0_pay80 (ix2 t (⟨x.val, by omega⟩ : Fin 256))) (Scalar.select (k0_pay79 (ix2 x d)) (W ⟨x.val, by omega⟩ * V x) 0) 0
      + ∑ x : Fin 128, Scalar.select (k0_pay80 (ix2 t (⟨128 + x.val, by omega⟩ : Fin 256))) (Scalar.select (k0_pay79 (ix2 x d)) 0 (W ⟨128 + x.val, by omega⟩ * V x)) 0
/-- The two masked halves of a pair of heads: a lane reads the half of its own head. -/
theorem pick (t d : Fin 128) (W : Fin 256 → EReal) (V : Fin 128 → EReal) :
    PF t d W V = ∑ s : Fin 128, (if s.val ≤ t.val then W ⟨d.val / 64 * 128 + s.val, by omega⟩ else 0) * V s := by
  have e1 : ∀ x : Fin 128, x.val % 128 = x.val := fun x => by omega
  have e2 : ∀ x : Fin 128, (128 + x.val) % 128 = x.val := fun x => by omega
  unfold PF
  simp only [mask, lane, sel, e1, e2]
  by_cases h : d.val < 64
  · have hd : d.val / 64 = 0 := by omega
    simp only [h, if_true, ite_self, Finset.sum_const_zero, add_zero, hd]
    refine Finset.sum_congr rfl fun s _ => ?_
    by_cases hs : s.val ≤ t.val
    · simp only [hs, if_true, Nat.zero_mul, Nat.zero_add]
    · simp only [hs, if_false, zero_mul]
  · have hd : d.val / 64 = 1 := by omega
    simp only [h, if_false, ite_self, Finset.sum_const_zero, zero_add, hd]
    refine Finset.sum_congr rfl fun s _ => ?_
    by_cases hs : s.val ≤ t.val
    · simp only [hs, if_true, Nat.one_mul]
    · simp only [hs, if_false, zero_mul]
/-- The four pairs side by side. -/
theorem ladder (t : Fin 128) (e : Fin 512) (W0 W1 W2 W3 : Fin 256 → EReal) (V : Fin 128 → Fin 512 → EReal) (X : Fin 4 → Fin 256 → EReal)
    (h0 : ∀ s, W0 s = X 0 s) (h1 : ∀ s, W1 s = X 1 s) (h2 : ∀ s, W2 s = X 2 s) (h3 : ∀ s, W3 s = X 3 s) :
    (if h : e.val < 128 then PF t ⟨e.val, h⟩ W0 (fun s => V s e)
     else if h : e.val - 128 < 128 then PF t ⟨e.val - 128, h⟩ W1 (fun s => V s ⟨128 + (e.val - 128), by omega⟩)
     else if h : e.val - 128 - 128 < 128 then PF t ⟨e.val - 128 - 128, h⟩ W2 (fun s => V s ⟨256 + (e.val - 128 - 128), by omega⟩)
     else PF t ⟨e.val - 128 - 128 - 128, by omega⟩ W3 (fun s => V s ⟨384 + (e.val - 128 - 128 - 128), by omega⟩))
      = ∑ s : Fin 128, (if s.val ≤ t.val then X ⟨e.val / 128, by omega⟩ ⟨e.val % 128 / 64 * 128 + s.val, by omega⟩ else 0) * V s e := by
  obtain rfl : W0 = X 0 := funext h0
  obtain rfl : W1 = X 1 := funext h1
  obtain rfl : W2 = X 2 := funext h2
  obtain rfl : W3 = X 3 := funext h3
  have key : ∀ (q : Fin 4) (d : Fin 128) (e' : Fin 512), e.val = 128 * q.val + d.val → e' = e → PF t d (X q) (fun s => V s e')
      = ∑ s : Fin 128, (if s.val ≤ t.val then X ⟨e.val / 128, by omega⟩ ⟨e.val % 128 / 64 * 128 + s.val, by omega⟩ else 0) * V s e := by
    intro q d e' he hee
    subst hee
    rw [pick]
    refine Finset.sum_congr rfl fun s _ => ?_
    have eq : (⟨e'.val / 128, by omega⟩ : Fin 4) = q := Fin.ext (by show e'.val / 128 = q.val; omega)
    have ed : e'.val % 128 = d.val := by omega
    rw [eq]
    simp only [ed]
  split
  · exact key 0 ⟨e.val, by assumption⟩ e (by show e.val = 128 * 0 + e.val; omega) rfl
  · split
    · exact key 1 ⟨e.val - 128, by assumption⟩ ⟨128 + (e.val - 128), by omega⟩ (by show e.val = 128 * 1 + (e.val - 128); omega) (Fin.ext (by show 128 + (e.val - 128) = e.val; omega))
    · split
      · exact key 2 ⟨e.val - 128 - 128, by assumption⟩ ⟨256 + (e.val - 128 - 128), by omega⟩ (by show e.val = 128 * 2 + (e.val - 128 - 128); omega) (Fin.ext (by show 256 + (e.val - 128 - 128) = e.val; omega))
      · exact key 3 ⟨e.val - 128 - 128 - 128, by omega⟩ ⟨384 + (e.val - 128 - 128 - 128), by omega⟩ (by show e.val = 128 * 3 + (e.val - 128 - 128 - 128); omega) (Fin.ext (by show 384 + (e.val - 128 - 128 - 128) = e.val; omega))
theorem ws0 (m : IVec S128x256 1) (w : Vec Ideal S1x128x256 .f32) (t : Fin 128) (s : Fin 256) :
    k0_pay81 m w (ix2 t s) = Scalar.select (m (ix2 t s)) (w (ix3 0 t s)) 0 := by pointwise [k0_pay81]
theorem ws1 (m : IVec S128x256 1) (w : Vec Ideal S1x128x256 .f32) (t : Fin 128) (s : Fin 256) :
    k0_pay82 m w (ix2 t s) = Scalar.select (m (ix2 t s)) (w (ix3 0 t s)) 0 := by pointwise [k0_pay82]
theorem ws2 (m : IVec S128x256 1) (w : Vec Ideal S1x128x256 .f32) (t : Fin 128) (s : Fin 256) :
    k0_pay83 m w (ix2 t s) = Scalar.select (m (ix2 t s)) (w (ix3 0 t s)) 0 := by pointwise [k0_pay83]
theorem ws3 (m : IVec S128x256 1) (w : Vec Ideal S1x128x256 .f32) (t : Fin 128) (s : Fin 256) :
    k0_pay84 m w (ix2 t s) = Scalar.select (m (ix2 t s)) (w (ix3 0 t s)) 0 := by pointwise [k0_pay84]
theorem ya00 (u v : FVec Ideal S256x512 .f32) (w0 w1 w2 w3 : Vec Ideal S1x128x256 .f32) (bs : Vec Ideal S128x512 .f32) (X : Fin 4 → Fin 128 → Fin 256 → EReal)
    (h0 : ∀ t s, w0 (ix3 0 t s) = X 0 t s) (h1 : ∀ t s, w1 (ix3 0 t s) = X 1 t s) (h2 : ∀ t s, w2 (ix3 0 t s) = X 2 t s) (h3 : ∀ t s, w3 (ix3 0 t s) = X 3 t s) (t : Fin 128) (e : Fin 512) :
    k0_pay90 u k0_pay79 (k0_pay83 k0_pay80 w2) (k0_pay84 k0_pay80 w3) (k0_pay85 v) (k0_pay86 v k0_pay79 k0_pay80 w0) (k0_pay87 v k0_pay79 k0_pay80 w1) (k0_pay88 v) (k0_pay89 v k0_pay79) bs (ix2 t e)
      = u (ix2 ⟨t.val, by omega⟩ e) * ((∑ s : Fin 128, (if s.val ≤ t.val then X ⟨e.val / 128, by omega⟩ t ⟨e.val % 128 / 64 * 128 + s.val, by omega⟩ else 0) * v (ix2 ⟨s.val, by omega⟩ e)) + bs (ix2 t e)) := by
  pointwise [k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay85, ws0, ws1, ws2, ws3]
  exact congrArg (fun q => u (ix2 ⟨t.val, by omega⟩ e) * (q + bs (ix2 t e))) (ladder t e (fun s => w0 (ix3 0 t s)) (fun s => w1 (ix3 0 t s)) (fun s => w2 (ix3 0 t s)) (fun s => w3 (ix3 0 t s)) (fun s e => v (ix2 ⟨s.val, by omega⟩ e)) (fun q s => X q t s) (h0 t) (h1 t) (h2 t) (h3 t))
theorem ya01 (u v : FVec Ideal S256x512 .f32) (w0 w1 w2 w3 : Vec Ideal S1x128x256 .f32) (bs : Vec Ideal S128x512 .f32) (A : FVec Ideal S128x512 .f32) (X : Fin 4 → Fin 128 → Fin 256 → EReal)
    (h0 : ∀ t s, w0 (ix3 0 t s) = X 0 t s) (h1 : ∀ t s, w1 (ix3 0 t s) = X 1 t s) (h2 : ∀ t s, w2 (ix3 0 t s) = X 2 t s) (h3 : ∀ t s, w3 (ix3 0 t s) = X 3 t s) (t : Fin 128) (e : Fin 512) :
    k0_pay95 u k0_pay79 (k0_pay84 k0_pay80 w3) A (k0_pay91 v) (k0_pay92 v k0_pay79 (k0_pay81 k0_pay80 w0)) (k0_pay93 v k0_pay79 (k0_pay82 k0_pay80 w1)) (k0_pay94 v k0_pay79 (k0_pay83 k0_pay80 w2)) bs (ix2 ⟨128 + t.val, by omega⟩ e)
      = u (ix2 ⟨128 + t.val, by omega⟩ e) * ((∑ s : Fin 128, (if s.val ≤ t.val then X ⟨e.val / 128, by omega⟩ t ⟨e.val % 128 / 64 * 128 + s.val, by omega⟩ else 0) * v (ix2 ⟨128 + s.val, by omega⟩ e)) + bs (ix2 t e)) := by
  pointwise [k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay85, ws0, ws1, ws2, ws3]
  exact congrArg (fun q => u (ix2 ⟨128 + t.val, by omega⟩ e) * (q + bs (ix2 t e))) (ladder t e (fun s => w0 (ix3 0 t s)) (fun s => w1 (ix3 0 t s)) (fun s => w2 (ix3 0 t s)) (fun s => w3 (ix3 0 t s)) (fun s e => v (ix2 ⟨128 + s.val, by omega⟩ e)) (fun q s => X q t s) (h0 t) (h1 t) (h2 t) (h3 t))
theorem ya01' (u v : FVec Ideal S256x512 .f32) (w0 w1 w2 w3 : Vec Ideal S1x128x256 .f32) (bs : Vec Ideal S128x512 .f32) (A : FVec Ideal S128x512 .f32) (X : Fin 4 → Fin 128 → Fin 256 → EReal)
    (h0 : ∀ t s, w0 (ix3 0 t s) = X 0 t s) (h1 : ∀ t s, w1 (ix3 0 t s) = X 1 t s) (h2 : ∀ t s, w2 (ix3 0 t s) = X 2 t s) (h3 : ∀ t s, w3 (ix3 0 t s) = X 3 t s) (t : Fin 128) (e : Fin 512) :
    k0_pay95 u k0_pay79 (k0_pay84 k0_pay80 w3) A (k0_pay91 v) (k0_pay92 v k0_pay79 (k0_pay81 k0_pay80 w0)) (k0_pay93 v k0_pay79 (k0_pay82 k0_pay80 w1)) (k0_pay94 v k0_pay79 (k0_pay83 k0_pay80 w2)) bs (ix2 ⟨t.val, by omega⟩ e) = A (ix2 t e) := by
  pointwise [k0_pay95]
theorem ya10 (u v : FVec Ideal S256x512 .f32) (w0 w1 w2 w3 : Vec Ideal S1x128x256 .f32) (bs : Vec Ideal S128x512 .f32) (X : Fin 4 → Fin 128 → Fin 256 → EReal)
    (h0 : ∀ t s, w0 (ix3 0 t s) = X 0 t s) (h1 : ∀ t s, w1 (ix3 0 t s) = X 1 t s) (h2 : ∀ t s, w2 (ix3 0 t s) = X 2 t s) (h3 : ∀ t s, w3 (ix3 0 t s) = X 3 t s) (t : Fin 128) (e : Fin 512) :
    k0_pay102 u k0_pay79 (k0_pay84 k0_pay80 w3) (k0_pay97 v k0_pay79 (k0_pay81 k0_pay80 w0)) (k0_pay98 v k0_pay79 (k0_pay82 k0_pay80 w1)) (k0_pay99 v k0_pay79 (k0_pay83 k0_pay80 w2)) (k0_pay100 v) (k0_pay101 v k0_pay79) (Scalar.ofBits .f32 0x00000000#32) bs (ix2 t e)
      = u (ix2 ⟨t.val, by omega⟩ e) * ((∑ s : Fin 128, (if s.val ≤ t.val then X ⟨e.val / 128, by omega⟩ t ⟨e.val % 128 / 64 * 128 + s.val, by omega⟩ else 0) * v (ix2 ⟨s.val, by omega⟩ e)) + bs (ix2 t e)) := by
  pointwise [k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay85, ws0, ws1, ws2, ws3]
  exact congrArg (fun q => u (ix2 ⟨t.val, by omega⟩ e) * (q + bs (ix2 t e))) (ladder t e (fun s => w0 (ix3 0 t s)) (fun s => w1 (ix3 0 t s)) (fun s => w2 (ix3 0 t s)) (fun s => w3 (ix3 0 t s)) (fun s e => v (ix2 ⟨s.val, by omega⟩ e)) (fun q s => X q t s) (h0 t) (h1 t) (h2 t) (h3 t))
theorem s11 (u v : FVec Ideal S256x512 .f32) (w0 w1 w2 w3 : Vec Ideal S1x128x256 .f32) (bs : Vec Ideal S128x512 .f32) (X : Fin 4 → Fin 128 → Fin 256 → EReal)
    (h0 : ∀ t s, w0 (ix3 0 t s) = X 0 t s) (h1 : ∀ t s, w1 (ix3 0 t s) = X 1 t s) (h2 : ∀ t s, w2 (ix3 0 t s) = X 2 t s) (h3 : ∀ t s, w3 (ix3 0 t s) = X 3 t s) (t : Fin 128) (e : Fin 512) :
    k0_pay103 v k0_pay79 (k0_pay81 k0_pay80 w0) (k0_pay82 k0_pay80 w1) (k0_pay83 k0_pay80 w2) (k0_pay84 k0_pay80 w3) (ix2 t e)
      = (∑ s : Fin 128, (if s.val ≤ t.val then X ⟨e.val / 128, by omega⟩ t ⟨e.val % 128 / 64 * 128 + s.val, by omega⟩ else 0) * v (ix2 ⟨128 + s.val, by omega⟩ e)) := by
  pointwise [k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay85, ws0, ws1, ws2, ws3]
  exact ladder t e (fun s => w0 (ix3 0 t s)) (fun s => w1 (ix3 0 t s)) (fun s => w2 (ix3 0 t s)) (fun s => w3 (ix3 0 t s)) (fun s e => v (ix2 ⟨128 + s.val, by omega⟩ e)) (fun q s => X q t s) (h0 t) (h1 t) (h2 t) (h3 t)

/-- One entry of the gated first branch, over the rows of a group of two chunks. -/
def yaRow (X : Fin 4 → Fin 128 → Fin 256 → EReal) (u v : Fin 256 → Fin 512 → EReal) (bs : Fin 128 → Fin 512 → EReal) (r : Fin 256) (e : Fin 512) : EReal :=
  u r e * (∑ s : Fin 128, (if s.val ≤ r.val % 128 then X ⟨e.val / 128, by omega⟩ ⟨r.val % 128, by omega⟩ ⟨e.val % 128 / 64 * 128 + s.val, by omega⟩ else 0)
    * v ⟨r.val / 128 * 128 + s.val, by omega⟩ e + bs ⟨r.val % 128, by omega⟩ e)
theorem yaRow_lo (X : Fin 4 → Fin 128 → Fin 256 → EReal) (u v : Fin 256 → Fin 512 → EReal) (bs : Fin 128 → Fin 512 → EReal) (t : Fin 128) (e : Fin 512) :
    yaRow X u v bs ⟨t.val, by omega⟩ e = u ⟨t.val, by omega⟩ e * ((∑ s : Fin 128, (if s.val ≤ t.val then X ⟨e.val / 128, by omega⟩ t ⟨e.val % 128 / 64 * 128 + s.val, by omega⟩ else 0) * v ⟨s.val, by omega⟩ e) + bs t e) := by
  have h1 : t.val % 128 = t.val := by omega
  have h2 : t.val / 128 = 0 := by omega
  unfold yaRow
  simp only [h1, h2, Nat.zero_mul, Nat.zero_add]
theorem yaRow_hi (X : Fin 4 → Fin 128 → Fin 256 → EReal) (u v : Fin 256 → Fin 512 → EReal) (bs : Fin 128 → Fin 512 → EReal) (t : Fin 128) (e : Fin 512) :
    yaRow X u v bs ⟨128 + t.val, by omega⟩ e = u ⟨128 + t.val, by omega⟩ e * ((∑ s : Fin 128, (if s.val ≤ t.val then X ⟨e.val / 128, by omega⟩ t ⟨e.val % 128 / 64 * 128 + s.val, by omega⟩ else 0) * v ⟨128 + s.val, by omega⟩ e) + bs t e) := by
  have h1 : (128 + t.val) % 128 = t.val := by omega
  have h2 : (128 + t.val) / 128 = 1 := by omega
  unfold yaRow
  simp only [h1, h2, Nat.one_mul]
theorem row_cases (r : Fin 256) : (∃ t : Fin 128, r = ⟨t.val, by omega⟩) ∨ (∃ t : Fin 128, r = ⟨128 + t.val, by omega⟩) := by
  by_cases h : r.val < 128
  · exact .inl ⟨⟨r.val, h⟩, rfl⟩
  · exact .inr ⟨⟨r.val - 128, by omega⟩, Fin.ext (by show r.val = 128 + (r.val - 128); omega)⟩
theorem ya0 (u v : FVec Ideal S256x512 .f32) (w0 w1 w2 w3 : Vec Ideal S1x128x256 .f32) (bs : Vec Ideal S128x512 .f32) (X : Fin 4 → Fin 128 → Fin 256 → EReal)
    (h0 : ∀ t s, w0 (ix3 0 t s) = X 0 t s) (h1 : ∀ t s, w1 (ix3 0 t s) = X 1 t s) (h2 : ∀ t s, w2 (ix3 0 t s) = X 2 t s) (h3 : ∀ t s, w3 (ix3 0 t s) = X 3 t s) (r : Fin 256) (e : Fin 512) :
    k0_pay95 u k0_pay79 (k0_pay84 k0_pay80 w3) (k0_pay90 u k0_pay79 (k0_pay83 k0_pay80 w2) (k0_pay84 k0_pay80 w3) (k0_pay85 v) (k0_pay86 v k0_pay79 k0_pay80 w0) (k0_pay87 v k0_pay79 k0_pay80 w1) (k0_pay88 v) (k0_pay89 v k0_pay79) bs) (k0_pay91 v) (k0_pay92 v k0_pay79 (k0_pay81 k0_pay80 w0)) (k0_pay93 v k0_pay79 (k0_pay82 k0_pay80 w1)) (k0_pay94 v k0_pay79 (k0_pay83 k0_pay80 w2)) bs (ix2 r e) = yaRow X (fun r e => u (ix2 r e)) (fun r e => v (ix2 r e)) (fun t e => bs (ix2 t e)) r e := by
  rcases row_cases r with ⟨t, rfl⟩ | ⟨t, rfl⟩
  · exact (ya01' u v w0 w1 w2 w3 bs _ X h0 h1 h2 h3 t e).trans ((ya00 u v w0 w1 w2 w3 bs X h0 h1 h2 h3 t e).trans (yaRow_lo X (fun r e => u (ix2 r e)) (fun r e => v (ix2 r e)) (fun t e => bs (ix2 t e)) t e).symm)
  · exact (ya01 u v w0 w1 w2 w3 bs _ X h0 h1 h2 h3 t e).trans (yaRow_hi X (fun r e => u (ix2 r e)) (fun r e => v (ix2 r e)) (fun t e => bs (ix2 t e)) t e).symm
theorem pa0 (y : FVec Ideal S256x512 .bf16) (w : Vec Ideal S512x1024 .bf16) (r : Fin 256) (d : Fin 1024) :
    k0_pay106 y w (ix2 r d) = ∑ e, y (ix2 r e) * w (ix2 e d) := by pointwise [k0_pay106]
theorem pa1_lo (u : FVec Ideal S256x512 .f32) (A S bs : FVec Ideal S128x512 .f32) (wb : Vec Ideal S512x1024 .bf16) (t : Fin 128) (d : Fin 1024) :
    k0_pay107 u A S bs wb (ix2 ⟨t.val, by omega⟩ d) = ∑ e, A (ix2 t e) * wb (ix2 e d) := by pointwise [k0_pay107]
theorem pa1_hi (u : FVec Ideal S256x512 .f32) (A S bs : FVec Ideal S128x512 .f32) (wb : Vec Ideal S512x1024 .bf16) (t : Fin 128) (d : Fin 1024) :
    k0_pay107 u A S bs wb (ix2 ⟨128 + t.val, by omega⟩ d) = ∑ e, (u (ix2 ⟨128 + t.val, by omega⟩ e) * (S (ix2 t e) + bs (ix2 t e))) * wb (ix2 e d) := by pointwise [k0_pay107]
theorem pa1 (u v : FVec Ideal S256x512 .f32) (w0 w1 w2 w3 : Vec Ideal S1x128x256 .f32) (bs : Vec Ideal S128x512 .f32) (X : Fin 4 → Fin 128 → Fin 256 → EReal)
    (h0 : ∀ t s, w0 (ix3 0 t s) = X 0 t s) (h1 : ∀ t s, w1 (ix3 0 t s) = X 1 t s) (h2 : ∀ t s, w2 (ix3 0 t s) = X 2 t s) (h3 : ∀ t s, w3 (ix3 0 t s) = X 3 t s) (wb : Vec Ideal S512x1024 .bf16) (r : Fin 256) (d : Fin 1024) :
    k0_pay107 u (k0_pay102 u k0_pay79 (k0_pay84 k0_pay80 w3) (k0_pay97 v k0_pay79 (k0_pay81 k0_pay80 w0)) (k0_pay98 v k0_pay79 (k0_pay82 k0_pay80 w1)) (k0_pay99 v k0_pay79 (k0_pay83 k0_pay80 w2)) (k0_pay100 v) (k0_pay101 v k0_pay79) (Scalar.ofBits .f32 0x00000000#32) bs) (k0_pay103 v k0_pay79 (k0_pay81 k0_pay80 w0) (k0_pay82 k0_pay80 w1) (k0_pay83 k0_pay80 w2) (k0_pay84 k0_pay80 w3)) bs wb (ix2 r d) = ∑ e, yaRow X (fun r e => u (ix2 r e)) (fun r e => v (ix2 r e)) (fun t e => bs (ix2 t e)) r e * wb (ix2 e d) := by
  rcases row_cases r with ⟨t, rfl⟩ | ⟨t, rfl⟩
  · refine (pa1_lo ..).trans ?_
    refine Finset.sum_congr rfl fun e _ => congrArg (· * wb (ix2 e d)) ?_
    exact (ya10 u v w0 w1 w2 w3 bs X h0 h1 h2 h3 t e).trans (yaRow_lo X (fun r e => u (ix2 r e)) (fun r e => v (ix2 r e)) (fun t e => bs (ix2 t e)) t e).symm
  · refine (pa1_hi ..).trans ?_
    refine Finset.sum_congr rfl fun e _ => congrArg (· * wb (ix2 e d)) ?_
    exact (congrArg (fun q => u (ix2 ⟨128 + t.val, by omega⟩ e) * (q + bs (ix2 t e))) (s11 u v w0 w1 w2 w3 bs X h0 h1 h2 h3 t e)).trans (yaRow_hi X (fun r e => u (ix2 r e)) (fun r e => v (ix2 r e)) (fun t e => bs (ix2 t e)) t e).symm
theorem ma0 (z p : FVec Ideal S256x1024 .f32) (r : Fin 256) (d : Fin 1024) : k0_pay126 z p (ix3 0 r d) = sg (z (ix2 r d)) * p (ix2 r d) := by
  unfold sg; pointwise [k0_pay126]
theorem ma1 (z p : FVec Ideal S256x1024 .f32) (r : Fin 256) (d : Fin 1024) : k0_pay1 z p k0_pay147 (ix3 0 r d) = sg (z (ix2 r d)) * p (ix2 r d) := by
  unfold sg; pointwise [k0_pay1, k0_pay147]
theorem gb0 (z : FVec Ideal S256x1024 .f32) (r : Fin 256) (d : Fin 1024) : k0_pay108 z (ix3 0 r d) = sg (z (ix2 r d)) := by
  unfold sg; pointwise [k0_pay108]
theorem gb1 (z : FVec Ideal S256x1024 .f32) (r : Fin 256) (d : Fin 1024) : k0_pay127 z (ix3 0 r d) = sg (z (ix2 r d)) := by
  unfold sg; pointwise [k0_pay127]
theorem g0 (z : FVec Ideal S256x1536 .f32) (r : Fin 256) (d : Fin 512) : k0_pay42 z (ix3 0 r d) = z (ix2 r ⟨1024 + d.val, by omega⟩) := by pointwise [k0_pay42]
theorem g1 (z : FVec Ideal S256x1536 .f32) (r : Fin 256) (d : Fin 512) : k0_pay62 z (ix3 0 r d) = z (ix2 r ⟨1024 + d.val, by omega⟩) := by pointwise [k0_pay62]
theorem lw0 (z : FVec Ideal S256x1536 .f32) (w : Vec Ideal S1x512 .f32) (r : Fin 256) (d : Fin 512) :
    k0_pay41 z k0_pay39 (k0_pay40 w) (ix2 r d) = (0 - Ideal.exp (Ideal.ofBits .f32 0xBF000000#32)) * sg (w (ix2 0 d) + z (ix2 r ⟨d.val, by omega⟩)) := by
  unfold sg; pointwise [k0_pay41, k0_pay39, k0_pay40]
theorem lw1 (z : FVec Ideal S256x1536 .f32) (w : Vec Ideal S1x512 .f32) (r : Fin 256) (d : Fin 512) :
    k0_pay61 k0_pay59 (k0_pay60 z w) (Scalar.ofBits .f32 0x3F800000#32) (ix2 r d) = (0 - Ideal.exp (Ideal.ofBits .f32 0xBF000000#32)) * sg (w (ix2 0 d) + z (ix2 r ⟨d.val, by omega⟩)) := by
  unfold sg; pointwise [k0_pay61, k0_pay59, k0_pay60]
theorem kk0 (z : FVec Ideal S256x1792 .f32) (w : Vec Ideal S1x512 .f32) (r : Fin 256) (d : Fin 512) :
    k0_pay43 z w (ix2 r d) = z (ix2 r ⟨512 + d.val, by omega⟩) * w (ix2 0 d) := by pointwise [k0_pay43]
theorem kk1 (z : FVec Ideal S256x1792 .f32) (w : Vec Ideal S1x512 .f32) (r : Fin 256) (d : Fin 512) :
    k0_pay63 z w (ix2 r d) = z (ix2 r ⟨512 + d.val, by omega⟩) * w (ix2 0 d) := by pointwise [k0_pay63]
theorem n20 (z : FVec Ideal S256x1792 .f32) (w : Vec Ideal S1x512 .f32) (b : Vec Ideal S512x512 .bf16) (r : Fin 256) (d : Fin 512) :
    k0_pay44 z w b (ix2 r d) = ∑ e, k0_pay43 z w (ix2 r e) * k0_pay43 z w (ix2 r e) * b (ix2 e d) := by pointwise [k0_pay44]
theorem n21 (z : FVec Ideal S256x1792 .f32) (w : Vec Ideal S1x512 .f32) (b : Vec Ideal S512x512 .bf16) (r : Fin 256) (d : Fin 512) :
    k0_pay64 z w b (ix2 r d) = ∑ e, k0_pay63 z w (ix2 r e) * k0_pay63 z w (ix2 r e) * b (ix2 e d) := by pointwise [k0_pay64]
theorem a0 (z : FVec Ideal S256x1536 .f32) (w : Vec Ideal S1x512 .f32) (r : Fin 256) (d : Fin 512) :
    k0_pay109 z w (ix2 r d) = sg (w (ix2 0 d) + z (ix2 r ⟨512 + d.val, by omega⟩)) := by unfold sg; pointwise [k0_pay109]
theorem a1 (z : FVec Ideal S256x1536 .f32) (w : Vec Ideal S1x512 .f32) (r : Fin 256) (d : Fin 512) :
    k0_pay128 z w (ix2 r d) = sg (w (ix2 0 d) + z (ix2 r ⟨512 + d.val, by omega⟩)) := by unfold sg; pointwise [k0_pay128]
/-- The reciprocal norm of a head, floored by the named constant. -/
def nrm (n : EReal) : EReal := Ideal.rsqrt (max n (Named.named (F := Ideal) (φ := .f32) κ "norm_floor" 0x179ABE15#32))
theorem kkn0 (k n : FVec Ideal S256x512 .f32) (r : Fin 256) (d : Fin 512) : k0_pay110 k n (ix2 r d) = k (ix2 r d) * nrm (n (ix2 r d)) := by
  unfold nrm; pointwise [k0_pay110]
theorem kkn1 (k n : FVec Ideal S256x512 .f32) (r : Fin 256) (d : Fin 512) : k0_pay129 k n (ix2 r d) = k (ix2 r d) * nrm (n (ix2 r d)) := by
  unfold nrm; pointwise [k0_pay129]
theorem k20 (z : FVec Ideal S256x1792 .f32) (p : FVec Ideal S256x1536 .f32) (w ka : Vec Ideal S1x512 .f32) (r : Fin 256) (d : Fin 512) :
    k0_pay111 z p w ka (ix2 r d) = z (ix2 r ⟨512 + d.val, by omega⟩) * (1 + (k0_pay109 p w (ix2 r d) - 1) * ka (ix2 0 d)) := by pointwise [k0_pay111]
theorem k21 (z : FVec Ideal S256x1792 .f32) (p : FVec Ideal S256x1536 .f32) (w ka : Vec Ideal S1x512 .f32) (r : Fin 256) (d : Fin 512) :
    k0_pay130 z p w ka (ix2 r d) = z (ix2 r ⟨512 + d.val, by omega⟩) * (1 + (k0_pay128 p w (ix2 r d) - 1) * ka (ix2 0 d)) := by pointwise [k0_pay130]
theorem nk0 (k n : FVec Ideal S256x512 .f32) (r : Fin 256) (d : Fin 512) : k0_pay112 k n (ix2 r d) = 0 - k0_pay110 k n (ix2 r d) := by
  pointwise [k0_pay112]
theorem nk1 (k n : FVec Ideal S256x512 .f32) (r : Fin 256) (d : Fin 512) : k0_pay131 k n (ix2 r d) = 0 - k0_pay129 k n (ix2 r d) := by
  pointwise [k0_pay131]
theorem ka0 (p : FVec Ideal S256x1536 .f32) (k n : FVec Ideal S256x512 .f32) (w : Vec Ideal S1x512 .f32) (r : Fin 256) (d : Fin 512) :
    k0_pay113 p k n w (ix2 r d) = k0_pay110 k n (ix2 r d) * k0_pay109 p w (ix2 r d) := by pointwise [k0_pay113]
theorem ka1 (p : FVec Ideal S256x1536 .f32) (k n : FVec Ideal S256x512 .f32) (w : Vec Ideal S1x512 .f32) (r : Fin 256) (d : Fin 512) :
    k0_pay132 p k n w (ix2 r d) = k0_pay129 k n (ix2 r d) * k0_pay128 p w (ix2 r d) := by pointwise [k0_pay132]

end Cert.Proof.IpStage

end
-- ==== Proof.IpRef.lean ====
/- The reference of the input projection kernel, read at one token. -/
module

public import proofs.«01_k».proof.Proof.Gen.InprojRefIdeal.Read
public import proofs.«01_k».proof.Proof.IpSpec

@[expose] public section

set_option maxRecDepth 16384

noncomputable section

namespace Cert.Proof.IpRef

open Idealize.ShloMosaic Idealize.ShloMosaic.TcCoe Idealize.SL.Sem
open Cert.InprojRefIdeal Cert.InprojRefIdeal.Gen Cert.InprojRefIdeal.Read Cert.Proof.IpSpec

variable (X0 : FVec Ideal S8x4096x1024 .f32) (X1 : FVec Ideal S8x6144 .f32) (X2 : FVec Ideal S1024x4864 .bf16) (X3 : FVec Ideal S1x4768 .f32)
  (X4 X5 : FVec Ideal S1x512 .f32) (X6 : FVec Ideal S1x8x128x128 .f32) (X7 : FVec Ideal S1x8x128 .f32) (X8 : FVec Ideal S1x1696 .f32) (X9 : FVec Ideal S1x512 .f32)
  (X10 : FVec Ideal S1x32x512 .f32) (X11 : FVec Ideal S1x512 .f32) (X12 : FVec Ideal S1x32x512 .f32) (X13 : FVec Ideal S1x96x512 .f32) (X14 X15 : FVec Ideal S1x512 .f32)
  (X16 : FVec Ideal S1x512x1024 .f32)

/-- The modulated input at one token. -/
def hh (b : Fin 8) (s : Fin 4096) (k : Fin 1024) : EReal := X0 (ix3 b s k) * (1 + X1 (ix2 b ⟨1024 + k.val, by omega⟩)) + X1 (ix2 b ⟨k.val, by omega⟩)
/-- A projected lane left of the gates. -/
def pl (b : Fin 8) (s : Fin 4096) (j : Fin 2720) : EReal := ∑ k, hh X0 X1 b s k * X2 (ix2 k ⟨j.val, by omega⟩) + X3 (ix2 0 ⟨j.val, by omega⟩)
/-- A projected lane of the gates, behind the padding columns. -/
def ph (b : Fin 8) (s : Fin 4096) (j : Fin 2048) : EReal := ∑ k, hh X0 X1 b s k * X2 (ix2 k ⟨2816 + j.val, by omega⟩) + X3 (ix2 0 ⟨2720 + j.val, by omega⟩)
/-- The tanh form of the Gaussian error unit as the reference spells it. -/
def rgelu (x : EReal) : EReal :=
  x * (Ideal.ofBits .f32 0x3F000000#32 * (1 + Ideal.tanh (Ideal.ofBits .f32 0x3F4C422A#32 * (x + Ideal.ofBits .f32 0x3D372713#32 * (x * x * x)))))

theorem v26_lo (b : Fin 8) (s : Fin 4096) (j : Fin 2720) : val_main_v26 (F := Ideal) X0 X1 X2 X3 (ix3 b s ⟨j.val, by omega⟩) = pl X0 X1 X2 X3 b s j := by
  unfold pl hh
  pointwise [val_main_v0, val_main_v1, val_main_v2, val_main_v3, val_main_v4, val_main_v5, val_main_v6, val_main_v7, val_main_v8, val_main_v9, val_main_v10, val_main_v11, val_main_v12, val_main_v13, val_main_v14, val_main_v15, val_main_cst, val_main_v16, val_main_v17, val_main_v18, val_main_v19, val_main_v20, val_main_v21, val_main_v22, val_main_v23, val_main_v24, val_main_v25, val_main_v26]
theorem v26_hi (b : Fin 8) (s : Fin 4096) (j : Fin 2048) : val_main_v26 (F := Ideal) X0 X1 X2 X3 (ix3 b s ⟨2720 + j.val, by omega⟩) = ph X0 X1 X2 X3 b s j := by
  unfold ph hh
  pointwise [val_main_v0, val_main_v1, val_main_v2, val_main_v3, val_main_v4, val_main_v5, val_main_v6, val_main_v7, val_main_v8, val_main_v9, val_main_v10, val_main_v11, val_main_v12, val_main_v13, val_main_v14, val_main_v15, val_main_cst, val_main_v16, val_main_v17, val_main_v18, val_main_v19, val_main_v20, val_main_v21, val_main_v22, val_main_v23, val_main_v24, val_main_v25, val_main_v26]
theorem v40_at (b : Fin 8) (s : Fin 4096) (j : Fin 1024) : val_main_v40 (F := Ideal) X0 X1 X2 X3 (ix3 b s j) = rgelu (pl X0 X1 X2 X3 b s ⟨j.val, by omega⟩) := by
  rw [← v26_lo]
  unfold rgelu
  pointwise [val_main_v27, val_main_v28, val_main_v29, val_main_cst_0, val_main_v30, val_main_v31, val_main_v32, val_main_cst_1, val_main_v33, val_main_v34, val_main_v35, val_main_cst_2, val_main_v36, val_main_v37, val_main_cst_3, val_main_v38, val_main_v39, val_main_v40]
theorem v68_at (b : Fin 8) (s : Fin 4096) (d : Fin 512) : val_main_v68 (F := Ideal) X0 X1 X2 X3 X4 X5 (ix3 b s d) = ln0 (fun e => rgelu (pl X0 X1 X2 X3 b s ⟨512 + e.val, by omega⟩)) d * X4 (ix2 0 d) + X5 (ix2 0 d) := by
  have h : ∀ e : Fin 512, rgelu (pl X0 X1 X2 X3 b s ⟨512 + e.val, by omega⟩) = val_main_v40 (F := Ideal) X0 X1 X2 X3 (ix3 b s ⟨512 + e.val, by omega⟩) := fun e => (v40_at X0 X1 X2 X3 b s ⟨512 + e.val, by omega⟩).symm
  simp only [h]
  unfold ln0
  pointwise [val_main_v42, val_main_v43, val_main_v44, val_main_cst_4, val_main_v45, val_main_v46, val_main_cst_5, val_main_v47, val_main_v48, val_main_v49, val_main_v50, val_main_v51, val_main_cst_6, val_main_v52, val_main_v53, val_main_cst_7, val_main_v54, val_main_v55, val_main_v56, val_main_v57, val_main_cst_8, val_main_v58, val_main_v59, val_main_v60, val_main_v61, val_main_v62, val_main_v63, val_main_v64, val_main_v65, val_main_v66, val_main_v67, val_main_v68]
theorem tril : ∀ t k : Fin 128, Scalar.select (IntOp.cmpi CmpIPredicate.sge (IntOp.addi (BitVec.ofNat 32 t.val) 0#32) (BitVec.ofNat 32 k.val)) 1#1 0#1 = if k.val ≤ t.val then 1#1 else 0#1 := by decide +kernel
theorem msel (t k : Fin 128) (x z : EReal) (hz : z = 0) :
    Scalar.select (Scalar.select (IntOp.cmpi CmpIPredicate.sge (IntOp.addi (BitVec.ofNat 32 t.val) 0#32) (BitVec.ofNat 32 k.val)) 1#1 0#1) x z = if k.val ≤ t.val then x else 0 := by
  rw [tril, hz]
  split <;> rfl
/-- The gated first branch: the lane times the causal mix of its chunk. -/
theorem v84_at (b : Fin 8) (s : Fin 4096) (e : Fin 512) : val_main_v84 (F := Ideal) X0 X1 X2 X3 X4 X5 X6 X7 (ix3 b s e) = rgelu (pl X0 X1 X2 X3 b s ⟨e.val, by omega⟩)
    * (∑ k : Fin 128, val_main_v68 (F := Ideal) X0 X1 X2 X3 X4 X5 (ix3 b ⟨s.val / 128 * 128 + k.val, by omega⟩ e) * (if k.val ≤ s.val % 128 then X6 (ix4 0 ⟨e.val / 64, by omega⟩ ⟨s.val % 128, by omega⟩ k) else 0) + X7 (ix3 0 ⟨e.val / 64, by omega⟩ ⟨s.val % 128, by omega⟩)) := by
  rw [show rgelu (pl X0 X1 X2 X3 b s ⟨e.val, by omega⟩) = val_main_v40 (F := Ideal) X0 X1 X2 X3 (ix3 b s ⟨e.val, by omega⟩) from (v40_at X0 X1 X2 X3 b s ⟨e.val, by omega⟩).symm]
  have h0 : id (constant (F := Ideal) S_ FTy.f32 0#32) ix0 = (0 : EReal) := by pointwise [id]
  simp only [← msel ⟨s.val % 128, by omega⟩ _ _ _ h0]
  pointwise [val_main_v69, val_main_c, val_main_v70, val_main_call0_v0, val_main_call0_c, val_main_call0_v1, val_main_call0_v2, val_main_call0_v3, val_main_call0_v4, val_main_call0_c_0, val_main_call0_v5, val_main_v71, val_main_v72, val_main_v73, val_main_cst_9, val_main_call1_v0, val_main_call1_v1, val_main_call1_v2, val_main_v74, val_main_v75, val_main_v76, val_main_v77, val_main_v78, val_main_v79, val_main_v80, val_main_v81, val_main_v82, val_main_v83, val_main_v84, val_main_v41]
/-- A lane after the token shift. -/
def zz (b : Fin 8) (s : Fin 4096) (j : Fin 1696) : EReal :=
  pl X0 X1 X2 X3 b s ⟨1024 + j.val, by omega⟩ + ((if h : s.val = 0 then 0 else pl X0 X1 X2 X3 b ⟨s.val - 1, by omega⟩ ⟨1024 + j.val, by omega⟩) - pl X0 X1 X2 X3 b s ⟨1024 + j.val, by omega⟩) * X8 (ix2 0 j)
theorem v93_at (b : Fin 8) (s : Fin 4096) (j : Fin 1696) : val_main_v93 (F := Ideal) X0 X1 X2 X3 X8 (ix3 b s j) = zz X0 X1 X2 X3 X8 b s j := by
  unfold zz
  simp only [← v26_lo]
  have hc : FloatOps.sitofp (F := Ideal) FTy.f32 0#32 = (0 : EReal) := by
    show (((0#32 : BitVec 32).toInt : ℝ) : EReal) = 0
    simp
  have hi : ∀ x : Ideal .f32, ∀ y : (1 ≤ s.val ∧ s.val - 1 < 4096) → Ideal .f32, (if h : s.val = 0 then (0 : EReal) else y ⟨by omega, by omega⟩) = (if h : 1 ≤ s.val ∧ s.val - 1 < 4096 then y h else FloatOps.sitofp (F := Ideal) FTy.f32 0#32) := by
    intro x y
    by_cases h : s.val = 0
    · rw [dif_pos h, dif_neg (by omega), hc]
    · rw [dif_neg h, dif_pos ⟨by omega, by omega⟩]
  refine Eq.trans ?_ (congrArg (fun q => val_main_v26 (F := Ideal) X0 X1 X2 X3 (ix3 b s ⟨1024 + j.val, by omega⟩) + (q - val_main_v26 (F := Ideal) X0 X1 X2 X3 (ix3 b s ⟨1024 + j.val, by omega⟩)) * X8 (ix2 0 j)) (hi 0 (fun h => val_main_v26 (F := Ideal) X0 X1 X2 X3 (ix3 b ⟨s.val - 1, by omega⟩ ⟨1024 + j.val, by omega⟩))).symm)
  pointwise [val_main_v85, val_main_c_10, val_main_call2_v0, val_main_v86, val_main_v87, val_main_v88, val_main_v89, val_main_v90, val_main_v91, val_main_v92, val_main_v93]
/-- The logarithm of the decay as the reference spells it. -/
def rlw (p : EReal) : EReal :=
  -Ideal.exp (-(max (-p) 0 + Ideal.log1p (Ideal.exp (-FloatOps.absf (F := Ideal) (φ := .f32) (-p)))) - Ideal.ofBits .f32 0x3F000000#32)
theorem rsp_eq (p : EReal) : (if -p ≠ -p then -p else max (-p) 0 + Ideal.log1p (Ideal.exp (-FloatOps.absf (F := Ideal) (φ := .f32) (-p))))
    = max (-p) 0 + Ideal.log1p (Ideal.exp (-FloatOps.absf (F := Ideal) (φ := .f32) (-p))) := by simp
theorem v113_at (b : Fin 8) (s : Fin 4096) (d : Fin 512) : val_main_v113 (F := Ideal) X0 X1 X2 X3 X8 X9 X10 (ix3 b s d) = rlw (X9 (ix2 0 d) + ∑ k : Fin 32, Ideal.tanh (zz X0 X1 X2 X3 X8 b s ⟨1536 + k.val, by omega⟩) * X10 (ix3 0 k d)) := by
  rw [rlw, ← rsp_eq]
  pointwise [val_main_v97, val_main_v100, val_main_v101, val_main_v102, val_main_v103, val_main_v104, val_main_v105, val_main_v106, val_main_v107, val_main_call3_cst, val_main_call3_v0, val_main_call3_v1, val_main_call3_v2, val_main_call3_v3, val_main_call3_v4, val_main_call3_v5, val_main_call3_v6, val_main_call3_v7, val_main_call3_v8, val_main_call3_v9, val_main_call3_v10, val_main_call3_v11, val_main_v108, val_main_v109, val_main_cst_11, val_main_v110, val_main_v111, val_main_v112, val_main_v113, v93_at]
theorem v125_at (b : Fin 8) (s : Fin 4096) (d : Fin 512) : val_main_v125 (F := Ideal) X0 X1 X2 X3 X8 X11 X12 (ix3 b s d) = sg (X11 (ix2 0 d) + ∑ k : Fin 32, zz X0 X1 X2 X3 X8 b s ⟨1568 + k.val, by omega⟩ * X12 (ix3 0 k d)) := by
  simp only [sg, zero_sub]
  simp only [← v93_at]
  pointwise [val_main_v98, val_main_v114, val_main_v115, val_main_v116, val_main_v117, val_main_v118, val_main_v119, val_main_v120, val_main_v121, val_main_cst_12, val_main_v122, val_main_v123, val_main_cst_13, val_main_v124, val_main_v125]
theorem v133_at (b : Fin 8) (s : Fin 4096) (d : Fin 512) : val_main_v133 (F := Ideal) X0 X1 X2 X3 X8 X13 (ix3 b s d) = ∑ k : Fin 96, sg (zz X0 X1 X2 X3 X8 b s ⟨1600 + k.val, by omega⟩) * X13 (ix3 0 k d) := by
  simp only [sg, zero_sub]
  simp only [← v93_at]
  pointwise [val_main_v99, val_main_v126, val_main_v127, val_main_cst_14, val_main_v128, val_main_v129, val_main_cst_15, val_main_v130, val_main_v131, val_main_v132, val_main_v133]
theorem v137_at (b : Fin 8) (s : Fin 4096) (d : Fin 512) : val_main_v137 (F := Ideal) X0 X1 X2 X3 X8 X14 (ix3 b s d) = zz X0 X1 X2 X3 X8 b s ⟨512 + d.val, by omega⟩ * X14 (ix2 0 d) := by
  simp only [← v93_at]
  pointwise [val_main_v95, val_main_v134, val_main_v135, val_main_v136, val_main_v137]
theorem v144_at (b : Fin 8) (s : Fin 4096) (d : Fin 512) : val_main_v144 (F := Ideal) X0 X1 X2 X3 X8 X14 (ix3 b s d) = Ideal.div (val_main_v137 (F := Ideal) X0 X1 X2 X3 X8 X14 (ix3 b s d)) (max (Ideal.sqrt (∑ x : Fin 64, val_main_v137 (F := Ideal) X0 X1 X2 X3 X8 X14 (ix3 b s ⟨d.val / 64 * 64 + x.val, by omega⟩)
      * val_main_v137 (F := Ideal) X0 X1 X2 X3 X8 X14 (ix3 b s ⟨d.val / 64 * 64 + x.val, by omega⟩))) (Ideal.ofBits .f32 0x2B8CBCCC#32)) := by
  pointwise [val_main_v138, val_main_call4_v0, val_main_call4_cst, val_main_call4_v1, val_main_call4_v2, val_main_v139, val_main_cst_16, val_main_v140, val_main_v141, val_main_v142, val_main_v143, val_main_v144]
theorem v153_at (b : Fin 8) (s : Fin 4096) (d : Fin 512) : val_main_v153 (F := Ideal) X0 X1 X2 X3 X8 X11 X12 X15 (ix3 b s d) = zz X0 X1 X2 X3 X8 b s ⟨512 + d.val, by omega⟩ * (1 + (val_main_v125 (F := Ideal) X0 X1 X2 X3 X8 X11 X12 (ix3 b s d) - 1) * X15 (ix2 0 d)) := by
  simp only [← v93_at]
  pointwise [val_main_v95, val_main_cst_17, val_main_v145, val_main_v146, val_main_v147, val_main_v148, val_main_v149, val_main_v150, val_main_cst_18, val_main_v151, val_main_v152, val_main_v153]
theorem v177_at (b : Fin 8) (s : Fin 4096) (d : Fin 1024) : val_main_v177 (F := Ideal) X0 X1 X2 X3 X4 X5 X6 X7 X16 (ix3 b s d) = sg (ph X0 X1 X2 X3 b s ⟨d.val, by omega⟩) * ∑ e, val_main_v84 (F := Ideal) X0 X1 X2 X3 X4 X5 X6 X7 (ix3 b s e) * X16 (ix3 0 e d) := by
  rw [← v26_hi]
  simp only [sg, zero_sub]
  pointwise [val_main_v165, val_main_v166, val_main_v167, val_main_v168, val_main_v169, val_main_cst_19, val_main_v170, val_main_v171, val_main_cst_20, val_main_v172, val_main_v173, val_main_v174, val_main_v175, val_main_v176, val_main_v177]
theorem v184_at (b : Fin 8) (s : Fin 4096) (d : Fin 1024) : val_main_v184 (F := Ideal) X0 X1 X2 X3 (ix3 b s d) = sg (ph X0 X1 X2 X3 b s ⟨1024 + d.val, by omega⟩) := by
  rw [← v26_hi]
  simp only [sg, zero_sub]
  pointwise [val_main_v165, val_main_v167, val_main_v178, val_main_v179, val_main_cst_21, val_main_v180, val_main_v181, val_main_cst_22, val_main_v182, val_main_v183, val_main_v184]
theorem v185_at (b : Fin 8) (s : Fin 4096) (d : Fin 512) : val_main_v185 (F := Ideal) X0 X1 X2 X3 X8 X13 (ix3 b s d) = val_main_v133 (F := Ideal) X0 X1 X2 X3 X8 X13 (ix3 b s d) := by
  pointwise [val_main_v185]

end Cert.Proof.IpRef

end
-- ==== Proof.IpRefOut.lean ====
/- The reference of the input projection kernel, read at one token: the stacked arrays of the recurrence. -/
module

public import proofs.«01_k».proof.Proof.Gen.InprojRefIdeal.Read
public import proofs.«01_k».proof.Proof.IpRef

@[expose] public section

set_option maxRecDepth 16384

noncomputable section

namespace Cert.Proof.IpRefOut

open Idealize.ShloMosaic Idealize.ShloMosaic.TcCoe Idealize.SL.Sem
open Cert.InprojRefIdeal Cert.InprojRefIdeal.Gen Cert.InprojRefIdeal.Read Cert.Proof.IpSpec Cert.Proof.IpRef

variable (X0 : FVec Ideal S8x4096x1024 .f32) (X1 : FVec Ideal S8x6144 .f32) (X2 : FVec Ideal S1024x4864 .bf16) (X3 : FVec Ideal S1x4768 .f32)
  (X4 X5 : FVec Ideal S1x512 .f32) (X6 : FVec Ideal S1x8x128x128 .f32) (X7 : FVec Ideal S1x8x128 .f32) (X8 : FVec Ideal S1x1696 .f32) (X9 : FVec Ideal S1x512 .f32)
  (X10 : FVec Ideal S1x32x512 .f32) (X11 : FVec Ideal S1x512 .f32) (X12 : FVec Ideal S1x32x512 .f32) (X13 : FVec Ideal S1x96x512 .f32) (X14 X15 : FVec Ideal S1x512 .f32)
  (X16 : FVec Ideal S1x512x1024 .f32)

theorem v164_at (b : Fin 8) (n : Fin 6) (p : Fin 4) (s : Fin 4096) (l : Fin 128) : val_main_v164 (F := Ideal) X0 X1 X2 X3 X8 X9 X10 X11 X12 X14 X15 (ix5 b n p s l) = val_main_v162 (F := Ideal) X0 X1 X2 X3 X8 X9 X10 X11 X12 X14 X15 (ix4 b n s ⟨p.val * 128 + l.val, by omega⟩) := by
  rw [val_main_v164_apply, val_main_v163_apply]
  have hb := b.isLt
  have hn := n.isLt
  have hp := p.isLt
  have hs := s.isLt
  have hl := l.isLt
  refine congrArg (val_main_v162 (F := Ideal) X0 X1 X2 X3 X8 X9 X10 X11 X12 X14 X15) (funext fun a => ?_)
  match a with
  | ⟨0, _⟩ => exact Fin.ext (by show ((((b.val * 6 + n.val) * 4096 + s.val) * 4 + p.val) * 128 + l.val) / 12582912 = b.val; omega)
  | ⟨1, _⟩ => exact Fin.ext (by show ((((b.val * 6 + n.val) * 4096 + s.val) * 4 + p.val) * 128 + l.val) / 2097152 % 6 = n.val; omega)
  | ⟨2, _⟩ => exact Fin.ext (by show ((((b.val * 6 + n.val) * 4096 + s.val) * 4 + p.val) * 128 + l.val) / 512 % 4096 = s.val; omega)
  | ⟨3, _⟩ => exact Fin.ext (by show ((((b.val * 6 + n.val) * 4096 + s.val) * 4 + p.val) * 128 + l.val) % 512 = p.val * 128 + l.val; omega)
theorem v162_0 (b : Fin 8) (s : Fin 4096) (d : Fin 512) : val_main_v162 (F := Ideal) X0 X1 X2 X3 X8 X9 X10 X11 X12 X14 X15 (ix4 b 0 s d) = val_main_v93 (F := Ideal) X0 X1 X2 X3 X8 (ix3 b s ⟨d.val, by omega⟩) := by
  pointwise [val_main_v94, val_main_v96, val_main_v156, val_main_v157, val_main_v158, val_main_v159, val_main_v160, val_main_v161, val_main_v162]
theorem v162_1 (b : Fin 8) (s : Fin 4096) (d : Fin 512) : val_main_v162 (F := Ideal) X0 X1 X2 X3 X8 X9 X10 X11 X12 X14 X15 (ix4 b 1 s d) = val_main_v113 (F := Ideal) X0 X1 X2 X3 X8 X9 X10 (ix3 b s d) := by
  pointwise [val_main_v94, val_main_v96, val_main_v156, val_main_v157, val_main_v158, val_main_v159, val_main_v160, val_main_v161, val_main_v162]
theorem v162_2 (b : Fin 8) (s : Fin 4096) (d : Fin 512) : val_main_v162 (F := Ideal) X0 X1 X2 X3 X8 X9 X10 X11 X12 X14 X15 (ix4 b 2 s d) = val_main_v153 (F := Ideal) X0 X1 X2 X3 X8 X11 X12 X15 (ix3 b s d) := by
  pointwise [val_main_v94, val_main_v96, val_main_v156, val_main_v157, val_main_v158, val_main_v159, val_main_v160, val_main_v161, val_main_v162]
theorem v162_3 (b : Fin 8) (s : Fin 4096) (d : Fin 512) : val_main_v162 (F := Ideal) X0 X1 X2 X3 X8 X9 X10 X11 X12 X14 X15 (ix4 b 3 s d) = val_main_v93 (F := Ideal) X0 X1 X2 X3 X8 (ix3 b s ⟨1024 + d.val, by omega⟩) := by
  pointwise [val_main_v94, val_main_v96, val_main_v156, val_main_v157, val_main_v158, val_main_v159, val_main_v160, val_main_v161, val_main_v162]
theorem v162_4 (b : Fin 8) (s : Fin 4096) (d : Fin 512) : val_main_v162 (F := Ideal) X0 X1 X2 X3 X8 X9 X10 X11 X12 X14 X15 (ix4 b 4 s d) = val_main_v154 (F := Ideal) X0 X1 X2 X3 X8 X14 (ix3 b s d) := by
  pointwise [val_main_v94, val_main_v96, val_main_v156, val_main_v157, val_main_v158, val_main_v159, val_main_v160, val_main_v161, val_main_v162]
theorem v162_5 (b : Fin 8) (s : Fin 4096) (d : Fin 512) : val_main_v162 (F := Ideal) X0 X1 X2 X3 X8 X9 X10 X11 X12 X14 X15 (ix4 b 5 s d) = val_main_v155 (F := Ideal) X0 X1 X2 X3 X8 X11 X12 X14 (ix3 b s d) := by
  pointwise [val_main_v94, val_main_v96, val_main_v156, val_main_v157, val_main_v158, val_main_v159, val_main_v160, val_main_v161, val_main_v162]
theorem v154_at (b : Fin 8) (s : Fin 4096) (d : Fin 512) : val_main_v154 (F := Ideal) X0 X1 X2 X3 X8 X14 (ix3 b s d) = -val_main_v144 (F := Ideal) X0 X1 X2 X3 X8 X14 (ix3 b s d) := val_main_v154_apply ..
theorem v155_at (b : Fin 8) (s : Fin 4096) (d : Fin 512) : val_main_v155 (F := Ideal) X0 X1 X2 X3 X8 X11 X12 X14 (ix3 b s d) = val_main_v144 (F := Ideal) X0 X1 X2 X3 X8 X14 (ix3 b s d) * val_main_v125 (F := Ideal) X0 X1 X2 X3 X8 X11 X12 (ix3 b s d) := val_main_v155_apply ..

end Cert.Proof.IpRefOut

end
-- ==== Proof.IpConst.lean ====
/- The rounded constants of the input projection as the real numbers they stand for. -/
module

public import Idealize.ShloMosaic.PureOps.Ideal

@[expose] public section

noncomputable section

namespace Cert.Proof.IpConst

open Idealize.ShloMosaic

theorem half : Ideal.ofBits .f32 0x3F000000#32 = ((1 / 2 : ℝ) : EReal) := by
  simp [Ideal.ofBits, Ideal.ieee, -EReal.coe_mul]; norm_num
theorem neg_half : Ideal.ofBits .f32 0xBF000000#32 = ((-(1 / 2) : ℝ) : EReal) := by
  simp [Ideal.ofBits, Ideal.ieee, -EReal.coe_mul, -EReal.coe_neg]; norm_num
theorem gelu_scale : Ideal.ofBits .f32 0x3F4C422A#32 = ((13386282 / 16777216 : ℝ) : EReal) := by
  simp [Ideal.ofBits, Ideal.ieee, -EReal.coe_mul]; norm_num
theorem gelu_inner : Ideal.ofBits .f32 0x3D372713#32 = ((12003091 / 268435456 : ℝ) : EReal) := by
  simp [Ideal.ofBits, Ideal.ieee, -EReal.coe_mul]; norm_num
/-- The floor of a head's norm. -/
theorem floor : Ideal.ofBits .f32 0x2B8CBCCC#32 = ((2305843 / 2305843009213693952 : ℝ) : EReal) := by
  simp [Ideal.ofBits, Ideal.ieee, -EReal.coe_mul]; norm_num
theorem top : Ideal.ofBits .f32 0x7F800000#32 = ⊤ := by
  simp [Ideal.ofBits, Ideal.ieee]

end Cert.Proof.IpConst

end
-- ==== Proof.IpScalar.lean ====
/- The kernel's spellings of three functions meet the reference's at real arguments. -/
module

public import proofs.«01_k».proof.Proof.IpConst
public import proofs.«01_k».proof.Proof.IpStage
public import proofs.«01_k».proof.Proof.IpRef

@[expose] public section

noncomputable section

namespace Cert.Proof.IpScalar

open Idealize.ShloMosaic Cert.Proof.IpSpec Cert.Proof.IpStage Cert.Proof.IpRef

theorem coe_max (a b : ℝ) : ((max a b : ℝ) : EReal) = max (a : EReal) (b : EReal) := EReal.coe_strictMono.monotone.map_max

/-- An extended real that is a real number. -/
def Real' (x : EReal) : Prop := ∃ r : ℝ, x = (r : EReal)

namespace Real'
theorem add {x y : EReal} (hx : Real' x) (hy : Real' y) : Real' (x + y) := by
  obtain ⟨a, rfl⟩ := hx; obtain ⟨b, rfl⟩ := hy; exact ⟨a + b, (EReal.coe_add a b).symm⟩
theorem sub {x y : EReal} (hx : Real' x) (hy : Real' y) : Real' (x - y) := by
  obtain ⟨a, rfl⟩ := hx; obtain ⟨b, rfl⟩ := hy; exact ⟨a - b, (EReal.coe_sub a b).symm⟩
theorem mul {x y : EReal} (hx : Real' x) (hy : Real' y) : Real' (x * y) := by
  obtain ⟨a, rfl⟩ := hx; obtain ⟨b, rfl⟩ := hy; exact ⟨a * b, (EReal.coe_mul a b).symm⟩
theorem zero : Real' 0 := ⟨0, rfl⟩
theorem one : Real' 1 := ⟨1, rfl⟩
theorem sum {n : Nat} {f : Fin n → EReal} (h : ∀ i, Real' (f i)) : Real' (∑ i, f i) :=
  Finset.sum_induction f Real' (fun _ _ => add) zero fun i _ => h i
theorem tanh {x : EReal} (hx : Real' x) : Real' (Ideal.tanh x) := by
  obtain ⟨a, rfl⟩ := hx; exact ⟨Real.tanh a, rfl⟩
theorem of_abs {x : EReal} (h : max x (-x) < ⊤) : Real' x := by
  induction x using EReal.rec with
  | bot => simp at h
  | top => simp at h
  | coe r => exact ⟨r, rfl⟩
end Real'

theorem gelu_eq {x : EReal} (hx : Real' x) : kgelu x = rgelu x := by
  obtain ⟨r, rfl⟩ := hx
  have hk : Named.named (F := Ideal) (φ := .f32) Cert.InprojIdeal.κ "gelu_cubic" 0x3D122279#32 = ((80338380498831 / 2251799813685248 : ℝ) : EReal) := rfl
  unfold kgelu rgelu
  rw [hk, IpConst.half, IpConst.gelu_scale, IpConst.gelu_inner]
  have e1 : (r : EReal) * (((13386282 / 16777216 : ℝ) : EReal) + ((80338380498831 / 2251799813685248 : ℝ) : EReal) * ((r : EReal) * (r : EReal)))
      = ((r * (13386282 / 16777216 + 80338380498831 / 2251799813685248 * (r * r)) : ℝ) : EReal) := by
    simp only [EReal.coe_mul, EReal.coe_add]
  have e2 : ((13386282 / 16777216 : ℝ) : EReal) * ((r : EReal) + ((12003091 / 268435456 : ℝ) : EReal) * ((r : EReal) * (r : EReal) * (r : EReal)))
      = ((13386282 / 16777216 * (r + 12003091 / 268435456 * (r * r * r)) : ℝ) : EReal) := by
    simp only [EReal.coe_mul, EReal.coe_add]
  rw [e1, e2]
  have e3 : r * (13386282 / 16777216 + 80338380498831 / 2251799813685248 * (r * r)) = 13386282 / 16777216 * (r + 12003091 / 268435456 * (r * r * r)) := by ring
  rw [e3]
  generalize 13386282 / 16777216 * (r + 12003091 / 268435456 * (r * r * r)) = y
  rw [Ideal.tanh_coe, show (1 : EReal) = ((1 : ℝ) : EReal) from rfl]
  simp only [← EReal.coe_mul, ← EReal.coe_add]
  exact congrArg _ (by ring)

theorem sg_coe (r : ℝ) : sg (r : EReal) = (((1 + Real.exp (-r))⁻¹ : ℝ) : EReal) := by
  unfold sg
  rw [zero_sub]
  exact Ideal.logistic_coe (r := r)

/-- The decay: the kernel's product of a logistic against the reference's softplus in the exponent. -/
theorem decay_eq {x : EReal} (hx : Real' x) : (0 - Ideal.exp (Ideal.ofBits .f32 0xBF000000#32)) * sg x = rlw x := by
  obtain ⟨r, rfl⟩ := hx
  rw [sg_coe, IpConst.neg_half, Ideal.exp_coe]
  unfold rlw
  rw [IpConst.half]
  have hsp : max (-(r : EReal)) 0 + Ideal.log1p (Ideal.exp (-FloatOps.absf (F := Ideal) (φ := .f32) (-(r : EReal)))) = ((Real.log (1 + Real.exp (-r)) : ℝ) : EReal) := by
    have ha : FloatOps.absf (F := Ideal) (φ := .f32) (-(r : EReal)) = ((|r| : ℝ) : EReal) := by
      show max (-(r : EReal)) (-(-(r : EReal))) = _
      rw [neg_neg, ← EReal.coe_neg, ← coe_max, max_comm]
      rfl
    rw [ha, ← EReal.coe_neg, ← EReal.coe_neg, Ideal.exp_coe, show (0 : EReal) = ((0 : ℝ) : EReal) from rfl, ← coe_max]
    have hl : Ideal.log1p ((Real.exp (-|r|) : ℝ) : EReal) = ((Real.log (1 + Real.exp (-|r|)) : ℝ) : EReal) := by
      show Ideal.log (((1 : ℝ) : EReal) + _) = _
      rw [← EReal.coe_add]
      show (if 1 + Real.exp (-|r|) ≤ 0 then ⊥ else ((Real.log (1 + Real.exp (-|r|)) : ℝ) : EReal)) = _
      rw [if_neg (by have := Real.exp_pos (-|r|); linarith)]
    rw [hl, ← EReal.coe_add]
    refine congrArg _ ?_
    rcases le_total 0 r with h | h
    · rw [abs_of_nonneg h, max_eq_right (by linarith), zero_add]
    · rw [abs_of_nonpos h, max_eq_left (by linarith), neg_neg]
      have h1 : 1 + Real.exp (-r) = Real.exp (-r) * (1 + Real.exp r) := by
        rw [mul_add, ← Real.exp_add, mul_one, neg_add_cancel, Real.exp_zero, add_comm]
      rw [h1, Real.log_mul (Real.exp_ne_zero _) (by have := Real.exp_pos r; linarith), Real.log_exp]
  rw [hsp, zero_sub, ← EReal.coe_neg, ← EReal.coe_neg, ← EReal.coe_sub, Ideal.exp_coe, ← EReal.coe_neg, ← EReal.coe_mul]
  refine congrArg _ ?_
  have hp : 0 < 1 + Real.exp (-r) := by have := Real.exp_pos (-r); linarith
  rw [show -Real.log (1 + Real.exp (-r)) - 1 / 2 = -(1 / 2) + -Real.log (1 + Real.exp (-r)) by ring, Real.exp_add, Real.exp_neg (Real.log _), Real.exp_log hp]
  ring

/-- The normalized head vector: the kernel multiplies by the floored reciprocal root, the reference divides by the floored root. -/
theorem norm_eq (x : EReal) {n : EReal} (hn : Real' n) (h0 : 0 ≤ n) : x * nrm n = Ideal.div x (max (Ideal.sqrt n) (Ideal.ofBits .f32 0x2B8CBCCC#32)) := by
  obtain ⟨r, rfl⟩ := hn
  have hr : 0 ≤ r := by exact_mod_cast h0
  have hk : Named.named (F := Ideal) (φ := .f32) Cert.InprojIdeal.κ "norm_floor" 0x179ABE15#32 = ((5316911940649 / 5316911983139663491615228241121378304 : ℝ) : EReal) := rfl
  unfold nrm
  rw [hk, IpConst.floor, Ideal.sqrt_coe, if_neg hr.not_gt, ← coe_max, ← coe_max, Ideal.rsqrt_coe]
  have hpos : (0 : ℝ) < max r (5316911940649 / 5316911983139663491615228241121378304) := lt_max_of_lt_right (by norm_num)
  have hd : (0 : ℝ) < max (Real.sqrt r) (2305843 / 2305843009213693952) := lt_max_of_lt_right (by norm_num)
  rw [if_neg hpos.not_gt, if_neg hpos.ne', Ideal.div_coe hd.ne', one_div]
  have e : Real.sqrt (max r (5316911940649 / 5316911983139663491615228241121378304)) = max (Real.sqrt r) (2305843 / 2305843009213693952) := by
    rw [show (5316911940649 / 5316911983139663491615228241121378304 : ℝ) = (2305843 / 2305843009213693952) ^ 2 by norm_num]
    rcases le_total r ((2305843 / 2305843009213693952) ^ 2) with h | h
    · rw [max_eq_right h, Real.sqrt_sq (by norm_num), max_eq_right]
      exact (Real.sqrt_le_left (by norm_num)).mpr h
    · rw [max_eq_left h, max_eq_left]
      exact Real.le_sqrt_of_sq_le h
  rw [e]

end Cert.Proof.IpScalar

end
-- ==== Proof.IpVal.lean ====
/- The values a block of 256 tokens computes, against the reference's values at those tokens. -/
module

public import proofs.«01_k».proof.Proof.IpStage
public import proofs.«01_k».proof.Proof.IpRefOut
public import proofs.«01_k».proof.Proof.IpScalar

@[expose] public section

set_option maxRecDepth 16384

noncomputable section

namespace Cert.Proof.IpVal

open Idealize.ShloMosaic Idealize.ShloMosaic.TcCoe Idealize.SL.Sem
open Cert.InprojIdeal Cert.InprojIdeal.Gen Cert.Proof.IpScalar Cert.Proof.IpSpec Cert.Proof.IpStage Cert.Proof.IpRef Cert.Proof.IpRefOut

/-- A sum whose terms outside a window vanish is the sum over the window. -/
theorem sum_window {n N : Nat} (o : Nat) (h : o + n ≤ N) (f : Fin N → EReal) (hz : ∀ k : Fin N, k.val < o ∨ o + n ≤ k.val → f k = 0) :
    ∑ k, f k = ∑ k : Fin n, f ⟨o + k.val, by omega⟩ := by
  refine (Fintype.sum_of_injective (fun k : Fin n => (⟨o + k.val, by omega⟩ : Fin N)) ?_ (fun k => f ⟨o + k.val, by omega⟩) f ?_ fun _ => rfl).symm
  · intro a b hab
    have := congrArg Fin.val hab
    exact Fin.ext (by simpa using this)
  · intro k hk
    refine hz k ?_
    by_contra hc
    refine hk ⟨⟨k.val - o, by omega⟩, Fin.ext ?_⟩
    show o + (k.val - o) = k.val
    omega

/-- A block of tokens: the argument arrays, and what the kernel's windows hold of them. -/
structure Blk where
  X0 : FVec Ideal S8x4096x1024 .f32
  X1 : FVec Ideal S8x6144 .f32
  X2 : FVec Ideal S1024x4864 .bf16
  X3 : FVec Ideal S1x4768 .f32
  X4 : FVec Ideal S1x512 .f32
  X5 : FVec Ideal S1x512 .f32
  X6 : FVec Ideal S1x8x128x128 .f32
  X7 : FVec Ideal S1x8x128 .f32
  X8 : FVec Ideal S1x1696 .f32
  X9 : FVec Ideal S1x512 .f32
  X10 : FVec Ideal S1x32x512 .f32
  X11 : FVec Ideal S1x512 .f32
  X12 : FVec Ideal S1x32x512 .f32
  X13 : FVec Ideal S1x96x512 .f32
  X14 : FVec Ideal S1x512 .f32
  X15 : FVec Ideal S1x512 .f32
  X16 : FVec Ideal S1x512x1024 .f32
  b : Fin 8
  q : Nat
  S : Fin 256 → Fin 4096
  hS : ∀ r, (S r).val = q * 256 + r.val
  v3 : Vec Ideal S1x1x1024 .f32
  v5 : Vec Ideal S1x1x1024 .f32
  x : Vec Ideal S1x256x1024 .f32
  h3 : ∀ k, v3 (ix3 0 0 k) = X1 (ix2 b ⟨k.val, by omega⟩)
  h5 : ∀ k, v5 (ix3 0 0 k) = X1 (ix2 b ⟨1024 + k.val, by omega⟩)
  hx : ∀ r k, x (ix3 0 r k) = X0 (ix3 b (S r) k)
  wR : Vec Ideal S1024x1792 .bf16
  bR : Vec Ideal S1x1792 .f32
  hwR : ∀ k j, wR (ix2 k j) = X2 (ix2 k ⟨1024 + j.val, by omega⟩)
  hbR : ∀ j : Fin 1696, bR (ix2 0 ⟨j.val, by omega⟩) = X3 (ix2 0 ⟨1024 + j.val, by omega⟩)
  wU : Vec Ideal S1024x512 .bf16
  bU : Vec Ideal S1x512 .f32
  hwU : ∀ k j, wU (ix2 k j) = X2 (ix2 k ⟨j.val, by omega⟩)
  hbU : ∀ j, bU (ix2 0 j) = X3 (ix2 0 ⟨j.val, by omega⟩)
  wV : Vec Ideal S1024x512 .bf16
  bV : Vec Ideal S1x512 .f32
  hwV : ∀ k j, wV (ix2 k j) = X2 (ix2 k ⟨512 + j.val, by omega⟩)
  hbV : ∀ j, bV (ix2 0 j) = X3 (ix2 0 ⟨512 + j.val, by omega⟩)
  wA : Vec Ideal S1024x1024 .bf16
  bA : Vec Ideal S1x1024 .f32
  hwA : ∀ k j, wA (ix2 k j) = X2 (ix2 k ⟨2816 + j.val, by omega⟩)
  hbA : ∀ j, bA (ix2 0 j) = X3 (ix2 0 ⟨2720 + j.val, by omega⟩)
  wB : Vec Ideal S1024x1024 .bf16
  bB : Vec Ideal S1x1024 .f32
  hwB : ∀ k j, wB (ix2 k j) = X2 (ix2 k ⟨2816 + (1024 + j.val), by omega⟩)
  hbB : ∀ j, bB (ix2 0 j) = X3 (ix2 0 ⟨2720 + (1024 + j.val), by omega⟩)
  g4 : Vec Ideal S1x512 .f32
  h4 : ∀ j, g4 (ix2 0 j) = X4 (ix2 0 j)
  g5 : Vec Ideal S1x512 .f32
  h5' : ∀ j, g5 (ix2 0 j) = X5 (ix2 0 j)
  s0 : Vec Ideal S1x128x256 .f32
  s1 : Vec Ideal S1x128x256 .f32
  s2 : Vec Ideal S1x128x256 .f32
  s3 : Vec Ideal S1x128x256 .f32
  hs0 : ∀ t s, s0 (ix3 0 t s) = X6 (ix4 0 ⟨0 * 2 + s.val / 128, by omega⟩ t ⟨s.val % 128, by omega⟩)
  hs1 : ∀ t s, s1 (ix3 0 t s) = X6 (ix4 0 ⟨1 * 2 + s.val / 128, by omega⟩ t ⟨s.val % 128, by omega⟩)
  hs2 : ∀ t s, s2 (ix3 0 t s) = X6 (ix4 0 ⟨2 * 2 + s.val / 128, by omega⟩ t ⟨s.val % 128, by omega⟩)
  hs3 : ∀ t s, s3 (ix3 0 t s) = X6 (ix4 0 ⟨3 * 2 + s.val / 128, by omega⟩ t ⟨s.val % 128, by omega⟩)
  bs : Vec Ideal S128x512 .f32
  hbs : ∀ r e, bs (ix2 r e) = X7 (ix3 0 ⟨e.val / 64, by omega⟩ r)
  mu : Vec Ideal S1x1792 .f32
  hmu : ∀ j : Fin 1696, mu (ix2 0 ⟨j.val, by omega⟩) = X8 (ix2 0 j)
  g9 : Vec Ideal S1x512 .f32
  h9 : ∀ j, g9 (ix2 0 j) = X9 (ix2 0 j)
  g10 : Vec Ideal S1x512 .f32
  h10 : ∀ j, g10 (ix2 0 j) = X11 (ix2 0 j)
  up : Vec Ideal S256x1536 .bf16
  hup : ∀ (i : Fin 256) (j : Fin 1536), up (ix2 i j) =
    (if h : (64 ≤ i.val ∧ i.val < 64 + 96) ∧ 1024 ≤ j.val ∧ j.val < 1024 + 512 then X13 (ix3 0 ⟨i.val - 64, by omega⟩ ⟨j.val - 1024, by omega⟩)
    else if h : (32 ≤ i.val ∧ i.val < 32 + 32) ∧ 512 ≤ j.val ∧ j.val < 512 + 512 then X12 (ix3 0 ⟨i.val - 32, by omega⟩ ⟨j.val - 512, by omega⟩)
    else if h : (0 ≤ i.val ∧ i.val < 0 + 32) ∧ 0 ≤ j.val ∧ j.val < 0 + 512 then X10 (ix3 0 ⟨i.val - 0, by omega⟩ ⟨j.val - 0, by omega⟩) else 0 : EReal)
  g12 : Vec Ideal S1x512 .f32
  h12 : ∀ j, g12 (ix2 0 j) = X14 (ix2 0 j)
  g13 : Vec Ideal S1x512 .f32
  h13 : ∀ j, g13 (ix2 0 j) = X15 (ix2 0 j)
  bd : Vec Ideal S512x512 .bf16
  hbd : ∀ i j : Fin 512, bd (ix2 i j) = (if i.val / 64 = j.val / 64 then 1 else 0 : EReal)
  wb : Vec Ideal S512x1024 .bf16
  hwb : ∀ i j, wb (ix2 i j) = X16 (ix3 0 i j)

/-- The arguments are real numbers. -/
structure Blk.Finite (B : Blk) : Prop where
  r0 : ∀ i, Real' (B.X0 i)
  r1 : ∀ i, Real' (B.X1 i)
  r2 : ∀ i, Real' (B.X2 i)
  r3 : ∀ i, Real' (B.X3 i)
  r8 : ∀ i, Real' (B.X8 i)
  r9 : ∀ i, Real' (B.X9 i)
  r10 : ∀ i, Real' (B.X10 i)
  r14 : ∀ i, Real' (B.X14 i)

namespace Blk

variable (B : Blk)

abbrev hh (r : Fin 256) (k : Fin 1024) : EReal := IpRef.hh B.X0 B.X1 B.b (B.S r) k
abbrev pl (s : Fin 4096) (j : Fin 2720) : EReal := IpRef.pl B.X0 B.X1 B.X2 B.X3 B.b s j
abbrev ph (s : Fin 4096) (j : Fin 2048) : EReal := IpRef.ph B.X0 B.X1 B.X2 B.X3 B.b s j
abbrev zz (s : Fin 4096) (j : Fin 1696) : EReal := IpRef.zz B.X0 B.X1 B.X2 B.X3 B.X8 B.b s j

theorem h0r (r : Fin 256) (k : Fin 1024) : k0_pay5 B.v3 B.v5 B.x (ix2 r k) = B.hh r k := by
  refine (IpStage.h0 ..).trans ?_
  rw [B.h3, B.h5, B.hx]; rfl
theorem h1r (r : Fin 256) (k : Fin 1024) : k0_pay6 B.v3 B.v5 B.x (ix2 r k) = B.hh r k := by
  refine (IpStage.h1 ..).trans ?_
  rw [B.h3, B.h5, B.hx]; rfl

section rows
variable (h : FVec Ideal S256x1024 .bf16) (hh' : ∀ r k, h (ix2 r k) = B.hh r k) (r : Fin 256)
include hh'
theorem rowR (j : Fin 1696) : (∑ k, h (ix2 r k) * B.wR (ix2 k ⟨j.val, by omega⟩) + B.bR (ix2 0 ⟨j.val, by omega⟩) : EReal) = B.pl (B.S r) ⟨1024 + j.val, by omega⟩ := by
  rw [B.hbR]
  simp only [hh', B.hwR]
  rfl
theorem rowU (j : Fin 512) : (∑ k, h (ix2 r k) * B.wU (ix2 k j) + B.bU (ix2 0 j) : EReal) = B.pl (B.S r) ⟨j.val, by omega⟩ := by
  rw [B.hbU]
  simp only [hh', B.hwU]
  rfl
theorem rowV (j : Fin 512) : (∑ k, h (ix2 r k) * B.wV (ix2 k j) + B.bV (ix2 0 j) : EReal) = B.pl (B.S r) ⟨512 + j.val, by omega⟩ := by
  rw [B.hbV]
  simp only [hh', B.hwV]
  rfl
theorem rowA (j : Fin 1024) : (∑ k, h (ix2 r k) * B.wA (ix2 k j) + B.bA (ix2 0 j) : EReal) = B.ph (B.S r) ⟨j.val, by omega⟩ := by
  rw [B.hbA]
  simp only [hh', B.hwA]
  rfl
theorem rowB (j : Fin 1024) : (∑ k, h (ix2 r k) * B.wB (ix2 k j) + B.bB (ix2 0 j) : EReal) = B.ph (B.S r) ⟨1024 + j.val, by omega⟩ := by
  rw [B.hbB]
  simp only [hh', B.hwB]
  rfl
end rows

/-- What the row before each row projects to; nothing before the first token. -/
def Prev (p : Vec Ideal S256x1792 .f32) : Prop := ∀ (r : Fin 256) (j : Fin 1696), p (ix2 r ⟨j.val, by omega⟩) =
  (if h : (B.S r).val = 0 then 0 else B.pl ⟨(B.S r).val - 1, by omega⟩ ⟨1024 + j.val, by omega⟩ : EReal)
/-- The lanes after the token shift. -/
def Lanes (z : FVec Ideal S256x1792 .f32) : Prop := ∀ (r : Fin 256) (j : Fin 1696), z (ix2 r ⟨j.val, by omega⟩) = B.zz (B.S r) j

theorem zr0v (r : Fin 256) (j : Fin 1696) : k0_pay7 B.v3 B.v5 B.x B.wR B.bR (ix2 r ⟨j.val, by omega⟩) = B.pl (B.S r) ⟨1024 + j.val, by omega⟩ :=
  (IpStage.zr0 ..).trans (B.rowR _ B.h0r r j)
theorem zr1v (r : Fin 256) (j : Fin 1696) : k0_pay9 (k0_pay8 B.v3 B.v5 B.x B.wR) B.bR (ix2 r ⟨j.val, by omega⟩) = B.pl (B.S r) ⟨1024 + j.val, by omega⟩ :=
  (IpStage.zr1 ..).trans (B.rowR _ B.h1r r j)
theorem lanes0 (p : Vec Ideal S256x1792 .f32) (hp : B.Prev p) : B.Lanes (k0_pay18 (k0_pay7 B.v3 B.v5 B.x B.wR B.bR) p B.mu) := by
  intro r j
  refine (IpStage.z0 ..).trans ?_
  rw [B.zr0v, hp r j, B.hmu]
  rfl
theorem lanes1 (p : Vec Ideal S256x1792 .f32) (hp : B.Prev p) : B.Lanes (k0_pay19 (k0_pay9 (k0_pay8 B.v3 B.v5 B.x B.wR) B.bR) p B.mu) := by
  intro r j
  refine (IpStage.z1 ..).trans ?_
  rw [B.zr1v, hp r j, B.hmu]
  rfl

/-- The low-rank lanes after their activations, through the second factors. -/
def Up (u : FVec Ideal S256x1536 .f32) : Prop := ∃ z, B.Lanes z ∧ ∀ (r : Fin 256) (j : Fin 1536), u (ix2 r j) =
  (∑ k : Fin 256, lact k (z (ix2 r ⟨1536 + k.val, by omega⟩)) * B.up (ix2 k j) : EReal)
theorem up0v (p : Vec Ideal S256x1792 .f32) (hp : B.Prev p) : B.Up (k0_pay28 (k0_pay21 (k0_pay7 B.v3 B.v5 B.x B.wR B.bR) p B.mu) B.up) := by
  refine ⟨_, B.lanes0 p hp, fun r j => (IpStage.up0 ..).trans (Finset.sum_congr rfl fun k _ => congrArg (· * B.up (ix2 k j)) ?_)⟩
  exact IpStage.lin0 ..
theorem up1v (p : Vec Ideal S256x1792 .f32) (hp : B.Prev p) : B.Up (k0_pay29 (iota .tc S256x256 32 [1] iota_S256x256_d1_w32) (k0_pay22 (k0_pay9 (k0_pay8 B.v3 B.v5 B.x B.wR) B.bR) p B.mu) k0_pay23 (k0_pay24 (k0_pay9 (k0_pay8 B.v3 B.v5 B.x B.wR) B.bR) p B.mu) k0_pay25 B.up) :=
  ⟨_, B.lanes1 p hp, fun r j => IpStage.up1 ..⟩

section ups
variable (u : FVec Ideal S256x1536 .f32) (hu : B.Up u) (r : Fin 256) (d : Fin 512)
include hu
theorem up_w : (u (ix2 r ⟨d.val, by omega⟩) : EReal) = ∑ k : Fin 32, Ideal.tanh (B.zz (B.S r) ⟨1536 + k.val, by omega⟩) * B.X10 (ix3 0 k d) := by
  obtain ⟨z, hz, hu⟩ := hu
  rw [hu, sum_window (n := 32) 0 (by omega)]
  · refine Finset.sum_congr rfl fun k _ => ?_
    rw [B.hup, dif_neg (by simp only; omega), dif_neg (by simp only; omega), dif_pos (by simp only; omega)]
    have e : lact ⟨0 + k.val, by omega⟩ (z (ix2 r ⟨1536 + (0 + k.val), by omega⟩)) = Ideal.tanh (B.zz (B.S r) ⟨1536 + k.val, by omega⟩) := by
      unfold lact
      rw [if_pos (by simp only; omega)]
      refine congrArg Ideal.tanh (Eq.trans ?_ (hz r ⟨1536 + k.val, by omega⟩))
      exact congrArg (fun i => z (ix2 r i)) (Fin.ext (by simp))
    rw [e]
    exact congrArg (fun i => Ideal.tanh (B.zz (B.S r) ⟨1536 + k.val, by omega⟩) * B.X10 (ix3 0 i d)) (Fin.ext (by simp))
  · intro k hk
    rw [B.hup, dif_neg (by simp only; omega), dif_neg (by simp only; omega), dif_neg (by simp only; omega), mul_zero]
theorem up_a : (u (ix2 r ⟨512 + d.val, by omega⟩) : EReal) = ∑ k : Fin 32, B.zz (B.S r) ⟨1568 + k.val, by omega⟩ * B.X12 (ix3 0 k d) := by
  obtain ⟨z, hz, hu⟩ := hu
  rw [hu, sum_window (n := 32) 32 (by omega)]
  · refine Finset.sum_congr rfl fun k _ => ?_
    rw [B.hup, dif_neg (by simp only; omega), dif_pos (by simp only; omega)]
    have e : lact ⟨32 + k.val, by omega⟩ (z (ix2 r ⟨1536 + (32 + k.val), by omega⟩)) = B.zz (B.S r) ⟨1568 + k.val, by omega⟩ := by
      unfold lact
      rw [if_neg (by simp only; omega), if_pos (by simp only; omega)]
      refine Eq.trans ?_ (hz r ⟨1568 + k.val, by omega⟩)
      exact congrArg (fun i => z (ix2 r i)) (Fin.ext (by simp only; omega))
    rw [e]
    refine congrArg (fun i => B.zz (B.S r) ⟨1568 + k.val, by omega⟩ * B.X12 i) ?_
    exact congrArg₂ (fun i j => ix3 (0 : Fin 1) i j) (Fin.ext (by simp)) (Fin.ext (by simp))
  · intro k hk
    rw [B.hup, dif_neg (by simp only; omega), dif_neg (by simp only; omega), dif_neg (by simp only; omega), mul_zero]
theorem up_g : (u (ix2 r ⟨1024 + d.val, by omega⟩) : EReal) = ∑ k : Fin 96, sg (B.zz (B.S r) ⟨1600 + k.val, by omega⟩) * B.X13 (ix3 0 k d) := by
  obtain ⟨z, hz, hu⟩ := hu
  rw [hu, sum_window (n := 96) 64 (by omega)]
  · refine Finset.sum_congr rfl fun k _ => ?_
    rw [B.hup, dif_pos (by simp only; omega)]
    have e : lact ⟨64 + k.val, by omega⟩ (z (ix2 r ⟨1536 + (64 + k.val), by omega⟩)) = sg (B.zz (B.S r) ⟨1600 + k.val, by omega⟩) := by
      unfold lact
      rw [if_neg (by simp only; omega), if_neg (by simp only; omega)]
      refine congrArg sg (Eq.trans ?_ (hz r ⟨1600 + k.val, by omega⟩))
      exact congrArg (fun i => z (ix2 r i)) (Fin.ext (by simp only; omega))
    rw [e]
    refine congrArg (fun i => sg (B.zz (B.S r) ⟨1600 + k.val, by omega⟩) * B.X13 i) ?_
    exact congrArg₂ (fun i j => ix3 (0 : Fin 1) i j) (Fin.ext (by simp)) (Fin.ext (by simp))
  · intro k hk
    rw [B.hup, dif_neg (by simp only; omega), dif_neg (by simp only; omega), dif_neg (by simp only; omega), mul_zero]
end ups

end Blk

end Cert.Proof.IpVal

end
-- ==== Proof.IpVal2.lean ====
/- The results a block of 256 tokens stores, against the reference's values at those tokens. -/
module

public import proofs.«01_k».proof.Proof.IpVal

@[expose] public section

set_option maxRecDepth 16384

noncomputable section

namespace Cert.Proof.IpVal.Blk

open Idealize.ShloMosaic Idealize.ShloMosaic.TcCoe Idealize.SL.Sem
open Cert.InprojIdeal Cert.InprojIdeal.Gen Cert.Proof.IpScalar Cert.Proof.IpSpec Cert.Proof.IpStage Cert.Proof.IpRef Cert.Proof.IpRefOut
open Cert.InprojRefIdeal.Read (val_main_v68 val_main_v84 val_main_v93 val_main_v113 val_main_v125 val_main_v133 val_main_v137 val_main_v144 val_main_v153 val_main_v154 val_main_v155 val_main_v177 val_main_v184 val_main_v185)

variable (B : Blk)

section real
variable (R : B.Finite)
include R
theorem pl_real (s : Fin 4096) (j : Fin 2720) : Real' (B.pl s j) := by
  show Real' (IpRef.pl B.X0 B.X1 B.X2 B.X3 B.b s j)
  unfold IpRef.pl IpRef.hh
  exact (Real'.sum fun k => (((R.r0 _).mul (Real'.one.add (R.r1 _))).add (R.r1 _)).mul (R.r2 _)).add (R.r3 _)
theorem zz_real (s : Fin 4096) (j : Fin 1696) : Real' (B.zz s j) := by
  show Real' (IpRef.zz B.X0 B.X1 B.X2 B.X3 B.X8 B.b s j)
  unfold IpRef.zz
  refine (B.pl_real R _ _).add ((Real'.sub ?_ (B.pl_real R _ _)).mul (R.r8 _))
  split
  · exact Real'.zero
  · exact B.pl_real R _ _
end real

abbrev w68 (s : Fin 4096) (d : Fin 512) : EReal := val_main_v68 (F := Ideal) B.X0 B.X1 B.X2 B.X3 B.X4 B.X5 (ix3 B.b s d)
abbrev w84 (s : Fin 4096) (d : Fin 512) : EReal := val_main_v84 (F := Ideal) B.X0 B.X1 B.X2 B.X3 B.X4 B.X5 B.X6 B.X7 (ix3 B.b s d)
abbrev w93 (s : Fin 4096) (j : Fin 1696) : EReal := val_main_v93 (F := Ideal) B.X0 B.X1 B.X2 B.X3 B.X8 (ix3 B.b s j)
abbrev w113 (s : Fin 4096) (d : Fin 512) : EReal := val_main_v113 (F := Ideal) B.X0 B.X1 B.X2 B.X3 B.X8 B.X9 B.X10 (ix3 B.b s d)
abbrev w125 (s : Fin 4096) (d : Fin 512) : EReal := val_main_v125 (F := Ideal) B.X0 B.X1 B.X2 B.X3 B.X8 B.X11 B.X12 (ix3 B.b s d)
abbrev w137 (s : Fin 4096) (d : Fin 512) : EReal := val_main_v137 (F := Ideal) B.X0 B.X1 B.X2 B.X3 B.X8 B.X14 (ix3 B.b s d)
abbrev w144 (s : Fin 4096) (d : Fin 512) : EReal := val_main_v144 (F := Ideal) B.X0 B.X1 B.X2 B.X3 B.X8 B.X14 (ix3 B.b s d)
abbrev w153 (s : Fin 4096) (d : Fin 512) : EReal := val_main_v153 (F := Ideal) B.X0 B.X1 B.X2 B.X3 B.X8 B.X11 B.X12 B.X15 (ix3 B.b s d)
abbrev w154 (s : Fin 4096) (d : Fin 512) : EReal := val_main_v154 (F := Ideal) B.X0 B.X1 B.X2 B.X3 B.X8 B.X14 (ix3 B.b s d)
abbrev w155 (s : Fin 4096) (d : Fin 512) : EReal := val_main_v155 (F := Ideal) B.X0 B.X1 B.X2 B.X3 B.X8 B.X11 B.X12 B.X14 (ix3 B.b s d)
abbrev w177 (s : Fin 4096) (d : Fin 1024) : EReal := val_main_v177 (F := Ideal) B.X0 B.X1 B.X2 B.X3 B.X4 B.X5 B.X6 B.X7 B.X16 (ix3 B.b s d)
abbrev w184 (s : Fin 4096) (d : Fin 1024) : EReal := val_main_v184 (F := Ideal) B.X0 B.X1 B.X2 B.X3 (ix3 B.b s d)
abbrev w185 (s : Fin 4096) (d : Fin 512) : EReal := val_main_v185 (F := Ideal) B.X0 B.X1 B.X2 B.X3 B.X8 B.X13 (ix3 B.b s d)

/-- The output gate of the recurrence. -/
theorem g_eq (u : FVec Ideal S256x1536 .f32) (hu : B.Up u) (r : Fin 256) (d : Fin 512) : (u (ix2 r ⟨1024 + d.val, by omega⟩) : EReal) = B.w185 (B.S r) d :=
  (B.up_g u hu r d).trans ((v185_at ..).trans (v133_at ..)).symm
/-- The logarithm of the decay. -/
theorem lw_eq (R : B.Finite) (u : FVec Ideal S256x1536 .f32) (hu : B.Up u) (r : Fin 256) (d : Fin 512) :
    (0 - Ideal.exp (Ideal.ofBits .f32 0xBF000000#32)) * sg (B.g9 (ix2 0 d) + u (ix2 r ⟨d.val, by omega⟩)) = B.w113 (B.S r) d := by
  have e : (B.g9 (ix2 0 d) + u (ix2 r ⟨d.val, by omega⟩) : EReal) = B.X9 (ix2 0 d) + ∑ k : Fin 32, Ideal.tanh (B.zz (B.S r) ⟨1536 + k.val, by omega⟩) * B.X10 (ix3 0 k d) := by
    rw [B.h9]
    exact congrArg (fun y : EReal => B.X9 (ix2 0 d) + y) (B.up_w u hu r d)
  refine (congrArg (fun y : EReal => (0 - Ideal.exp (Ideal.ofBits .f32 0xBF000000#32)) * sg y) e).trans ((decay_eq ?_).trans (v113_at ..).symm)
  exact (R.r9 _).add (Real'.sum fun k => (B.zz_real R _ _).tanh.mul (R.r10 _))
/-- The in-context rate. -/
theorem a_eq (u : FVec Ideal S256x1536 .f32) (hu : B.Up u) (r : Fin 256) (d : Fin 512) :
    sg (B.g10 (ix2 0 d) + u (ix2 r ⟨512 + d.val, by omega⟩)) = B.w125 (B.S r) d := by
  refine Eq.trans (congrArg sg ?_) (v125_at ..).symm
  rw [B.h10]
  exact congrArg (fun y : EReal => B.X11 (ix2 0 d) + y) (B.up_a u hu r d)
/-- The key before its head norm. -/
theorem kk_eq (z : FVec Ideal S256x1792 .f32) (hz : B.Lanes z) (r : Fin 256) (d : Fin 512) :
    (z (ix2 r ⟨512 + d.val, by omega⟩) * B.g12 (ix2 0 d) : EReal) = B.w137 (B.S r) d := by
  refine Eq.trans ?_ (v137_at ..).symm
  rw [B.h12]
  exact congrArg (fun y : EReal => y * B.X14 (ix2 0 d)) (hz r ⟨512 + d.val, by omega⟩)
/-- A sum over all lanes through the heads' mask is the sum over the lane's head. -/
theorem head_sum (f : Fin 512 → EReal) (d : Fin 512) : (∑ e, f e * B.bd (ix2 e d) : EReal) = ∑ x : Fin 64, f ⟨d.val / 64 * 64 + x.val, by omega⟩ := by
  rw [sum_window (n := 64) (d.val / 64 * 64) (by omega)]
  · refine Finset.sum_congr rfl fun x _ => ?_
    rw [B.hbd, if_pos (by simp only; omega)]
    exact mul_one _
  · intro k hk
    rw [B.hbd, if_neg (by omega)]
    exact mul_zero _
theorem sq_nonneg' {x : EReal} (h : Real' x) : 0 ≤ x * x := by
  obtain ⟨a, rfl⟩ := h
  rw [← EReal.coe_mul]
  exact_mod_cast mul_self_nonneg a
theorem w137_real (R : B.Finite) (s : Fin 4096) (d : Fin 512) : Real' (B.w137 s d) := by
  have e : B.w137 s d = _ := v137_at ..
  rw [e]
  exact (B.zz_real R _ _).mul (R.r14 _)
/-- The normed key. -/
theorem kkn_eq (R : B.Finite) (k n : FVec Ideal S256x512 .f32) (hk : ∀ r d, k (ix2 r d) = B.w137 (B.S r) d)
    (hn : ∀ r d, n (ix2 r d) = ∑ e, k (ix2 r e) * k (ix2 r e) * B.bd (ix2 e d)) (r : Fin 256) (d : Fin 512) :
    (k (ix2 r d) * nrm (n (ix2 r d)) : EReal) = B.w144 (B.S r) d := by
  refine Eq.trans ?_ (v144_at ..).symm
  have e : (n (ix2 r d) : EReal) = ∑ x : Fin 64, B.w137 (B.S r) ⟨d.val / 64 * 64 + x.val, by omega⟩ * B.w137 (B.S r) ⟨d.val / 64 * 64 + x.val, by omega⟩ := by
    rw [hn]
    simp only [hk]
    exact B.head_sum (fun e => B.w137 (B.S r) e * B.w137 (B.S r) e) d
  rw [e, hk]
  exact norm_eq _ (Real'.sum fun x => (B.w137_real R _ _).mul (B.w137_real R _ _)) (Finset.sum_nonneg fun x _ => sq_nonneg' (B.w137_real R _ _))
/-- The key fed to the recurrence. -/
theorem k2_eq (z : FVec Ideal S256x1792 .f32) (hz : B.Lanes z) (r : Fin 256) (d : Fin 512) (a : EReal) (ha : a = B.w125 (B.S r) d) :
    (z (ix2 r ⟨512 + d.val, by omega⟩) * (1 + (a - 1) * B.g13 (ix2 0 d)) : EReal) = B.w153 (B.S r) d := by
  refine Eq.trans ?_ (v153_at ..).symm
  rw [ha, B.h13]
  exact congrArg (fun y : EReal => y * (1 + (B.w125 (B.S r) d - 1) * B.X15 (ix2 0 d))) (hz r ⟨512 + d.val, by omega⟩)

section gates
variable (R : B.Finite)
include R
/-- The first half's lane after its activation. -/
theorem u_eq (z : FVec Ideal S256x512 .f32) (hz : ∀ r j, z (ix2 r j) = B.pl (B.S r) ⟨j.val, by omega⟩) (r : Fin 256) (j : Fin 512) :
    kgelu (z (ix2 r j)) = rgelu (B.pl (B.S r) ⟨j.val, by omega⟩) := by
  rw [hz]
  exact gelu_eq (B.pl_real R _ _)
/-- The second half's normed lane. -/
theorem v_eq (z : FVec Ideal S256x512 .f32) (hz : ∀ r j, z (ix2 r j) = B.pl (B.S r) ⟨512 + j.val, by omega⟩) (r : Fin 256) (j : Fin 512) :
    ln0 (fun e => kgelu (z (ix2 r e))) j * B.g4 (ix2 0 j) + B.g5 (ix2 0 j) = B.w68 (B.S r) j := by
  refine Eq.trans ?_ (v68_at ..).symm
  have e : (fun e => kgelu (z (ix2 r e))) = fun e : Fin 512 => rgelu (B.pl (B.S r) ⟨512 + e.val, by omega⟩) := by
    funext e
    rw [hz]
    exact gelu_eq (B.pl_real R _ _)
  rw [e, B.h4, B.h5']
end gates

/-- The causal mix weights of each pair of heads. -/
abbrev XS (q : Fin 4) (t : Fin 128) (s : Fin 256) : EReal := B.X6 (ix4 0 ⟨q.val * 2 + s.val / 128, by omega⟩ t ⟨s.val % 128, by omega⟩)
theorem y_eq (u v : Fin 256 → Fin 512 → EReal) (hu : ∀ r j, u r j = rgelu (B.pl (B.S r) ⟨j.val, by omega⟩)) (hv : ∀ r j, v r j = B.w68 (B.S r) j) (r : Fin 256) (e : Fin 512) :
    yaRow B.XS u v (fun t e => B.bs (ix2 t e)) r e = B.w84 (B.S r) e := by
  refine Eq.trans ?_ (v84_at ..).symm
  unfold yaRow
  have hr := B.hS r
  rw [hu]
  beta_reduce
  rw [B.hbs]
  have e1 : (⟨(B.S r).val % 128, by omega⟩ : Fin 128) = ⟨r.val % 128, by omega⟩ := Fin.ext (by simp only; omega)
  rw [e1]
  refine congrArg (fun y : EReal => rgelu (B.pl (B.S r) ⟨e.val, by omega⟩) * (y + B.X7 (ix3 0 ⟨e.val / 64, by omega⟩ ⟨r.val % 128, by omega⟩))) ?_
  refine Finset.sum_congr rfl fun s _ => ?_
  rw [hv, mul_comm]
  have e2 : B.S ⟨r.val / 128 * 128 + s.val, by omega⟩ = ⟨(B.S r).val / 128 * 128 + s.val, by omega⟩ := Fin.ext (by rw [B.hS]; simp only; omega)
  rw [e2]
  have e3 : (B.S r).val % 128 = r.val % 128 := by omega
  rw [e3]
  refine congrArg (fun y : EReal => B.w68 ⟨(B.S r).val / 128 * 128 + s.val, by omega⟩ e * (if s.val ≤ r.val % 128 then y else 0)) ?_
  have e4 : (⟨e.val / 128 * 2 + (e.val % 128 / 64 * 128 + s.val) / 128, by omega⟩ : Fin 8) = ⟨e.val / 64, by omega⟩ := Fin.ext (by simp only; omega)
  have e5 : (⟨(e.val % 128 / 64 * 128 + s.val) % 128, by omega⟩ : Fin 128) = s := Fin.ext (by simp only; omega)
  show B.X6 (ix4 0 ⟨e.val / 128 * 2 + (e.val % 128 / 64 * 128 + s.val) / 128, by omega⟩ ⟨r.val % 128, by omega⟩ ⟨(e.val % 128 / 64 * 128 + s.val) % 128, by omega⟩) = _
  rw [e4, e5]
theorem ma_eq (r : Fin 256) (d : Fin 1024) (z y : EReal) (hz : z = B.ph (B.S r) ⟨d.val, by omega⟩) (f : Fin 512 → EReal) (hf : ∀ e, f e = B.w84 (B.S r) e) (hy : y = ∑ e, f e * B.wb (ix2 e d)) :
    sg z * y = B.w177 (B.S r) d := by
  refine Eq.trans ?_ (v177_at ..).symm
  rw [hz, hy]
  simp only [hf, B.hwb]
theorem gb_eq (r : Fin 256) (d : Fin 1024) (z : EReal) (hz : z = B.ph (B.S r) ⟨1024 + d.val, by omega⟩) : sg z = B.w184 (B.S r) d := by
  refine Eq.trans ?_ (v184_at ..).symm
  rw [hz]

end Cert.Proof.IpVal.Blk

end
-- ==== Proof.IpBlk.lean ====
/- The two blocks of 256 tokens a grid point of the input projection's kernel computes. -/
module

public import proofs.«01_k».proof.Proof.IpRead
public import proofs.«01_k».proof.Proof.IpHost
public import proofs.«01_k».proof.Proof.IpVal2

@[expose] public section

set_option maxRecDepth 16384

noncomputable section

namespace Cert.Proof.IpBlk

open Idealize.ShloMosaic Idealize.ShloMosaic.TcCoe Idealize.SL.Sem
open Cert.InprojIdeal Cert.InprojIdeal.Gen Cert.Proof.IpRead Cert.Proof.IpHost Cert.Proof.IpVal

variable (m : (ℓ : Loc nD τ sig) → Buf (Elt Ideal) ℓ)

/-- A box of the weight matrix is its columns from the box's first. -/
theorem wld (c : Dev nD) (t : Fin cfg0.N) (o n : Nat) (inb) (k : Fin 1024) (j : Fin n) (hj : o + j.val < 4864) :
    View.ld (iblk m c 2 t) (Rect.unit ![0, o] ![1024, n] inb) (ix2 k j) = m ((c : Thread nD τ).loc main_arg2) (ix2 k ⟨o + j.val, hj⟩) := by
  refine Eq.trans ?_ (rd2 m c t k ⟨o + j.val, hj⟩)
  refine View.ld_unit_apply_of _ _ _ _ _ _ fun a => ?_
  fin_cases a <;> simp
/-- A box of the padded bias is its lanes from the box's first. -/
theorem bld (c : Dev nD) (t : Fin cfg0.N) (o n : Nat) (inb) (j : Fin n) (hj : o + j.val < 4864) :
    View.ld (iblk m c 3 t) (Rect.unit ![0, o] ![1, n] inb) (ix2 0 j) = V m c main_v40 (ix2 0 ⟨o + j.val, hj⟩) := by
  refine Eq.trans ?_ (rd3' m c t ⟨o + j.val, hj⟩)
  refine View.ld_unit_apply_of _ _ _ _ _ _ fun a => ?_
  fin_cases a <;> simp
/-- The spatial mix of one pair of heads. -/
theorem sld (c : Dev nD) (t : Fin cfg0.N) (q : Fin 4) (inb) (t' : Fin 128) (s : Fin 256) :
    View.ld (iblk m c 6 t) (Rect.unit ![q.val, 0, 0] ![1, 128, 256] inb) (ix3 0 t' s) = m ((c : Thread nD τ).loc main_arg6) (ix4 0 ⟨q.val * 2 + s.val / 128, by omega⟩ t' ⟨s.val % 128, by omega⟩) := by
  refine Eq.trans ?_ ((rd6' m c t q t' s).trans (v27_at ..))
  refine View.ld_unit_apply_of _ _ _ _ _ _ fun a => ?_
  fin_cases a <;> simp
/-- A row of the modulation. -/
theorem mld (c : Dev nD) (t : Fin cfg0.N) (i : Fin 6) (inb) (k : Fin 1024) :
    View.ld (iblk m c 1 t) (Rect.unit ![0, i.val, 0] ![1, 1, 1024] inb) (ix3 0 0 k) = m ((c : Thread nD τ).loc main_arg1) (ix2 ⟨t.val / 8, lt8 t⟩ ⟨i.val * 1024 + k.val, by omega⟩) := by
  refine Eq.trans ?_ ((rd1' m c t i k).trans (v57_at ..))
  refine View.ld_unit_apply_of _ _ _ _ _ _ fun a => ?_
  fin_cases a <;> simp
/-- Half the tokens of a point. -/
theorem xld (c : Dev nD) (t : Fin cfg0.N) (o : Nat) (inb) (r : Fin 256) (k : Fin 1024) (hr : o + r.val < 512) :
    View.ld (iblk m c 0 t) (Rect.unit ![0, o, 0] ![1, 256, 1024] inb) (ix3 0 r k) = m ((c : Thread nD τ).loc main_arg0) (ix3 ⟨t.val / 8, lt8 t⟩ ⟨t.val % 8 * 512 + (o + r.val), ltS t ⟨_, hr⟩⟩ k) := by
  refine Eq.trans ?_ (rd0 m c t ⟨o + r.val, hr⟩ k)
  refine View.ld_unit_apply_of _ _ _ _ _ _ fun a => ?_
  fin_cases a <;> simp

/-- A block of a grid point, its tokens given. -/
def mk (c : Dev nD) (t : Fin cfg0.N) (q : Nat) (S : Fin 256 → Fin 4096) (hS : ∀ r, (S r).val = q * 256 + r.val) (x : Vec Ideal S1x256x1024 .f32)
    (hx : ∀ r k, x (ix3 0 r k) = m ((c : Thread nD τ).loc main_arg0) (ix3 ⟨t.val / 8, lt8 t⟩ (S r) k)) : Blk where
  X0 := m ((c : Thread nD τ).loc main_arg0)
  X1 := m ((c : Thread nD τ).loc main_arg1)
  X2 := m ((c : Thread nD τ).loc main_arg2)
  X3 := m ((c : Thread nD τ).loc main_arg3)
  X4 := m ((c : Thread nD τ).loc main_arg4)
  X5 := m ((c : Thread nD τ).loc main_arg5)
  X6 := m ((c : Thread nD τ).loc main_arg6)
  X7 := m ((c : Thread nD τ).loc main_arg7)
  X8 := m ((c : Thread nD τ).loc main_arg8)
  X9 := m ((c : Thread nD τ).loc main_arg9)
  X10 := m ((c : Thread nD τ).loc main_arg10)
  X11 := m ((c : Thread nD τ).loc main_arg11)
  X12 := m ((c : Thread nD τ).loc main_arg12)
  X13 := m ((c : Thread nD τ).loc main_arg13)
  X14 := m ((c : Thread nD τ).loc main_arg14)
  X15 := m ((c : Thread nD τ).loc main_arg15)
  X16 := m ((c : Thread nD τ).loc main_arg16)
  b := ⟨t.val / 8, lt8 t⟩
  q := q
  S := S
  hS := hS
  v3 := View.ld (iblk m c 1 t) (Rect.unit ![0, 0, 0] ![1, 1, 1024] inb_S1x6x1024_S1x1x1024_0_0_0)
  v5 := View.ld (iblk m c 1 t) (Rect.unit ![0, 1, 0] ![1, 1, 1024] inb_S1x6x1024_S1x1x1024_0_1_0)
  x := x
  h3 k := (mld m c t 0 _ k).trans (congrArg (fun i => m ((c : Thread nD τ).loc main_arg1) (ix2 _ i)) (Fin.ext (by simp)))
  h5 k := (mld m c t 1 _ k).trans (congrArg (fun i => m ((c : Thread nD τ).loc main_arg1) (ix2 _ i)) (Fin.ext (by simp)))
  hx := hx
  wR := View.ld (iblk m c 2 t) (Rect.unit ![0, 1024] ![1024, 1792] inb_S1024x4864_S1024x1792_0_1024)
  bR := View.ld (iblk m c 3 t) (Rect.unit ![0, 1024] ![1, 1792] inb_S1x4864_S1x1792_0_1024)
  hwR k j := wld m c t _ _ _ k j _
  hbR j := (bld m c t _ _ _ ⟨j.val, by omega⟩ (by simp only; omega)).trans (v40_lo m c ⟨1024 + j.val, by omega⟩)
  wU := View.ld (iblk m c 2 t) (Rect.unit ![0, 0] ![1024, 512] inb_S1024x4864_S1024x512_0_0)
  bU := View.ld (iblk m c 3 t) (Rect.unit ![0, 0] ![1, 512] inb_S1x4864_S1x512_0_0)
  hwU k j := (wld m c t _ _ _ k j (by omega)).trans (congrArg (fun i => m ((c : Thread nD τ).loc main_arg2) (ix2 k i)) (Fin.ext (by simp)))
  hbU j := (bld m c t _ _ _ j (by omega)).trans ((v40_lo m c ⟨0 + j.val, by omega⟩).trans (congrArg (fun i => m ((c : Thread nD τ).loc main_arg3) (ix2 0 i)) (Fin.ext (by simp))))
  wV := View.ld (iblk m c 2 t) (Rect.unit ![0, 512] ![1024, 512] inb_S1024x4864_S1024x512_0_512)
  bV := View.ld (iblk m c 3 t) (Rect.unit ![0, 512] ![1, 512] inb_S1x4864_S1x512_0_512)
  hwV k j := wld m c t _ _ _ k j _
  hbV j := (bld m c t _ _ _ j (by omega)).trans (v40_lo m c ⟨512 + j.val, by omega⟩)
  wA := View.ld (iblk m c 2 t) (Rect.unit ![0, 2816] ![1024, 1024] inb_S1024x4864_S1024x1024_0_2816)
  bA := View.ld (iblk m c 3 t) (Rect.unit ![0, 2816] ![1, 1024] inb_S1x4864_S1x1024_0_2816)
  hwA k j := wld m c t _ _ _ k j _
  hbA j := (bld m c t _ _ _ j (by omega)).trans (v40_hi m c ⟨j.val, by omega⟩)
  wB := View.ld (iblk m c 2 t) (Rect.unit ![0, 3840] ![1024, 1024] inb_S1024x4864_S1024x1024_0_3840)
  bB := View.ld (iblk m c 3 t) (Rect.unit ![0, 3840] ![1, 1024] inb_S1x4864_S1x1024_0_3840)
  hwB k j := (wld m c t _ _ _ k j (by omega)).trans (congrArg (fun i => m ((c : Thread nD τ).loc main_arg2) (ix2 k i)) (Fin.ext (by simp only; omega)))
  hbB j := (bld m c t _ _ _ j (by omega)).trans ((congrArg (fun i => V m c main_v40 (ix2 0 i)) (Fin.ext (by simp only; omega))).trans (v40_hi m c ⟨1024 + j.val, by omega⟩))
  g4 := iblk m c 4 t
  h4 j := (rd4' m c t j).trans (v42_at m c j)
  g5 := iblk m c 5 t
  h5' j := (rd5' m c t j).trans (v44_at m c j)
  s0 := View.ld (iblk m c 6 t) (Rect.unit ![0, 0, 0] ![1, 128, 256] inb_S4x128x256_S1x128x256_0_0_0)
  s1 := View.ld (iblk m c 6 t) (Rect.unit ![1, 0, 0] ![1, 128, 256] inb_S4x128x256_S1x128x256_1_0_0)
  s2 := View.ld (iblk m c 6 t) (Rect.unit ![2, 0, 0] ![1, 128, 256] inb_S4x128x256_S1x128x256_2_0_0)
  s3 := View.ld (iblk m c 6 t) (Rect.unit ![3, 0, 0] ![1, 128, 256] inb_S4x128x256_S1x128x256_3_0_0)
  hs0 t' s := sld m c t 0 _ t' s
  hs1 t' s := sld m c t 1 _ t' s
  hs2 t' s := sld m c t 2 _ t' s
  hs3 t' s := sld m c t 3 _ t' s
  bs := iblk m c 7 t
  hbs r e := (rd7' m c t r e).trans (v31_at m c r e)
  mu := iblk m c 8 t
  hmu j := (rd8' m c t _).trans (v45_at m c j)
  g9 := iblk m c 9 t
  h9 j := (rd9' m c t j).trans (v47_at m c j)
  g10 := iblk m c 10 t
  h10 j := (rd10' m c t j).trans (v49_at m c j)
  up := iblk m c 11 t
  hup i j := (rd11' m c t i j).trans (v50_at m c i j)
  g12 := iblk m c 12 t
  h12 j := (rd12' m c t j).trans (v52_at m c j)
  g13 := iblk m c 13 t
  h13 j := (rd13' m c t j).trans (v54_at m c j)
  bd := iblk m c 14 t
  hbd i j := (rd14' m c t i j).trans (v39_at m c i j)
  wb := iblk m c 15 t
  hwb i j := (rd15' m c t i j).trans (v56_at m c i j)

section fields
variable (c : Dev nD) (t : Fin cfg0.N) (q : Nat) (S : Fin 256 → Fin 4096) (hS : ∀ r, (S r).val = q * 256 + r.val) (x : Vec Ideal S1x256x1024 .f32)
  (hx : ∀ r k, x (ix3 0 r k) = m ((c : Thread nD τ).loc main_arg0) (ix3 ⟨t.val / 8, lt8 t⟩ (S r) k))
theorem mk_v3 : (mk m c t q S hS x hx).v3 = View.ld (iblk m c 1 t) (Rect.unit ![0, 0, 0] ![1, 1, 1024] inb_S1x6x1024_S1x1x1024_0_0_0) := by dsimp only [mk]
theorem mk_v5 : (mk m c t q S hS x hx).v5 = View.ld (iblk m c 1 t) (Rect.unit ![0, 1, 0] ![1, 1, 1024] inb_S1x6x1024_S1x1x1024_0_1_0) := by dsimp only [mk]
theorem mk_wR : (mk m c t q S hS x hx).wR = View.ld (iblk m c 2 t) (Rect.unit ![0, 1024] ![1024, 1792] inb_S1024x4864_S1024x1792_0_1024) := by dsimp only [mk]
theorem mk_bR : (mk m c t q S hS x hx).bR = View.ld (iblk m c 3 t) (Rect.unit ![0, 1024] ![1, 1792] inb_S1x4864_S1x1792_0_1024) := by dsimp only [mk]
theorem mk_wU : (mk m c t q S hS x hx).wU = View.ld (iblk m c 2 t) (Rect.unit ![0, 0] ![1024, 512] inb_S1024x4864_S1024x512_0_0) := by dsimp only [mk]
theorem mk_bU : (mk m c t q S hS x hx).bU = View.ld (iblk m c 3 t) (Rect.unit ![0, 0] ![1, 512] inb_S1x4864_S1x512_0_0) := by dsimp only [mk]
theorem mk_wV : (mk m c t q S hS x hx).wV = View.ld (iblk m c 2 t) (Rect.unit ![0, 512] ![1024, 512] inb_S1024x4864_S1024x512_0_512) := by dsimp only [mk]
theorem mk_bV : (mk m c t q S hS x hx).bV = View.ld (iblk m c 3 t) (Rect.unit ![0, 512] ![1, 512] inb_S1x4864_S1x512_0_512) := by dsimp only [mk]
theorem mk_wA : (mk m c t q S hS x hx).wA = View.ld (iblk m c 2 t) (Rect.unit ![0, 2816] ![1024, 1024] inb_S1024x4864_S1024x1024_0_2816) := by dsimp only [mk]
theorem mk_bA : (mk m c t q S hS x hx).bA = View.ld (iblk m c 3 t) (Rect.unit ![0, 2816] ![1, 1024] inb_S1x4864_S1x1024_0_2816) := by dsimp only [mk]
theorem mk_wB : (mk m c t q S hS x hx).wB = View.ld (iblk m c 2 t) (Rect.unit ![0, 3840] ![1024, 1024] inb_S1024x4864_S1024x1024_0_3840) := by dsimp only [mk]
theorem mk_bB : (mk m c t q S hS x hx).bB = View.ld (iblk m c 3 t) (Rect.unit ![0, 3840] ![1, 1024] inb_S1x4864_S1x1024_0_3840) := by dsimp only [mk]
theorem mk_g4 : (mk m c t q S hS x hx).g4 = iblk m c 4 t := by dsimp only [mk]
theorem mk_g5 : (mk m c t q S hS x hx).g5 = iblk m c 5 t := by dsimp only [mk]
theorem mk_s0 : (mk m c t q S hS x hx).s0 = View.ld (iblk m c 6 t) (Rect.unit ![0, 0, 0] ![1, 128, 256] inb_S4x128x256_S1x128x256_0_0_0) := by dsimp only [mk]
theorem mk_s1 : (mk m c t q S hS x hx).s1 = View.ld (iblk m c 6 t) (Rect.unit ![1, 0, 0] ![1, 128, 256] inb_S4x128x256_S1x128x256_1_0_0) := by dsimp only [mk]
theorem mk_s2 : (mk m c t q S hS x hx).s2 = View.ld (iblk m c 6 t) (Rect.unit ![2, 0, 0] ![1, 128, 256] inb_S4x128x256_S1x128x256_2_0_0) := by dsimp only [mk]
theorem mk_s3 : (mk m c t q S hS x hx).s3 = View.ld (iblk m c 6 t) (Rect.unit ![3, 0, 0] ![1, 128, 256] inb_S4x128x256_S1x128x256_3_0_0) := by dsimp only [mk]
theorem mk_bs : (mk m c t q S hS x hx).bs = iblk m c 7 t := by dsimp only [mk]
theorem mk_mu : (mk m c t q S hS x hx).mu = iblk m c 8 t := by dsimp only [mk]
theorem mk_g9 : (mk m c t q S hS x hx).g9 = iblk m c 9 t := by dsimp only [mk]
theorem mk_g10 : (mk m c t q S hS x hx).g10 = iblk m c 10 t := by dsimp only [mk]
theorem mk_up : (mk m c t q S hS x hx).up = iblk m c 11 t := by dsimp only [mk]
theorem mk_g12 : (mk m c t q S hS x hx).g12 = iblk m c 12 t := by dsimp only [mk]
theorem mk_g13 : (mk m c t q S hS x hx).g13 = iblk m c 13 t := by dsimp only [mk]
theorem mk_bd : (mk m c t q S hS x hx).bd = iblk m c 14 t := by dsimp only [mk]
theorem mk_wb : (mk m c t q S hS x hx).wb = iblk m c 15 t := by dsimp only [mk]
theorem mk_x : (mk m c t q S hS x hx).x = x := by dsimp only [mk]
end fields

/-- The first 256 tokens of a grid point, -/
def B0 (c : Dev nD) (t : Fin cfg0.N) : Blk :=
  mk m c t (t.val % 8 * 2) (fun r => ⟨t.val % 8 * 512 + (0 + r.val), by omega⟩) (fun r => by simp only; omega)
    (View.ld (iblk m c 0 t) (Rect.unit ![0, 0, 0] ![1, 256, 1024] inb_S1x512x1024_S1x256x1024_0_0_0)) fun r k => xld m c t 0 _ r k (by omega)
/-- and the last 256. -/
def B1 (c : Dev nD) (t : Fin cfg0.N) : Blk :=
  mk m c t (t.val % 8 * 2 + 1) (fun r => ⟨t.val % 8 * 512 + (256 + r.val), by omega⟩) (fun r => by simp only; omega)
    (View.ld (iblk m c 0 t) (Rect.unit ![0, 256, 0] ![1, 256, 1024] inb_S1x512x1024_S1x256x1024_0_256_0)) fun r k => xld m c t 256 _ r k (by omega)

end Cert.Proof.IpBlk

end
-- ==== Proof.IpPrev.lean ====
/- What the row before each token projects to, as the kernel carries it in its scratch. -/
module

public import proofs.«01_k».proof.Proof.IpBlk
public import Idealize.ShloMosaic.Lib.Pipeline.ReadBack

@[expose] public section

set_option maxRecDepth 16384

noncomputable section

namespace Cert.Proof.IpPrev

open Idealize.ShloMosaic Idealize.ShloMosaic.TcCoe Idealize.SL.Sem
open Cert.InprojIdeal Cert.InprojIdeal.Gen Cert.Proof.IpRead Cert.Proof.IpHost Cert.Proof.IpVal Cert.Proof.IpBlk

variable (m : (ℓ : Loc nD τ sig) → Buf (Elt Ideal) ℓ)

/-- A piece of the scratch. -/
abbrev Pc := View.Piece (Elt Ideal) S520x1792 .f32
abbrev pc1 (w : Vec Ideal S256x1792 .f32) : Pc := ⟨Rect.unit ![264, 0] ![256, 1792] inb_S520x1792_S256x1792_264_0, w⟩
abbrev pc0 (w : Vec Ideal S256x1792 .f32) : Pc := ⟨Rect.unit ![8, 0] ![256, 1792] inb_S520x1792_S256x1792_8_0, w⟩
/-- The boxes the rows before are read through. -/
abbrev bx1 : Rect S520x1792 := Rect.unit ![263, 0] ![256, 1792] inb_S520x1792_S256x1792_263_0
abbrev bx0 : Rect S520x1792 := Rect.unit ![7, 0] ![256, 1792] inb_S520x1792_S256x1792_7_0

section reads
variable {κ : Kind} {sp : Space} (v : View sig κ sp S520x1792 .f32) (f : v.ty.Contents (Elt Ideal))
theorem rd_hi (w1 w0 : Vec Ideal S256x1792 .f32) (L : List Pc) (r : Fin 256) (j : Fin 1792) (i : Fin 520) (hi : i.val = 264 + r.val) :
    v.read (Elt Ideal) (v.writes (Elt Ideal) f (pc1 w1 :: pc0 w0 :: L)) (ix2 i j) = w1 (ix2 r j) := by
  refine View.read_writes_cons_hit_of_coords v f (Rect.unit ![264, 0] ![256, 1792] inb_S520x1792_S256x1792_264_0) w1 _ (ix2 r j) _ fun a => ?_
  fin_cases a <;> simp [hi]
theorem rd_lo (w1 w0 : Vec Ideal S256x1792 .f32) (L : List Pc) (r : Fin 256) (j : Fin 1792) (i : Fin 520) (hi : i.val = 8 + r.val) :
    v.read (Elt Ideal) (v.writes (Elt Ideal) f (pc1 w1 :: pc0 w0 :: L)) (ix2 i j) = w0 (ix2 r j) := by
  rw [View.read_writes_cons_miss_of_axis _ _ _ _ _ (0 : Fin 2) 264 256 rfl rfl rfl (Or.inl (by show i.val < 264; omega))]
  refine View.read_writes_cons_hit_of_coords v f (Rect.unit ![8, 0] ![256, 1792] inb_S520x1792_S256x1792_8_0) w0 L (ix2 r j) _ fun a => ?_
  fin_cases a <;> simp [hi]
theorem rd_head (w1 w0 : Vec Ideal S256x1792 .f32) (L : List Pc) (j : Fin 1792) (i : Fin 520) (hi : i.val < 8) :
    v.read (Elt Ideal) (v.writes (Elt Ideal) f (pc1 w1 :: pc0 w0 :: L)) (ix2 i j) = v.read (Elt Ideal) (v.writes (Elt Ideal) f L) (ix2 i j) := by
  rw [View.read_writes_cons_miss_of_axis _ _ _ _ _ (0 : Fin 2) 264 256 rfl rfl rfl (Or.inl (by show i.val < 264; omega)),
    View.read_writes_cons_miss_of_axis _ _ _ _ _ (0 : Fin 2) 8 256 rfl rfl rfl (Or.inl (by show i.val < 8; omega))]
theorem rd_zero (w : Vec Ideal S8x1792 .f32) (L : List Pc) (r : Fin 8) (j : Fin 1792) (i : Fin 520) (hi : i.val = r.val) :
    v.read (Elt Ideal) (v.writes (Elt Ideal) f ((⟨Rect.unit ![0, 0] ![8, 1792] inb_S520x1792_S8x1792_0_0, w⟩ : Pc) :: L)) (ix2 i j) = w (ix2 r j) := by
  refine View.read_writes_cons_hit_of_coords v f (Rect.unit ![0, 0] ![8, 1792] inb_S520x1792_S8x1792_0_0) w L (ix2 r j) _ fun a => ?_
  fin_cases a <;> simp [hi]
theorem rd_carry (w : Vec Ideal S1x1792 .f32) (L : List Pc) (j : Fin 1792) (i : Fin 520) (hi : i.val = 7) :
    v.read (Elt Ideal) (v.writes (Elt Ideal) f ((⟨Rect.unit ![7, 0] ![1, 1792] inb_S520x1792_S1x1792_7_0, w⟩ : Pc) :: L)) (ix2 i j) = w (ix2 0 j) := by
  refine View.read_writes_cons_hit_of_coords v f (Rect.unit ![7, 0] ![1, 1792] inb_S520x1792_S1x1792_7_0) w L (ix2 0 j) _ fun a => ?_
  fin_cases a <;> simp [hi]
end reads

theorem pay10v (z : FVec Ideal S256x1792 .f32) (r : Fin 256) (j : Fin 1792) : k0_pay10 z (ix2 r j) = z (ix2 r j) := by pointwise [k0_pay10]
theorem pay11v (z : FVec Ideal S256x1792 .f32) (b : Vec Ideal S1x1792 .f32) (r : Fin 256) (j : Fin 1792) : k0_pay11 z b (ix2 r j) = k0_pay9 z b (ix2 r j) := by
  unfold k0_pay11
  generalize k0_pay9 z b = y
  pointwise
theorem pay20v (z : FVec Ideal S256x1792 .f32) (j : Fin 1792) : k0_pay20 z (ix2 0 j) = z (ix2 255 j) := by pointwise [k0_pay20]
theorem pay2v (i : Fin 8) (j : Fin 1792) : k0_pay2 (F := Ideal) (ix2 i j) = (0 : EReal) := by
  pointwise [k0_pay2]

/-- The row the scratch carries to the next point. -/
theorem carry_hit (w : Vec Ideal S1x1792 .f32) (L : List Pc) (j : Fin 1792) :
    View.canon ((⟨Rect.unit ![7, 0] ![1, 1792] inb_S520x1792_S1x1792_7_0, w⟩ : Pc) :: L) (ix2 7 j) = w (ix2 0 j) := by
  have e : (Rect.unit (s := S520x1792) ![7, 0] ![1, 1792] inb_S520x1792_S1x1792_7_0).emb (ix2 0 j) = ix2 7 j := by blk_ext
  exact (congrArg _ e.symm).trans (View.canon_cons_emb _ _ _ _)
theorem carry (c : Dev nD) (t : Fin cfg0.N) (j : Fin 1696) :
    (outsAt0 m c t.val t.isLt).2.2.2.2 (ix2 7 ⟨j.val, by omega⟩) = (B1 m c t).pl ((B1 m c t).S 255) ⟨1024 + j.val, by omega⟩ := by
  have key := (B1 m c t).zr1v 255 j
  simp only [B1, mk_v3, mk_v5, mk_x, mk_wR, mk_bR] at key
  by_cases h : t.val % 8 = 0
  · rw [outsAt0_A m c t h]
    frame_out
    refine (carry_hit _ _ _).trans ((pay20v _ _).trans ?_)
    exact key
  · rw [outsAt0_B m c t h]
    frame_out
    refine (rd_carry _ _ _ _ _ _ rfl).trans ((pay20v _ _).trans ?_)
    exact key

/-- The last 256 tokens' rows before. -/
theorem prev1 (c : Dev nD) (t : Fin cfg0.N) (L : List Pc) :
    (B1 m c t).Prev ((View.whole cc0_scratch0).readCov (pc1 (k0_pay11 (k0_pay8 (B1 m c t).v3 (B1 m c t).v5 (B1 m c t).x (B1 m c t).wR) (B1 m c t).bR) :: pc0 (k0_pay10 (k0_pay7 (B0 m c t).v3 (B0 m c t).v5 (B0 m c t).x (B0 m c t).wR (B0 m c t).bR)) :: L) bx1.toLoadRect) := by
  intro r j
  rw [View.readCov_eq_canon']
  beta_reduce
  rw [← View.read_writes_junk_apply_eq_canon (View.whole cc0_scratch0)]
  obtain ⟨r, hr⟩ := r
  have hS : (((B1 m c t).S ⟨r, hr⟩).val) = t.val % 8 * 512 + (256 + r) := rfl
  rw [dif_neg (by rw [hS]; omega)]
  have e : bx1.toLoadRect.idx (ix2 ⟨r, hr⟩ (⟨j.val, by omega⟩ : Fin 1792)) = ix2 (⟨263 + r, by omega⟩ : Fin 520) (⟨j.val, by omega⟩ : Fin 1792) := funext fun a => Fin.ext ((Rect.idx_unit_val _ _ _ _ a).trans (by fin_cases a <;> simp))
  refine (congrArg _ e).trans ?_
  by_cases h : r = 0
  · subst h
    refine (rd_lo _ _ _ _ _ 255 _ _ rfl).trans ((pay10v ..).trans (((B0 m c t).zr0v 255 j).trans ?_))
    exact congrArg (fun s => (B0 m c t).pl s ⟨1024 + j.val, by omega⟩) (Fin.ext (by show t.val % 8 * 512 + (0 + 255) = t.val % 8 * 512 + (256 + 0) - 1; omega))
  · refine (rd_hi _ _ _ _ _ ⟨r - 1, by omega⟩ _ _ (by simp only; omega)).trans ((pay11v ..).trans (((B1 m c t).zr1v ⟨r - 1, by omega⟩ j).trans ?_))
    exact congrArg (fun s => (B1 m c t).pl s ⟨1024 + j.val, by omega⟩) (Fin.ext (by show t.val % 8 * 512 + (256 + (r - 1)) = t.val % 8 * 512 + (256 + r) - 1; omega))

/-- The first 256 tokens' rows before: nothing before the sequence's first, -/
theorem prev0A (c : Dev nD) (t : Fin cfg0.N) (h0 : t.val % 8 = 0) (w1) :
    (B0 m c t).Prev ((View.whole cc0_scratch0).readCov [pc1 w1, pc0 (k0_pay10 (k0_pay7 (B0 m c t).v3 (B0 m c t).v5 (B0 m c t).x (B0 m c t).wR (B0 m c t).bR)), (⟨Rect.unit ![0, 0] ![8, 1792] inb_S520x1792_S8x1792_0_0, (k0_pay2 (F := Ideal) : Vec Ideal S8x1792 .f32)⟩ : Pc)] bx0.toLoadRect) := by
  intro r j
  rw [View.readCov_eq_canon']
  beta_reduce
  rw [← View.read_writes_junk_apply_eq_canon (View.whole cc0_scratch0)]
  obtain ⟨r, hr⟩ := r
  have hS : (((B0 m c t).S ⟨r, hr⟩).val) = t.val % 8 * 512 + (0 + r) := rfl
  have e : bx0.toLoadRect.idx (ix2 ⟨r, hr⟩ (⟨j.val, by omega⟩ : Fin 1792)) = ix2 (⟨7 + r, by omega⟩ : Fin 520) (⟨j.val, by omega⟩ : Fin 1792) := funext fun a => Fin.ext ((Rect.idx_unit_val _ _ _ _ a).trans (by fin_cases a <;> simp))
  refine (congrArg _ e).trans ?_
  by_cases h : r = 0
  · subst h
    rw [dif_pos (by rw [hS, h0])]
    refine (rd_head _ _ _ _ _ _ _ (by simp)).trans (Eq.trans ?_ (pay2v 7 ⟨j.val, by omega⟩))
    exact rd_zero _ _ _ _ 7 _ _ rfl
  · rw [dif_neg (by rw [hS]; omega)]
    refine (rd_lo _ _ _ _ _ ⟨r - 1, by omega⟩ _ _ (by simp only; omega)).trans ((pay10v ..).trans (((B0 m c t).zr0v ⟨r - 1, by omega⟩ j).trans ?_))
    exact congrArg (fun s => (B0 m c t).pl s ⟨1024 + j.val, by omega⟩) (Fin.ext (by show t.val % 8 * 512 + (0 + (r - 1)) = t.val % 8 * 512 + (0 + r) - 1; omega))

/-- and else what the point before left. -/
theorem prev0B (c : Dev nD) (t : Fin cfg0.N) (h0 : ¬t.val % 8 = 0) (w1) (hn) (hw : (Memref.whole cc0_scratch0).IsWhole) :
    (B0 m c t).Prev (View.ld (View.read (Elt Ideal) (View.whole cc0_scratch0) ((View.whole cc0_scratch0).writes (Elt Ideal) (hw.unread (outsAt0 m c (t.val - 1) hn).2.2.2.2) [pc1 w1, pc0 (k0_pay10 (k0_pay7 (B0 m c t).v3 (B0 m c t).v5 (B0 m c t).x (B0 m c t).wR (B0 m c t).bR))])) bx0) := by
  intro r j
  obtain ⟨r, hr⟩ := r
  have hS : (((B0 m c t).S ⟨r, hr⟩).val) = t.val % 8 * 512 + (0 + r) := rfl
  refine (View.ld_unit_apply_of _ _ _ _ _ (ix2 (⟨7 + r, by omega⟩ : Fin 520) (⟨j.val, by omega⟩ : Fin 1792)) fun a => by fin_cases a <;> simp).trans ?_
  rw [dif_neg (by rw [hS]; omega)]
  by_cases h : r = 0
  · subst h
    refine (rd_head _ _ _ _ _ _ _ (by simp)).trans ?_
    rw [View.writes_nil, Idealize.ShloMosaic.read_unread_whole]
    refine (carry m c ⟨t.val - 1, hn⟩ j).trans ?_
    have hb : (⟨(t.val - 1) / 8, lt8 ⟨t.val - 1, hn⟩⟩ : Fin 8) = ⟨t.val / 8, lt8 t⟩ := Fin.ext (by simp only; omega)
    have hs : ((B1 m c ⟨t.val - 1, hn⟩).S 255) = (⟨((B0 m c t).S ⟨0, hr⟩).val - 1, by omega⟩ : Fin 4096) := Fin.ext (by show (t.val - 1) % 8 * 512 + (256 + 255) = t.val % 8 * 512 + (0 + 0) - 1; omega)
    exact congrArg₂ (fun b s => IpRef.pl (m ((c : Thread nD τ).loc main_arg0)) (m ((c : Thread nD τ).loc main_arg1)) (m ((c : Thread nD τ).loc main_arg2)) (m ((c : Thread nD τ).loc main_arg3)) b s ⟨1024 + j.val, by omega⟩) hb hs
  · refine (rd_lo _ _ _ _ _ ⟨r - 1, by omega⟩ _ _ (by simp only; omega)).trans ((pay10v ..).trans (((B0 m c t).zr0v ⟨r - 1, by omega⟩ j).trans ?_))
    exact congrArg (fun s => (B0 m c t).pl s ⟨1024 + j.val, by omega⟩) (Fin.ext (by show t.val % 8 * 512 + (0 + (r - 1)) = t.val % 8 * 512 + (0 + r) - 1; omega))

end Cert.Proof.IpPrev

end
-- ==== Proof.IpOut.lean ====
/- The windows of the input projection's kernel over whole tokens: the recurrence's gate, the branches' gate and the first branch. -/
module

public import proofs.«01_k».proof.Proof.IpPrev

@[expose] public section

set_option maxRecDepth 16384

noncomputable section

namespace Cert.Proof.IpOut

open Idealize.ShloMosaic Idealize.ShloMosaic.TcCoe Idealize.SL.Sem
open Idealize.ShloMosaic.Pipeline (Dat)
open Cert.InprojIdeal Cert.InprojIdeal.Gen Cert.Proof.IpRead Cert.Proof.IpHost Cert.Proof.IpVal Cert.Proof.IpBlk Cert.Proof.IpPrev

variable (m : (ℓ : Loc nD τ sig) → Buf (Elt Ideal) ℓ)

/-- Two halves of 256 tokens stored: a token of 512 is in the half that holds it. -/
theorem halves (w1 w0 : Vec Ideal S1x256x1024 .bf16) (G : Fin 512 → Fin 1024 → EReal)
    (g1 : ∀ (r : Fin 256) (d : Fin 1024), w1 (ix3 0 r d) = G ⟨256 + r.val, by omega⟩ d)
    (g0 : ∀ (r : Fin 256) (d : Fin 1024), w0 (ix3 0 r d) = G ⟨0 + r.val, by omega⟩ d) (r : Fin 512) (d : Fin 1024) :
    View.canon [(⟨Rect.unit ![0, 256, 0] ![1, 256, 1024] inb_S1x512x1024_S1x256x1024_0_256_0, w1⟩ : View.Piece (Elt Ideal) S1x512x1024 .bf16),
      ⟨Rect.unit ![0, 0, 0] ![1, 256, 1024] inb_S1x512x1024_S1x256x1024_0_0_0, w0⟩] (ix3 0 r d) = G r d := by
  canon_tiles x h
  case piece0 =>
    have h2' : (x 2).val = d.val := h2.symm
    have h1' : r.val = 256 + (x 1).val := h1
    have e : x = ix3 0 ⟨(x 1).val, x1_lt⟩ d := by blk_ext [h2']
    exact (congrArg w1 e).trans ((g1 ..).trans (congrArg (fun i => G i d) (Fin.ext h1'.symm)))
  case piece1 =>
    have h2' : (x 2).val = d.val := h2.symm
    have h1' : r.val = 0 + (x 1).val := h1.trans (Nat.zero_add _).symm
    have e : x = ix3 0 ⟨(x 1).val, x1_lt⟩ d := by blk_ext [h2']
    exact (congrArg w0 e).trans ((g0 ..).trans (congrArg (fun i => G i d) (Fin.ext h1'.symm)))

/-- The gate of the branches, at a token of a point. -/
theorem at17 (c : Dev nD) (t : Fin cfg0.N) (r : Fin 512) (d : Fin 1024) :
    (outsAt0 m c t.val t.isLt).2.1 (ix3 0 r d) = (B0 m c t).w184 ⟨t.val % 8 * 512 + r.val, ltS t r⟩ d := by
  have k0 := fun r' d => ((IpStage.gb0 (k0_pay26 (k0_pay5 (B0 m c t).v3 (B0 m c t).v5 (B0 m c t).x) (B0 m c t).wB (B0 m c t).bB) r' d).trans
    ((B0 m c t).gb_eq r' d _ ((IpStage.zgb0 ..).trans ((B0 m c t).rowB _ (B0 m c t).h0r r' d))))
  have k1 := fun r' d => ((IpStage.gb1 (k0_pay27 (k0_pay6 (B1 m c t).v3 (B1 m c t).v5 (B1 m c t).x) (B1 m c t).wB (B1 m c t).bB) r' d).trans
    ((B1 m c t).gb_eq r' d _ ((IpStage.zgb1 ..).trans ((B1 m c t).rowB _ (B1 m c t).h1r r' d))))
  simp only [B0, B1, mk_v3, mk_v5, mk_x, mk_wB, mk_bB] at k0 k1
  by_cases h : t.val % 8 = 0
  · rw [outsAt0_A m c t h]
    frame_out
    exact halves _ _ (fun r d => (B0 m c t).w184 ⟨t.val % 8 * 512 + r.val, ltS t r⟩ d) k1 k0 r d
  · rw [outsAt0_B m c t h]
    frame_out
    exact halves _ _ (fun r d => (B0 m c t).w184 ⟨t.val % 8 * 512 + r.val, ltS t r⟩ d) k1 k0 r d

/-- Two halves of 256 tokens of the recurrence's gate stored. -/
theorem halves' (w1 w0 : Vec Ideal S1x256x512 .bf16) (G : Fin 512 → Fin 512 → EReal)
    (g1 : ∀ (r : Fin 256) (d : Fin 512), w1 (ix3 0 r d) = G ⟨256 + r.val, by omega⟩ d)
    (g0 : ∀ (r : Fin 256) (d : Fin 512), w0 (ix3 0 r d) = G ⟨0 + r.val, by omega⟩ d) (r : Fin 512) (d : Fin 512) :
    View.canon [(⟨Rect.unit ![0, 256, 0] ![1, 256, 512] inb_S1x512x512_S1x256x512_0_256_0, w1⟩ : View.Piece (Elt Ideal) S1x512x512 .bf16),
      ⟨Rect.unit ![0, 0, 0] ![1, 256, 512] inb_S1x512x512_S1x256x512_0_0_0, w0⟩] (ix3 0 r d) = G r d := by
  canon_tiles x h
  case piece0 =>
    have h2' : (x 2).val = d.val := h2.symm
    have h1' : r.val = 256 + (x 1).val := h1
    have e : x = ix3 0 ⟨(x 1).val, x1_lt⟩ d := by blk_ext [h2']
    exact (congrArg w1 e).trans ((g1 ..).trans (congrArg (fun i => G i d) (Fin.ext h1'.symm)))
  case piece1 =>
    have h2' : (x 2).val = d.val := h2.symm
    have h1' : r.val = 0 + (x 1).val := h1.trans (Nat.zero_add _).symm
    have e : x = ix3 0 ⟨(x 1).val, x1_lt⟩ d := by blk_ext [h2']
    exact (congrArg w0 e).trans ((g0 ..).trans (congrArg (fun i => G i d) (Fin.ext h1'.symm)))

/-- The recurrence's gate, at a token of a point. -/
theorem at19 (c : Dev nD) (t : Fin cfg0.N) (r : Fin 512) (d : Fin 512) :
    (outsAt0 m c t.val t.isLt).2.2.2.1 (ix3 0 r d) = (B0 m c t).w185 ⟨t.val % 8 * 512 + r.val, ltS t r⟩ d := by
  have k0 := fun p hp r' d => (IpStage.g0 _ r' d).trans ((B0 m c t).g_eq _ ((B0 m c t).up0v p hp) r' d)
  have k1 := fun p hp r' d => (IpStage.g1 _ r' d).trans ((B1 m c t).g_eq _ ((B1 m c t).up1v p hp) r' d)
  have q1 := prev1 m c t
  simp only [B0, B1, mk_v3, mk_v5, mk_x, mk_wR, mk_bR, mk_mu, mk_up] at k0 k1 q1
  by_cases h : t.val % 8 = 0
  · have q0 := prev0A m c t h
    simp only [B0, mk_v3, mk_v5, mk_x, mk_wR, mk_bR] at q0
    rw [outsAt0_A m c t h]
    frame_out
    exact halves' _ _ (fun r d => (B0 m c t).w185 ⟨t.val % 8 * 512 + r.val, ltS t r⟩ d) (k1 _ (q1 _)) (k0 _ (q0 _)) r d
  · have q0 := prev0B m c t h
    simp only [B0, mk_v3, mk_v5, mk_x, mk_wR, mk_bR] at q0
    rw [outsAt0_B m c t h]
    frame_out
    exact halves' _ _ (fun r d => (B0 m c t).w185 ⟨t.val % 8 * 512 + r.val, ltS t r⟩ d) (k1 _ (q1 _)) (k0 _ (q0 _ _ _)) r d

section branch
variable (B : Blk) (R : B.Finite)
include R
/-- The first branch of the first 256 tokens, -/
theorem ma0v (r : Fin 256) (d : Fin 1024) (u v : FVec Ideal S256x512 .f32)
    (hu : u = k0_pay32 (k0_pay30 (k0_pay12 (k0_pay5 B.v3 B.v5 B.x) B.wU B.bU)) (k0_pay31 (k0_pay12 (k0_pay5 B.v3 B.v5 B.x) B.wU B.bU)))
    (hv : v = k0_pay37 (k0_pay34 B.g5) (k0_pay35 (k0_pay14 (k0_pay5 B.v3 B.v5 B.x) B.wV B.bV)) (k0_pay36 B.g4)) :
    k0_pay126 (k0_pay104 (k0_pay5 B.v3 B.v5 B.x) B.wA B.bA) (k0_pay106 (k0_pay95 u k0_pay79 (k0_pay84 k0_pay80 B.s3) (k0_pay90 u k0_pay79 (k0_pay83 k0_pay80 B.s2) (k0_pay84 k0_pay80 B.s3) (k0_pay85 v) (k0_pay86 v k0_pay79 k0_pay80 B.s0) (k0_pay87 v k0_pay79 k0_pay80 B.s1) (k0_pay88 v) (k0_pay89 v k0_pay79) B.bs) (k0_pay91 v) (k0_pay92 v k0_pay79 (k0_pay81 k0_pay80 B.s0)) (k0_pay93 v k0_pay79 (k0_pay82 k0_pay80 B.s1)) (k0_pay94 v k0_pay79 (k0_pay83 k0_pay80 B.s2)) B.bs) B.wb) (ix3 0 r d) = B.w177 (B.S r) d := by
  have eu : ∀ r j, u (ix2 r j) = IpRef.rgelu (B.pl (B.S r) ⟨j.val, by omega⟩) := fun r j => by
    rw [hu]
    exact (IpStage.u0 ..).trans (B.u_eq R _ (fun r j => (IpStage.zu0 ..).trans (B.rowU _ B.h0r r j)) r j)
  have ev : ∀ r j, v (ix2 r j) = B.w68 (B.S r) j := fun r j => by
    rw [hv]
    exact (IpStage.v0 ..).trans (B.v_eq R _ (fun r j => (IpStage.zv0 ..).trans (B.rowV _ B.h0r r j)) r j)
  clear hu hv
  refine (IpStage.ma0 _ _ r d).trans (B.ma_eq r d _ _ ((IpStage.zga0 ..).trans (B.rowA _ B.h0r r d)) _ (fun e => B.y_eq _ _ eu ev r e) ((IpStage.pa0 _ _ r d).trans (Finset.sum_congr rfl fun e _ => congrArg (· * B.wb (ix2 e d)) ?_)))
  exact IpStage.ya0 u v B.s0 B.s1 B.s2 B.s3 B.bs B.XS B.hs0 B.hs1 B.hs2 B.hs3 r e
/-- and of the last. -/
theorem ma1v (r : Fin 256) (d : Fin 1024) (u v : FVec Ideal S256x512 .f32)
    (hu : u = k0_pay33 (k0_pay13 (k0_pay6 B.v3 B.v5 B.x) B.wU B.bU))
    (hv : v = k0_pay38 (k0_pay17 (k0_pay15 (k0_pay6 B.v3 B.v5 B.x) B.wV) (k0_pay16 B.bV)) B.g4 B.g5) :
    k0_pay1 (k0_pay105 (k0_pay6 B.v3 B.v5 B.x) B.wA B.bA) (k0_pay107 u (k0_pay102 u k0_pay79 (k0_pay84 k0_pay80 B.s3) (k0_pay97 v k0_pay79 (k0_pay81 k0_pay80 B.s0)) (k0_pay98 v k0_pay79 (k0_pay82 k0_pay80 B.s1)) (k0_pay99 v k0_pay79 (k0_pay83 k0_pay80 B.s2)) (k0_pay100 v) (k0_pay101 v k0_pay79) (Scalar.ofBits .f32 0x00000000#32) B.bs) (k0_pay103 v k0_pay79 (k0_pay81 k0_pay80 B.s0) (k0_pay82 k0_pay80 B.s1) (k0_pay83 k0_pay80 B.s2) (k0_pay84 k0_pay80 B.s3)) B.bs B.wb) k0_pay147 (ix3 0 r d) = B.w177 (B.S r) d := by
  have eu : ∀ r j, u (ix2 r j) = IpRef.rgelu (B.pl (B.S r) ⟨j.val, by omega⟩) := fun r j => by
    rw [hu]
    exact (IpStage.u1 ..).trans (B.u_eq R _ (fun r j => (IpStage.zu1 ..).trans (B.rowU _ B.h1r r j)) r j)
  have ev : ∀ r j, v (ix2 r j) = B.w68 (B.S r) j := fun r j => by
    rw [hv]
    exact (IpStage.v1 ..).trans (B.v_eq R _ (fun r j => (IpStage.zv1 ..).trans (B.rowV _ B.h1r r j)) r j)
  clear hu hv
  exact (IpStage.ma1 _ _ r d).trans (B.ma_eq r d _ _ ((IpStage.zga1 ..).trans (B.rowA _ B.h1r r d)) _ (fun e => B.y_eq _ _ eu ev r e)
    (IpStage.pa1 u v B.s0 B.s1 B.s2 B.s3 B.bs B.XS B.hs0 B.hs1 B.hs2 B.hs3 B.wb r d))
end branch

/-- The first branch, at a token of a point. -/
theorem at16 (c : Dev nD) (t : Fin cfg0.N) (R0 : (B0 m c t).Finite) (R1 : (B1 m c t).Finite) (r : Fin 512) (d : Fin 1024) :
    (outsAt0 m c t.val t.isLt).1 (ix3 0 r d) = (B0 m c t).w177 ⟨t.val % 8 * 512 + r.val, ltS t r⟩ d := by
  have k0 := fun r' d => ma0v (B0 m c t) R0 r' d _ _ rfl rfl
  have k1 := fun r' d => ma1v (B1 m c t) R1 r' d _ _ rfl rfl
  simp only [B0, B1, mk_v3, mk_v5, mk_x, mk_wU, mk_bU, mk_wV, mk_bV, mk_wA, mk_bA, mk_g4, mk_g5, mk_s0, mk_s1, mk_s2, mk_s3, mk_bs, mk_wb] at k0 k1
  by_cases h : t.val % 8 = 0
  · rw [outsAt0_A m c t h]
    frame_out
    exact halves _ _ (fun r d => (B0 m c t).w177 ⟨t.val % 8 * 512 + r.val, ltS t r⟩ d) k1 k0 r d
  · rw [outsAt0_B m c t h]
    frame_out
    exact halves _ _ (fun r d => (B0 m c t).w177 ⟨t.val % 8 * 512 + r.val, ltS t r⟩ d) k1 k0 r d

end Cert.Proof.IpOut

end
-- ==== Proof.IpStream.lean ====
/- The recurrence's operand streams as the input projection's kernel stores them. -/
module

public import proofs.«01_k».proof.Proof.IpOut

@[expose] public section

set_option maxRecDepth 16384

noncomputable section

namespace Cert.Proof.IpStream

open Idealize.ShloMosaic Idealize.ShloMosaic.TcCoe Idealize.SL.Sem
open Cert.InprojIdeal Cert.InprojIdeal.Gen Cert.Proof.IpScalar Cert.Proof.IpSpec Cert.Proof.IpRead Cert.Proof.IpHost Cert.Proof.IpRef Cert.Proof.IpRefOut Cert.Proof.IpVal Cert.Proof.IpBlk Cert.Proof.IpPrev
open Cert.InprojRefIdeal.Read (val_main_v162)

variable (m : (ℓ : Loc nD τ sig) → Buf (Elt Ideal) ℓ)

/-- A tile of 128 lanes cut from an array. -/
theorem tile (A : FVec Ideal S256x512 .f32) (o : Nat) (ho : o + 128 ≤ 512) (hs) (hc) (r : Fin 256) (l : Fin 128) :
    shapeCast S1x1x1x256x128 (extractStridedSlice S256x128 ![0, o] A hs) hc (ix5 0 0 0 r l) = A (ix2 r ⟨o + l.val, by omega⟩) := by
  pointwise
/-- A tile of 128 lanes cut from the shifted lanes. -/
theorem tileZ (A : FVec Ideal S256x1792 .f32) (o : Nat) (ho : o + 128 ≤ 1792) (hs) (hc) (r : Fin 256) (l : Fin 128) :
    shapeCast S1x1x1x256x128 (extractStridedSlice S256x128 ![0, o] A hs) hc (ix5 0 0 0 r l) = A (ix2 r ⟨o + l.val, by omega⟩) := by
  pointwise

/-- What the first 256 tokens store of each stream and tile of lanes, -/
def M0 (z : FVec Ideal S256x1792 .f32) (u : FVec Ideal S256x1536 .f32) (w9 w10 w12 w13 : Vec Ideal S1x512 .f32) (bd : Vec Ideal S512x512 .bf16) : Fin 6 → Fin 4 → Vec Ideal S1x1x1x256x128 .f32 :=
  ![![k0_pay46 z, k0_pay50 z, k0_pay53 z, k0_pay57 z],
    ![k0_pay45 u k0_pay39 (k0_pay40 w9), k0_pay49 (k0_pay41 u k0_pay39 (k0_pay40 w9)), k0_pay52 (k0_pay41 u k0_pay39 (k0_pay40 w9)), k0_pay56 (k0_pay41 u k0_pay39 (k0_pay40 w9))],
    ![k0_pay114 z u w10 w13, k0_pay117 (k0_pay111 z u w10 w13), k0_pay120 (k0_pay111 z u w10 w13), k0_pay123 (k0_pay111 z u w10 w13)],
    ![k0_pay48 (k0_pay47 z), k0_pay51 z, k0_pay55 (k0_pay54 z), k0_pay58 z],
    ![k0_pay115 (k0_pay43 z w12) (k0_pay44 z w12 bd), k0_pay118 (k0_pay112 (k0_pay43 z w12) (k0_pay44 z w12 bd)), k0_pay121 (k0_pay112 (k0_pay43 z w12) (k0_pay44 z w12 bd)), k0_pay124 (k0_pay112 (k0_pay43 z w12) (k0_pay44 z w12 bd))],
    ![k0_pay116 (k0_pay113 u (k0_pay43 z w12) (k0_pay44 z w12 bd) w10), k0_pay119 (k0_pay113 u (k0_pay43 z w12) (k0_pay44 z w12 bd) w10), k0_pay122 (k0_pay113 u (k0_pay43 z w12) (k0_pay44 z w12 bd) w10), k0_pay125 (k0_pay113 u (k0_pay43 z w12) (k0_pay44 z w12 bd) w10)]]
/-- and the last. -/
def M1 (z : FVec Ideal S256x1792 .f32) (u : FVec Ideal S256x1536 .f32) (w9 w10 w12 w13 : Vec Ideal S1x512 .f32) (bd : Vec Ideal S512x512 .bf16) : Fin 6 → Fin 4 → Vec Ideal S1x1x1x256x128 .f32 :=
  ![![k0_pay66 z, k0_pay70 z, k0_pay73 z, k0_pay77 z],
    ![k0_pay65 k0_pay59 (k0_pay60 u w9) (Scalar.ofBits .f32 0x3F800000#32), k0_pay69 (k0_pay68 k0_pay59 (k0_pay60 u w9) (Scalar.ofBits .f32 0x3F800000#32)), k0_pay72 (k0_pay61 k0_pay59 (k0_pay60 u w9) (Scalar.ofBits .f32 0x3F800000#32)), k0_pay76 (k0_pay75 (k0_pay61 k0_pay59 (k0_pay60 u w9) (Scalar.ofBits .f32 0x3F800000#32)))],
    ![k0_pay134 (k0_pay133 z u w10 w13), k0_pay137 (k0_pay130 z u w10 w13), k0_pay141 (k0_pay140 (k0_pay130 z u w10 w13)), k0_pay144 (k0_pay130 z u w10 w13)],
    ![k0_pay67 z, k0_pay71 z, k0_pay74 z, k0_pay78 z],
    ![k0_pay135 (k0_pay131 (k0_pay63 z w12) (k0_pay64 z w12 bd)), k0_pay138 (k0_pay131 (k0_pay63 z w12) (k0_pay64 z w12 bd)), k0_pay142 (k0_pay131 (k0_pay63 z w12) (k0_pay64 z w12 bd)), k0_pay145 (k0_pay131 (k0_pay63 z w12) (k0_pay64 z w12 bd))],
    ![k0_pay136 (k0_pay132 u (k0_pay63 z w12) (k0_pay64 z w12 bd) w10), k0_pay139 (k0_pay132 u (k0_pay63 z w12) (k0_pay64 z w12 bd) w10), k0_pay143 (k0_pay132 u (k0_pay63 z w12) (k0_pay64 z w12 bd) w10), k0_pay146 (k0_pay132 u (k0_pay63 z w12) (k0_pay64 z w12 bd) w10)]]

/-- A stream of the reference. -/
abbrev w162 (B : Blk) (n : Fin 6) (s : Fin 4096) (d : Fin 512) : EReal := val_main_v162 (F := Ideal) B.X0 B.X1 B.X2 B.X3 B.X8 B.X9 B.X10 B.X11 B.X12 B.X14 B.X15 (ix4 B.b n s d)

theorem neg_of (x y : EReal) (h : x = y) : 0 - x = -y := by rw [h, zero_sub]
section group
variable (B : Blk) (R : B.Finite) (z : FVec Ideal S256x1792 .f32) (hz : B.Lanes z) (u : FVec Ideal S256x1536 .f32) (hu : B.Up u)
include R hz hu

theorem s_r (r : Fin 256) (d : Fin 512) : z (ix2 r ⟨d.val, by omega⟩) = w162 B 0 (B.S r) d :=
  (hz r ⟨d.val, by omega⟩).trans ((v162_0 ..).trans (v93_at ..)).symm
theorem s_v (r : Fin 256) (d : Fin 512) : z (ix2 r ⟨1024 + d.val, by omega⟩) = w162 B 3 (B.S r) d :=
  (hz r ⟨1024 + d.val, by omega⟩).trans ((v162_3 ..).trans (v93_at ..)).symm
theorem s_lw0 (r : Fin 256) (d : Fin 512) : k0_pay41 u k0_pay39 (k0_pay40 B.g9) (ix2 r d) = w162 B 1 (B.S r) d :=
  (IpStage.lw0 ..).trans ((B.lw_eq R u hu r d).trans (v162_1 ..).symm)
theorem s_lw1 (r : Fin 256) (d : Fin 512) : k0_pay61 k0_pay59 (k0_pay60 u B.g9) (Scalar.ofBits .f32 0x3F800000#32) (ix2 r d) = w162 B 1 (B.S r) d :=
  (IpStage.lw1 ..).trans ((B.lw_eq R u hu r d).trans (v162_1 ..).symm)
theorem a0' (r : Fin 256) (d : Fin 512) : k0_pay109 u B.g10 (ix2 r d) = B.w125 (B.S r) d := (IpStage.a0 ..).trans (B.a_eq u hu r d)
theorem a1' (r : Fin 256) (d : Fin 512) : k0_pay128 u B.g10 (ix2 r d) = B.w125 (B.S r) d := (IpStage.a1 ..).trans (B.a_eq u hu r d)
theorem s_k0 (r : Fin 256) (d : Fin 512) : k0_pay111 z u B.g10 B.g13 (ix2 r d) = w162 B 2 (B.S r) d :=
  (IpStage.k20 ..).trans ((B.k2_eq z hz r d _ (a0' B R z hz u hu r d)).trans (v162_2 ..).symm)
theorem s_k1 (r : Fin 256) (d : Fin 512) : k0_pay130 z u B.g10 B.g13 (ix2 r d) = w162 B 2 (B.S r) d :=
  (IpStage.k21 ..).trans ((B.k2_eq z hz r d _ (a1' B R z hz u hu r d)).trans (v162_2 ..).symm)
theorem n0' (r : Fin 256) (d : Fin 512) : k0_pay110 (k0_pay43 z B.g12) (k0_pay44 z B.g12 B.bd) (ix2 r d) = B.w144 (B.S r) d :=
  (IpStage.kkn0 ..).trans (B.kkn_eq R _ _ (fun r d => (IpStage.kk0 ..).trans (B.kk_eq z hz r d)) (fun r d => IpStage.n20 ..) r d)
theorem n1' (r : Fin 256) (d : Fin 512) : k0_pay129 (k0_pay63 z B.g12) (k0_pay64 z B.g12 B.bd) (ix2 r d) = B.w144 (B.S r) d :=
  (IpStage.kkn1 ..).trans (B.kkn_eq R _ _ (fun r d => (IpStage.kk1 ..).trans (B.kk_eq z hz r d)) (fun r d => IpStage.n21 ..) r d)
theorem s_nk0 (r : Fin 256) (d : Fin 512) : k0_pay112 (k0_pay43 z B.g12) (k0_pay44 z B.g12 B.bd) (ix2 r d) = w162 B 4 (B.S r) d :=
  (IpStage.nk0 ..).trans ((neg_of _ _ (n0' B R z hz u hu r d)).trans ((v162_4 ..).trans (v154_at ..)).symm)
theorem s_nk1 (r : Fin 256) (d : Fin 512) : k0_pay131 (k0_pay63 z B.g12) (k0_pay64 z B.g12 B.bd) (ix2 r d) = w162 B 4 (B.S r) d :=
  (IpStage.nk1 ..).trans ((neg_of _ _ (n1' B R z hz u hu r d)).trans ((v162_4 ..).trans (v154_at ..)).symm)
theorem s_ka0 (r : Fin 256) (d : Fin 512) : k0_pay113 u (k0_pay43 z B.g12) (k0_pay44 z B.g12 B.bd) B.g10 (ix2 r d) = w162 B 5 (B.S r) d :=
  (IpStage.ka0 ..).trans ((congrArg₂ (fun x y : EReal => x * y) (n0' B R z hz u hu r d) (a0' B R z hz u hu r d)).trans ((v162_5 ..).trans (v155_at ..)).symm)
theorem s_ka1 (r : Fin 256) (d : Fin 512) : k0_pay132 u (k0_pay63 z B.g12) (k0_pay64 z B.g12 B.bd) B.g10 (ix2 r d) = w162 B 5 (B.S r) d :=
  (IpStage.ka1 ..).trans ((congrArg₂ (fun x y : EReal => x * y) (n1' B R z hz u hu r d) (a1' B R z hz u hu r d)).trans ((v162_5 ..).trans (v155_at ..)).symm)

/-- Each stored tile is the reference's stream there. -/
theorem grp0 (n : Fin 6) (p : Fin 4) (r : Fin 256) (l : Fin 128) :
    M0 z u B.g9 B.g10 B.g12 B.g13 B.bd n p (ix5 0 0 0 r l) = w162 B n (B.S r) ⟨p.val * 128 + l.val, by omega⟩ := by
  fin_cases n
  · refine Eq.trans ?_ (s_r B R z hz u hu r _)
    fin_cases p
    · exact tileZ z 0 (by decide) slices_S256x1792_o0_0_S256x128 shapeCasts_S256x128_S1x1x1x256x128 r l
    · exact tileZ z 128 (by decide) slices_S256x1792_o0_128_S256x128 shapeCasts_S256x128_S1x1x1x256x128 r l
    · exact tileZ z 256 (by decide) slices_S256x1792_o0_256_S256x128 shapeCasts_S256x128_S1x1x1x256x128 r l
    · exact tileZ z 384 (by decide) slices_S256x1792_o0_384_S256x128 shapeCasts_S256x128_S1x1x1x256x128 r l
  · refine Eq.trans ?_ (s_lw0 B R z hz u hu r _)
    fin_cases p
    exacts [tile (k0_pay41 u k0_pay39 (k0_pay40 B.g9)) 0 (by decide) slices_S256x512_o0_0_S256x128 shapeCasts_S256x128_S1x1x1x256x128 r l, tile (k0_pay41 u k0_pay39 (k0_pay40 B.g9)) 128 (by decide) slices_S256x512_o0_128_S256x128 shapeCasts_S256x128_S1x1x1x256x128 r l, tile (k0_pay41 u k0_pay39 (k0_pay40 B.g9)) 256 (by decide) slices_S256x512_o0_256_S256x128 shapeCasts_S256x128_S1x1x1x256x128 r l, tile (k0_pay41 u k0_pay39 (k0_pay40 B.g9)) 384 (by decide) slices_S256x512_o0_384_S256x128 shapeCasts_S256x128_S1x1x1x256x128 r l]
  · refine Eq.trans ?_ (s_k0 B R z hz u hu r _)
    fin_cases p
    exacts [tile (k0_pay111 z u B.g10 B.g13) 0 (by decide) slices_S256x512_o0_0_S256x128 shapeCasts_S256x128_S1x1x1x256x128 r l, tile (k0_pay111 z u B.g10 B.g13) 128 (by decide) slices_S256x512_o0_128_S256x128 shapeCasts_S256x128_S1x1x1x256x128 r l, tile (k0_pay111 z u B.g10 B.g13) 256 (by decide) slices_S256x512_o0_256_S256x128 shapeCasts_S256x128_S1x1x1x256x128 r l, tile (k0_pay111 z u B.g10 B.g13) 384 (by decide) slices_S256x512_o0_384_S256x128 shapeCasts_S256x128_S1x1x1x256x128 r l]
  · refine Eq.trans ?_ (s_v B R z hz u hu r _)
    fin_cases p
    · refine (tileZ z 1024 (by decide) slices_S256x1792_o0_1024_S256x128 shapeCasts_S256x128_S1x1x1x256x128 r l).trans (congrArg (fun i => z (ix2 r i)) (Fin.ext ?_))
      show 1024 + l.val = 1024 + (0 * 128 + l.val); omega
    · refine (tileZ z 1152 (by decide) slices_S256x1792_o0_1152_S256x128 shapeCasts_S256x128_S1x1x1x256x128 r l).trans (congrArg (fun i => z (ix2 r i)) (Fin.ext ?_))
      show 1152 + l.val = 1024 + (1 * 128 + l.val); omega
    · refine (tileZ z 1280 (by decide) slices_S256x1792_o0_1280_S256x128 shapeCasts_S256x128_S1x1x1x256x128 r l).trans (congrArg (fun i => z (ix2 r i)) (Fin.ext ?_))
      show 1280 + l.val = 1024 + (2 * 128 + l.val); omega
    · refine (tileZ z 1408 (by decide) slices_S256x1792_o0_1408_S256x128 shapeCasts_S256x128_S1x1x1x256x128 r l).trans (congrArg (fun i => z (ix2 r i)) (Fin.ext ?_))
      show 1408 + l.val = 1024 + (3 * 128 + l.val); omega
  · refine Eq.trans ?_ (s_nk0 B R z hz u hu r _)
    fin_cases p
    exacts [tile (k0_pay112 (k0_pay43 z B.g12) (k0_pay44 z B.g12 B.bd)) 0 (by decide) slices_S256x512_o0_0_S256x128 shapeCasts_S256x128_S1x1x1x256x128 r l, tile (k0_pay112 (k0_pay43 z B.g12) (k0_pay44 z B.g12 B.bd)) 128 (by decide) slices_S256x512_o0_128_S256x128 shapeCasts_S256x128_S1x1x1x256x128 r l, tile (k0_pay112 (k0_pay43 z B.g12) (k0_pay44 z B.g12 B.bd)) 256 (by decide) slices_S256x512_o0_256_S256x128 shapeCasts_S256x128_S1x1x1x256x128 r l, tile (k0_pay112 (k0_pay43 z B.g12) (k0_pay44 z B.g12 B.bd)) 384 (by decide) slices_S256x512_o0_384_S256x128 shapeCasts_S256x128_S1x1x1x256x128 r l]
  · refine Eq.trans ?_ (s_ka0 B R z hz u hu r _)
    fin_cases p
    exacts [tile (k0_pay113 u (k0_pay43 z B.g12) (k0_pay44 z B.g12 B.bd) B.g10) 0 (by decide) slices_S256x512_o0_0_S256x128 shapeCasts_S256x128_S1x1x1x256x128 r l, tile (k0_pay113 u (k0_pay43 z B.g12) (k0_pay44 z B.g12 B.bd) B.g10) 128 (by decide) slices_S256x512_o0_128_S256x128 shapeCasts_S256x128_S1x1x1x256x128 r l, tile (k0_pay113 u (k0_pay43 z B.g12) (k0_pay44 z B.g12 B.bd) B.g10) 256 (by decide) slices_S256x512_o0_256_S256x128 shapeCasts_S256x128_S1x1x1x256x128 r l, tile (k0_pay113 u (k0_pay43 z B.g12) (k0_pay44 z B.g12 B.bd) B.g10) 384 (by decide) slices_S256x512_o0_384_S256x128 shapeCasts_S256x128_S1x1x1x256x128 r l]
theorem grp1 (n : Fin 6) (p : Fin 4) (r : Fin 256) (l : Fin 128) :
    M1 z u B.g9 B.g10 B.g12 B.g13 B.bd n p (ix5 0 0 0 r l) = w162 B n (B.S r) ⟨p.val * 128 + l.val, by omega⟩ := by
  fin_cases n
  · refine Eq.trans ?_ (s_r B R z hz u hu r _)
    fin_cases p
    · exact tileZ z 0 (by decide) slices_S256x1792_o0_0_S256x128 shapeCasts_S256x128_S1x1x1x256x128 r l
    · exact tileZ z 128 (by decide) slices_S256x1792_o0_128_S256x128 shapeCasts_S256x128_S1x1x1x256x128 r l
    · exact tileZ z 256 (by decide) slices_S256x1792_o0_256_S256x128 shapeCasts_S256x128_S1x1x1x256x128 r l
    · exact tileZ z 384 (by decide) slices_S256x1792_o0_384_S256x128 shapeCasts_S256x128_S1x1x1x256x128 r l
  · refine Eq.trans ?_ (s_lw1 B R z hz u hu r _)
    fin_cases p
    exacts [tile (k0_pay61 k0_pay59 (k0_pay60 u B.g9) (Scalar.ofBits .f32 0x3F800000#32)) 0 (by decide) slices_S256x512_o0_0_S256x128 shapeCasts_S256x128_S1x1x1x256x128 r l, tile (k0_pay61 k0_pay59 (k0_pay60 u B.g9) (Scalar.ofBits .f32 0x3F800000#32)) 128 (by decide) slices_S256x512_o0_128_S256x128 shapeCasts_S256x128_S1x1x1x256x128 r l, tile (k0_pay61 k0_pay59 (k0_pay60 u B.g9) (Scalar.ofBits .f32 0x3F800000#32)) 256 (by decide) slices_S256x512_o0_256_S256x128 shapeCasts_S256x128_S1x1x1x256x128 r l, tile (k0_pay61 k0_pay59 (k0_pay60 u B.g9) (Scalar.ofBits .f32 0x3F800000#32)) 384 (by decide) slices_S256x512_o0_384_S256x128 shapeCasts_S256x128_S1x1x1x256x128 r l]
  · refine Eq.trans ?_ (s_k1 B R z hz u hu r _)
    fin_cases p
    exacts [tile (k0_pay130 z u B.g10 B.g13) 0 (by decide) slices_S256x512_o0_0_S256x128 shapeCasts_S256x128_S1x1x1x256x128 r l, tile (k0_pay130 z u B.g10 B.g13) 128 (by decide) slices_S256x512_o0_128_S256x128 shapeCasts_S256x128_S1x1x1x256x128 r l, tile (k0_pay130 z u B.g10 B.g13) 256 (by decide) slices_S256x512_o0_256_S256x128 shapeCasts_S256x128_S1x1x1x256x128 r l, tile (k0_pay130 z u B.g10 B.g13) 384 (by decide) slices_S256x512_o0_384_S256x128 shapeCasts_S256x128_S1x1x1x256x128 r l]
  · refine Eq.trans ?_ (s_v B R z hz u hu r _)
    fin_cases p
    · refine (tileZ z 1024 (by decide) slices_S256x1792_o0_1024_S256x128 shapeCasts_S256x128_S1x1x1x256x128 r l).trans (congrArg (fun i => z (ix2 r i)) (Fin.ext ?_))
      show 1024 + l.val = 1024 + (0 * 128 + l.val); omega
    · refine (tileZ z 1152 (by decide) slices_S256x1792_o0_1152_S256x128 shapeCasts_S256x128_S1x1x1x256x128 r l).trans (congrArg (fun i => z (ix2 r i)) (Fin.ext ?_))
      show 1152 + l.val = 1024 + (1 * 128 + l.val); omega
    · refine (tileZ z 1280 (by decide) slices_S256x1792_o0_1280_S256x128 shapeCasts_S256x128_S1x1x1x256x128 r l).trans (congrArg (fun i => z (ix2 r i)) (Fin.ext ?_))
      show 1280 + l.val = 1024 + (2 * 128 + l.val); omega
    · refine (tileZ z 1408 (by decide) slices_S256x1792_o0_1408_S256x128 shapeCasts_S256x128_S1x1x1x256x128 r l).trans (congrArg (fun i => z (ix2 r i)) (Fin.ext ?_))
      show 1408 + l.val = 1024 + (3 * 128 + l.val); omega
  · refine Eq.trans ?_ (s_nk1 B R z hz u hu r _)
    fin_cases p
    exacts [tile (k0_pay131 (k0_pay63 z B.g12) (k0_pay64 z B.g12 B.bd)) 0 (by decide) slices_S256x512_o0_0_S256x128 shapeCasts_S256x128_S1x1x1x256x128 r l, tile (k0_pay131 (k0_pay63 z B.g12) (k0_pay64 z B.g12 B.bd)) 128 (by decide) slices_S256x512_o0_128_S256x128 shapeCasts_S256x128_S1x1x1x256x128 r l, tile (k0_pay131 (k0_pay63 z B.g12) (k0_pay64 z B.g12 B.bd)) 256 (by decide) slices_S256x512_o0_256_S256x128 shapeCasts_S256x128_S1x1x1x256x128 r l, tile (k0_pay131 (k0_pay63 z B.g12) (k0_pay64 z B.g12 B.bd)) 384 (by decide) slices_S256x512_o0_384_S256x128 shapeCasts_S256x128_S1x1x1x256x128 r l]
  · refine Eq.trans ?_ (s_ka1 B R z hz u hu r _)
    fin_cases p
    exacts [tile (k0_pay132 u (k0_pay63 z B.g12) (k0_pay64 z B.g12 B.bd) B.g10) 0 (by decide) slices_S256x512_o0_0_S256x128 shapeCasts_S256x128_S1x1x1x256x128 r l, tile (k0_pay132 u (k0_pay63 z B.g12) (k0_pay64 z B.g12 B.bd) B.g10) 128 (by decide) slices_S256x512_o0_128_S256x128 shapeCasts_S256x128_S1x1x1x256x128 r l, tile (k0_pay132 u (k0_pay63 z B.g12) (k0_pay64 z B.g12 B.bd) B.g10) 256 (by decide) slices_S256x512_o0_256_S256x128 shapeCasts_S256x128_S1x1x1x256x128 r l, tile (k0_pay132 u (k0_pay63 z B.g12) (k0_pay64 z B.g12 B.bd) B.g10) 384 (by decide) slices_S256x512_o0_384_S256x128 shapeCasts_S256x128_S1x1x1x256x128 r l]
end group

/-- A piece holding an entry holds the stream's value there. -/
theorem piece (w : Vec Ideal S1x1x1x256x128 .f32) (G : Fin 6 → Fin 4 → Fin 512 → Fin 128 → EReal) (k : Fin 6) (q : Fin 4) (o : Nat) (ho : o + 256 ≤ 512)
    (g : ∀ (r : Fin 256) l, w (ix5 0 0 0 r l) = G k q ⟨o + r.val, by omega⟩ l) (n : Fin 6) (p : Fin 4) (r : Fin 512) (l : Fin 128) (x : S1x1x1x256x128.Idx)
    (h1 : n.val = k.val + (x 1).val) (h2 : p.val = q.val + (x 2).val) (h3 : r.val = o + (x 3).val) (h4 : l.val = (x 4).val) : w x = G n p r l := by
  have x0 : (x 0).val < 1 := (x 0).isLt
  have x1 : (x 1).val < 1 := (x 1).isLt
  have x2 : (x 2).val < 1 := (x 2).isLt
  have x3 : (x 3).val < 256 := (x 3).isLt
  have e : x = ix5 0 0 0 ⟨(x 3).val, x3⟩ l := by blk_ext [h4.symm]
  have en : k = n := Fin.ext (by omega)
  have ep : q = p := Fin.ext (by omega)
  have er : (⟨o + (x 3).val, by omega⟩ : Fin 512) = r := Fin.ext h3.symm
  refine (congrArg w e).trans ((g _ _).trans ?_)
  rw [en, ep]
  exact congrArg (fun i => G n p i l) er

/-- The stored tiles read back: 6 streams, 4 tiles of lanes, 2 halves of the tokens. -/
theorem tiles (P0 P1 : Fin 6 → Fin 4 → Vec Ideal S1x1x1x256x128 .f32) (G : Fin 6 → Fin 4 → Fin 512 → Fin 128 → EReal)
    (g0 : ∀ n p (r : Fin 256) l, P0 n p (ix5 0 0 0 r l) = G n p ⟨0 + r.val, by omega⟩ l)
    (g1 : ∀ n p (r : Fin 256) l, P1 n p (ix5 0 0 0 r l) = G n p ⟨256 + r.val, by omega⟩ l) (n : Fin 6) (p : Fin 4) (r : Fin 512) (l : Fin 128) :
    View.canon [(⟨Rect.unit ![0, 5, 3, 256, 0] ![1, 1, 1, 256, 128] inb_S1x6x4x512x128_S1x1x1x256x128_0_5_3_256_0, P1 5 3⟩ : View.Piece (Elt Ideal) S1x6x4x512x128 .f32),
      ⟨Rect.unit ![0, 4, 3, 256, 0] ![1, 1, 1, 256, 128] inb_S1x6x4x512x128_S1x1x1x256x128_0_4_3_256_0, P1 4 3⟩,
      ⟨Rect.unit ![0, 2, 3, 256, 0] ![1, 1, 1, 256, 128] inb_S1x6x4x512x128_S1x1x1x256x128_0_2_3_256_0, P1 2 3⟩,
      ⟨Rect.unit ![0, 5, 2, 256, 0] ![1, 1, 1, 256, 128] inb_S1x6x4x512x128_S1x1x1x256x128_0_5_2_256_0, P1 5 2⟩,
      ⟨Rect.unit ![0, 4, 2, 256, 0] ![1, 1, 1, 256, 128] inb_S1x6x4x512x128_S1x1x1x256x128_0_4_2_256_0, P1 4 2⟩,
      ⟨Rect.unit ![0, 2, 2, 256, 0] ![1, 1, 1, 256, 128] inb_S1x6x4x512x128_S1x1x1x256x128_0_2_2_256_0, P1 2 2⟩,
      ⟨Rect.unit ![0, 5, 1, 256, 0] ![1, 1, 1, 256, 128] inb_S1x6x4x512x128_S1x1x1x256x128_0_5_1_256_0, P1 5 1⟩,
      ⟨Rect.unit ![0, 4, 1, 256, 0] ![1, 1, 1, 256, 128] inb_S1x6x4x512x128_S1x1x1x256x128_0_4_1_256_0, P1 4 1⟩,
      ⟨Rect.unit ![0, 2, 1, 256, 0] ![1, 1, 1, 256, 128] inb_S1x6x4x512x128_S1x1x1x256x128_0_2_1_256_0, P1 2 1⟩,
      ⟨Rect.unit ![0, 5, 0, 256, 0] ![1, 1, 1, 256, 128] inb_S1x6x4x512x128_S1x1x1x256x128_0_5_0_256_0, P1 5 0⟩,
      ⟨Rect.unit ![0, 4, 0, 256, 0] ![1, 1, 1, 256, 128] inb_S1x6x4x512x128_S1x1x1x256x128_0_4_0_256_0, P1 4 0⟩,
      ⟨Rect.unit ![0, 2, 0, 256, 0] ![1, 1, 1, 256, 128] inb_S1x6x4x512x128_S1x1x1x256x128_0_2_0_256_0, P1 2 0⟩,
      ⟨Rect.unit ![0, 5, 3, 0, 0] ![1, 1, 1, 256, 128] inb_S1x6x4x512x128_S1x1x1x256x128_0_5_3_0_0, P0 5 3⟩,
      ⟨Rect.unit ![0, 4, 3, 0, 0] ![1, 1, 1, 256, 128] inb_S1x6x4x512x128_S1x1x1x256x128_0_4_3_0_0, P0 4 3⟩,
      ⟨Rect.unit ![0, 2, 3, 0, 0] ![1, 1, 1, 256, 128] inb_S1x6x4x512x128_S1x1x1x256x128_0_2_3_0_0, P0 2 3⟩,
      ⟨Rect.unit ![0, 5, 2, 0, 0] ![1, 1, 1, 256, 128] inb_S1x6x4x512x128_S1x1x1x256x128_0_5_2_0_0, P0 5 2⟩,
      ⟨Rect.unit ![0, 4, 2, 0, 0] ![1, 1, 1, 256, 128] inb_S1x6x4x512x128_S1x1x1x256x128_0_4_2_0_0, P0 4 2⟩,
      ⟨Rect.unit ![0, 2, 2, 0, 0] ![1, 1, 1, 256, 128] inb_S1x6x4x512x128_S1x1x1x256x128_0_2_2_0_0, P0 2 2⟩,
      ⟨Rect.unit ![0, 5, 1, 0, 0] ![1, 1, 1, 256, 128] inb_S1x6x4x512x128_S1x1x1x256x128_0_5_1_0_0, P0 5 1⟩,
      ⟨Rect.unit ![0, 4, 1, 0, 0] ![1, 1, 1, 256, 128] inb_S1x6x4x512x128_S1x1x1x256x128_0_4_1_0_0, P0 4 1⟩,
      ⟨Rect.unit ![0, 2, 1, 0, 0] ![1, 1, 1, 256, 128] inb_S1x6x4x512x128_S1x1x1x256x128_0_2_1_0_0, P0 2 1⟩,
      ⟨Rect.unit ![0, 5, 0, 0, 0] ![1, 1, 1, 256, 128] inb_S1x6x4x512x128_S1x1x1x256x128_0_5_0_0_0, P0 5 0⟩,
      ⟨Rect.unit ![0, 4, 0, 0, 0] ![1, 1, 1, 256, 128] inb_S1x6x4x512x128_S1x1x1x256x128_0_4_0_0_0, P0 4 0⟩,
      ⟨Rect.unit ![0, 2, 0, 0, 0] ![1, 1, 1, 256, 128] inb_S1x6x4x512x128_S1x1x1x256x128_0_2_0_0_0, P0 2 0⟩,
      ⟨Rect.unit ![0, 3, 3, 256, 0] ![1, 1, 1, 256, 128] inb_S1x6x4x512x128_S1x1x1x256x128_0_3_3_256_0, P1 3 3⟩,
      ⟨Rect.unit ![0, 0, 3, 256, 0] ![1, 1, 1, 256, 128] inb_S1x6x4x512x128_S1x1x1x256x128_0_0_3_256_0, P1 0 3⟩,
      ⟨Rect.unit ![0, 1, 3, 256, 0] ![1, 1, 1, 256, 128] inb_S1x6x4x512x128_S1x1x1x256x128_0_1_3_256_0, P1 1 3⟩,
      ⟨Rect.unit ![0, 3, 2, 256, 0] ![1, 1, 1, 256, 128] inb_S1x6x4x512x128_S1x1x1x256x128_0_3_2_256_0, P1 3 2⟩,
      ⟨Rect.unit ![0, 0, 2, 256, 0] ![1, 1, 1, 256, 128] inb_S1x6x4x512x128_S1x1x1x256x128_0_0_2_256_0, P1 0 2⟩,
      ⟨Rect.unit ![0, 1, 2, 256, 0] ![1, 1, 1, 256, 128] inb_S1x6x4x512x128_S1x1x1x256x128_0_1_2_256_0, P1 1 2⟩,
      ⟨Rect.unit ![0, 3, 1, 256, 0] ![1, 1, 1, 256, 128] inb_S1x6x4x512x128_S1x1x1x256x128_0_3_1_256_0, P1 3 1⟩,
      ⟨Rect.unit ![0, 0, 1, 256, 0] ![1, 1, 1, 256, 128] inb_S1x6x4x512x128_S1x1x1x256x128_0_0_1_256_0, P1 0 1⟩,
      ⟨Rect.unit ![0, 1, 1, 256, 0] ![1, 1, 1, 256, 128] inb_S1x6x4x512x128_S1x1x1x256x128_0_1_1_256_0, P1 1 1⟩,
      ⟨Rect.unit ![0, 3, 0, 256, 0] ![1, 1, 1, 256, 128] inb_S1x6x4x512x128_S1x1x1x256x128_0_3_0_256_0, P1 3 0⟩,
      ⟨Rect.unit ![0, 0, 0, 256, 0] ![1, 1, 1, 256, 128] inb_S1x6x4x512x128_S1x1x1x256x128_0_0_0_256_0, P1 0 0⟩,
      ⟨Rect.unit ![0, 1, 0, 256, 0] ![1, 1, 1, 256, 128] inb_S1x6x4x512x128_S1x1x1x256x128_0_1_0_256_0, P1 1 0⟩,
      ⟨Rect.unit ![0, 3, 3, 0, 0] ![1, 1, 1, 256, 128] inb_S1x6x4x512x128_S1x1x1x256x128_0_3_3_0_0, P0 3 3⟩,
      ⟨Rect.unit ![0, 0, 3, 0, 0] ![1, 1, 1, 256, 128] inb_S1x6x4x512x128_S1x1x1x256x128_0_0_3_0_0, P0 0 3⟩,
      ⟨Rect.unit ![0, 1, 3, 0, 0] ![1, 1, 1, 256, 128] inb_S1x6x4x512x128_S1x1x1x256x128_0_1_3_0_0, P0 1 3⟩,
      ⟨Rect.unit ![0, 3, 2, 0, 0] ![1, 1, 1, 256, 128] inb_S1x6x4x512x128_S1x1x1x256x128_0_3_2_0_0, P0 3 2⟩,
      ⟨Rect.unit ![0, 0, 2, 0, 0] ![1, 1, 1, 256, 128] inb_S1x6x4x512x128_S1x1x1x256x128_0_0_2_0_0, P0 0 2⟩,
      ⟨Rect.unit ![0, 1, 2, 0, 0] ![1, 1, 1, 256, 128] inb_S1x6x4x512x128_S1x1x1x256x128_0_1_2_0_0, P0 1 2⟩,
      ⟨Rect.unit ![0, 3, 1, 0, 0] ![1, 1, 1, 256, 128] inb_S1x6x4x512x128_S1x1x1x256x128_0_3_1_0_0, P0 3 1⟩,
      ⟨Rect.unit ![0, 0, 1, 0, 0] ![1, 1, 1, 256, 128] inb_S1x6x4x512x128_S1x1x1x256x128_0_0_1_0_0, P0 0 1⟩,
      ⟨Rect.unit ![0, 1, 1, 0, 0] ![1, 1, 1, 256, 128] inb_S1x6x4x512x128_S1x1x1x256x128_0_1_1_0_0, P0 1 1⟩,
      ⟨Rect.unit ![0, 3, 0, 0, 0] ![1, 1, 1, 256, 128] inb_S1x6x4x512x128_S1x1x1x256x128_0_3_0_0_0, P0 3 0⟩,
      ⟨Rect.unit ![0, 0, 0, 0, 0] ![1, 1, 1, 256, 128] inb_S1x6x4x512x128_S1x1x1x256x128_0_0_0_0_0, P0 0 0⟩,
      ⟨Rect.unit ![0, 1, 0, 0, 0] ![1, 1, 1, 256, 128] inb_S1x6x4x512x128_S1x1x1x256x128_0_1_0_0_0, P0 1 0⟩] (ix5 0 n p r l) = G n p r l := by
  canon_tiles x h
  all_goals
    have q1 : n.val = _ := h1
    have q2 : p.val = _ := h2
    have q3 : r.val = _ := h3
    have q4 : l.val = _ := h4
    first
      | refine piece (P1 _ _) G _ _ 256 (by decide) (g1 _ _) n p r l x ?_ ?_ ?_ ?_
      | refine piece (P0 _ _) G _ _ 0 (by decide) (g0 _ _) n p r l x ?_ ?_ ?_ ?_
    all_goals simp <;> omega

/-- The streams, at a token of a point. -/
theorem at18 (c : Dev nD) (t : Fin cfg0.N) (R0 : (B0 m c t).Finite) (R1 : (B1 m c t).Finite) (n : Fin 6) (p : Fin 4) (r : Fin 512) (l : Fin 128) :
    (outsAt0 m c t.val t.isLt).2.2.1 (ix5 0 n p r l) = w162 (B0 m c t) n ⟨t.val % 8 * 512 + r.val, ltS t r⟩ ⟨p.val * 128 + l.val, by omega⟩ := by
  have k0 := fun p hp => grp0 (B0 m c t) R0 _ ((B0 m c t).lanes0 p hp) _ ((B0 m c t).up0v p hp)
  have k1 := fun p hp => grp1 (B1 m c t) R1 _ ((B1 m c t).lanes1 p hp) _ ((B1 m c t).up1v p hp)
  by_cases h : t.val % 8 = 0
  · have q0 := prev0A m c t h (k0_pay11 (k0_pay8 (B1 m c t).v3 (B1 m c t).v5 (B1 m c t).x (B1 m c t).wR) (B1 m c t).bR)
    have q1 := prev1 m c t [(⟨Rect.unit ![0, 0] ![8, 1792] inb_S520x1792_S8x1792_0_0, (k0_pay2 (F := Ideal) : Vec Ideal S8x1792 .f32)⟩ : Pc)]
    have e := tiles _ _ (fun n p r l => w162 (B0 m c t) n ⟨t.val % 8 * 512 + r.val, ltS t r⟩ ⟨p.val * 128 + l.val, by omega⟩) (k0 _ q0) (k1 _ q1) n p r l
    clear k0 k1 q0 q1
    rw [outsAt0_A m c t h]
    frame_out
    simp only [B0, B1, mk_v3, mk_v5, mk_x, mk_wR, mk_bR, mk_mu, mk_up, mk_g9, mk_g10, mk_g12, mk_g13, mk_bd] at e
    exact e
  · have q0 := prev0B m c t h (k0_pay11 (k0_pay8 (B1 m c t).v3 (B1 m c t).v5 (B1 m c t).x (B1 m c t).wR) (B1 m c t).bR) (Nat.lt_of_le_of_lt (Nat.sub_le _ _) t.isLt) (Memref.isWhole_whole _)
    have q1 := prev1 m c t []
    have e := tiles _ _ (fun n p r l => w162 (B0 m c t) n ⟨t.val % 8 * 512 + r.val, ltS t r⟩ ⟨p.val * 128 + l.val, by omega⟩) (k0 _ q0) (k1 _ q1) n p r l
    clear k0 k1 q0 q1
    rw [outsAt0_B m c t h]
    frame_out
    simp only [B0, B1, mk_v3, mk_v5, mk_x, mk_wR, mk_bR, mk_mu, mk_up, mk_g9, mk_g10, mk_g12, mk_g13, mk_bd] at e
    exact e

end Cert.Proof.IpStream

end
-- ==== Proof.IpFinal.lean ====
/- The four result arrays of the input projection's kernel are its reference's. -/
module

public import proofs.«01_k».proof.Proof.IpStream
public import proofs.«01_k».proof.Proof.Gen.InprojIdeal.Value

@[expose] public section

set_option maxRecDepth 16384

noncomputable section

namespace Cert.Proof.IpFinal

open Idealize.ShloMosaic Idealize.ShloMosaic.TcCoe Idealize.SL.Sem
open Cert.InprojIdeal Cert.InprojIdeal.Gen Cert.Proof.IpScalar Cert.Proof.IpSpec Cert.Proof.IpRead Cert.Proof.IpHost Cert.Proof.IpRef Cert.Proof.IpRefOut Cert.Proof.IpVal Cert.Proof.IpBlk Cert.Proof.IpPrev
open Cert.InprojRefIdeal.Read (val_main_v162 val_main_v164 val_main_v177 val_main_v184 val_main_v185)

theorem idx16 : ∀ t : Fin cfg0.N, win0_16.index t = ![t.val / 8, t.val % 8, 0] := (by decide +kernel : ∀ t : Fin grid0.N, _)
theorem idx17 : ∀ t : Fin cfg0.N, win0_17.index t = ![t.val / 8, t.val % 8, 0] := (by decide +kernel : ∀ t : Fin grid0.N, _)
theorem idx18 : ∀ t : Fin cfg0.N, win0_18.index t = ![t.val / 8, 0, 0, t.val % 8, 0] := (by decide +kernel : ∀ t : Fin grid0.N, _)
theorem idx19 : ∀ t : Fin cfg0.N, win0_19.index t = ![t.val / 8, t.val % 8, 0] := (by decide +kernel : ∀ t : Fin grid0.N, _)

variable (m : (ℓ : Loc nD τ sig) → Buf (Elt Ideal) ℓ)

/-- The arrays whose entries have to be real numbers, on one device. -/
structure Reals (c : Dev nD) : Prop where
  r0 : ∀ i, Real' (m ((c : Thread nD τ).loc main_arg0) i)
  r1 : ∀ i, Real' (m ((c : Thread nD τ).loc main_arg1) i)
  r2 : ∀ i, Real' (m ((c : Thread nD τ).loc main_arg2) i)
  r3 : ∀ i, Real' (m ((c : Thread nD τ).loc main_arg3) i)
  r8 : ∀ i, Real' (m ((c : Thread nD τ).loc main_arg8) i)
  r9 : ∀ i, Real' (m ((c : Thread nD τ).loc main_arg9) i)
  r10 : ∀ i, Real' (m ((c : Thread nD τ).loc main_arg10) i)
  r14 : ∀ i, Real' (m ((c : Thread nD τ).loc main_arg14) i)

/-- Then both halves of a block are finite. -/
theorem fin0 (c : Dev nD) (t : Fin cfg0.N) (R : Reals m c) : (B0 m c t).Finite :=
  ⟨R.r0, R.r1, R.r2, R.r3, R.r8, R.r9, R.r10, R.r14⟩
theorem fin1 (c : Dev nD) (t : Fin cfg0.N) (R : Reals m c) : (B1 m c t).Finite :=
  ⟨R.r0, R.r1, R.r2, R.r3, R.r8, R.r9, R.r10, R.r14⟩

theorem point16 (c : Dev nD) (R : Reals m c) (t : Fin cfg0.N) (y : S1x512x1024.Idx) :
    (outsAt0 m c t.val t.isLt).1 y = val_main_v177 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg16)) (((cfg0.win 16).blk t).view.emb y) := by
  have hi := idx16 t
  have hy0 : (y 0).val < 1 := (y 0).isLt
  have hy1 : (y 1).val < 512 := (y 1).isLt
  have hy2 : (y 2).val < 1024 := (y 2).isLt
  obtain ⟨r, hr⟩ : ∃ r : Fin 512, r.val = (y 1).val := ⟨⟨_, hy1⟩, rfl⟩
  obtain ⟨d, hd⟩ : ∃ d : Fin 1024, d.val = (y 2).val := ⟨⟨_, hy2⟩, rfl⟩
  have hyy : y = ix3 0 r d := by
    have h1 := hr.symm
    have h2 := hd.symm
    blk_ext
  have he : ((cfg0.win 16).blk t).view.emb y = ix3 (⟨t.val / 8, lt8 t⟩ : Fin 8) (⟨t.val % 8 * 512 + r.val, ltS t r⟩ : Fin 4096) d := by
    have h1 := hr.symm
    have h2 := hd.symm
    blk_ext [hi]
  refine Eq.trans ?_ (congrArg (val_main_v177 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg16))) he.symm)
  refine (congrArg ((outsAt0 m c t.val t.isLt).1) hyy).trans ?_
  exact IpOut.at16 m c t (fin0 m c t R) (fin1 m c t R) r d

theorem final16 (c : Dev nD) (R : Reals m c) : (dats m 0 c).arrAt 16 cfg0.N = val_main_v177 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg16)) := by
  refine (dats m 0 c).arrAt_eq_of_covers 16 _ (by decide +kernel) fun t _ y => ?_
  blk_simp
  rw [after0_16]
  exact point16 m c R t y

theorem point17 (c : Dev nD) (t : Fin cfg0.N) (y : S1x512x1024.Idx) :
    (outsAt0 m c t.val t.isLt).2.1 y = val_main_v184 (F := Ideal) (m ((c : Thread nD τ).loc main_arg0)) (m ((c : Thread nD τ).loc main_arg1)) (m ((c : Thread nD τ).loc main_arg2)) (m ((c : Thread nD τ).loc main_arg3)) (((cfg0.win 17).blk t).view.emb y) := by
  have hi := idx17 t
  have hy0 : (y 0).val < 1 := (y 0).isLt
  have hy1 : (y 1).val < 512 := (y 1).isLt
  have hy2 : (y 2).val < 1024 := (y 2).isLt
  obtain ⟨r, hr⟩ : ∃ r : Fin 512, r.val = (y 1).val := ⟨⟨_, hy1⟩, rfl⟩
  obtain ⟨d, hd⟩ : ∃ d : Fin 1024, d.val = (y 2).val := ⟨⟨_, hy2⟩, rfl⟩
  have hyy : y = ix3 0 r d := by
    have h1 := hr.symm
    have h2 := hd.symm
    blk_ext
  have he : ((cfg0.win 17).blk t).view.emb y = ix3 (⟨t.val / 8, lt8 t⟩ : Fin 8) (⟨t.val % 8 * 512 + r.val, ltS t r⟩ : Fin 4096) d := by
    have h1 := hr.symm
    have h2 := hd.symm
    blk_ext [hi]
  refine Eq.trans ?_ (congrArg (val_main_v184 (F := Ideal) (m ((c : Thread nD τ).loc main_arg0)) (m ((c : Thread nD τ).loc main_arg1)) (m ((c : Thread nD τ).loc main_arg2)) (m ((c : Thread nD τ).loc main_arg3))) he.symm)
  refine (congrArg ((outsAt0 m c t.val t.isLt).2.1) hyy).trans ?_
  exact IpOut.at17 m c t r d

theorem final17 (c : Dev nD) : (dats m 0 c).arrAt 17 cfg0.N = val_main_v184 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 17 _ (by decide +kernel) fun t _ y => ?_
  blk_simp
  rw [after0_17]
  exact point17 m c t y

theorem point19 (c : Dev nD) (t : Fin cfg0.N) (y : S1x512x512.Idx) :
    (outsAt0 m c t.val t.isLt).2.2.2.1 y = val_main_v185 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg13)) (((cfg0.win 19).blk t).view.emb y) := by
  have hi := idx19 t
  have hy0 : (y 0).val < 1 := (y 0).isLt
  have hy1 : (y 1).val < 512 := (y 1).isLt
  have hy2 : (y 2).val < 512 := (y 2).isLt
  obtain ⟨r, hr⟩ : ∃ r : Fin 512, r.val = (y 1).val := ⟨⟨_, hy1⟩, rfl⟩
  obtain ⟨d, hd⟩ : ∃ d : Fin 512, d.val = (y 2).val := ⟨⟨_, hy2⟩, rfl⟩
  have hyy : y = ix3 0 r d := by
    have h1 := hr.symm
    have h2 := hd.symm
    blk_ext
  have he : ((cfg0.win 19).blk t).view.emb y = ix3 (⟨t.val / 8, lt8 t⟩ : Fin 8) (⟨t.val % 8 * 512 + r.val, ltS t r⟩ : Fin 4096) d := by
    have h1 := hr.symm
    have h2 := hd.symm
    blk_ext [hi]
  refine Eq.trans ?_ (congrArg (val_main_v185 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg13))) he.symm)
  refine (congrArg ((outsAt0 m c t.val t.isLt).2.2.2.1) hyy).trans ?_
  exact IpOut.at19 m c t r d

theorem final19 (c : Dev nD) : (dats m 0 c).arrAt 19 cfg0.N = val_main_v185 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg13)) := by
  refine (dats m 0 c).arrAt_eq_of_covers 19 _ (by decide +kernel) fun t _ y => ?_
  blk_simp
  rw [after0_19]
  exact point19 m c t y

theorem point18 (c : Dev nD) (R : Reals m c) (t : Fin cfg0.N) (y : S1x6x4x512x128.Idx) :
    (outsAt0 m c t.val t.isLt).2.2.1 y = val_main_v164 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg14)) (m ((c : Thread nD τ).loc main_arg15)) (((cfg0.win 18).blk t).view.emb y) := by
  have hi := idx18 t
  have hy0 : (y 0).val < 1 := (y 0).isLt
  have hy1 : (y 1).val < 6 := (y 1).isLt
  have hy2 : (y 2).val < 4 := (y 2).isLt
  have hy3 : (y 3).val < 512 := (y 3).isLt
  have hy4 : (y 4).val < 128 := (y 4).isLt
  obtain ⟨n, hn⟩ : ∃ n : Fin 6, n.val = (y 1).val := ⟨⟨_, hy1⟩, rfl⟩
  obtain ⟨p, hp⟩ : ∃ p : Fin 4, p.val = (y 2).val := ⟨⟨_, hy2⟩, rfl⟩
  obtain ⟨r, hr⟩ : ∃ r : Fin 512, r.val = (y 3).val := ⟨⟨_, hy3⟩, rfl⟩
  obtain ⟨l, hl⟩ : ∃ l : Fin 128, l.val = (y 4).val := ⟨⟨_, hy4⟩, rfl⟩
  have h1 := hn.symm
  have h2 := hp.symm
  have h3 := hr.symm
  have h4 := hl.symm
  have hyy : y = ix5 0 n p r l := by blk_ext
  have he : ((cfg0.win 18).blk t).view.emb y = ix5 (⟨t.val / 8, lt8 t⟩ : Fin 8) n p (⟨t.val % 8 * 512 + r.val, ltS t r⟩ : Fin 4096) l := by blk_ext [hi]
  refine Eq.trans ?_ ((v164_at (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg14)) (m ((c : Thread nD τ).loc main_arg15)) _ n p _ l).symm.trans (congrArg (val_main_v164 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg14)) (m ((c : Thread nD τ).loc main_arg15))) he.symm))
  refine (congrArg ((outsAt0 m c t.val t.isLt).2.2.1) hyy).trans ?_
  exact IpStream.at18 m c t (fin0 m c t R) (fin1 m c t R) n p r l

theorem final18 (c : Dev nD) (R : Reals m c) : (dats m 0 c).arrAt 18 cfg0.N = val_main_v164 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg14)) (m ((c : Thread nD τ).loc main_arg15)) := by
  refine (dats m 0 c).arrAt_eq_of_covers 18 _ (by decide +kernel) fun t _ y => ?_
  blk_simp
  rw [after0_18]
  exact point18 m c R t y

end Cert.Proof.IpFinal

end
-- ==== Proof.IpPre.lean ====
/- What the preconditions say: every entry of the arrays they are of is a real number. -/
module

public import proofs.«01_k».proof.Defs
public import proofs.«01_k».proof.Proof.IpFinal

@[expose] public section

set_option maxRecDepth 16384

noncomputable section

namespace Cert.Proof.IpPre

open Idealize.ShloMosaic Idealize.ShloMosaic.TcCoe Idealize.SL.Sem
open Cert.Proof.IpScalar

theorem factsIn : Cert.Pre_finite_inputs.Facts where
  bcast_S_S8x4096x1024 := by decide
  bcast_S_S8x6144 := by decide
  bcast_S_S1024x4864 := by decide
  bcast_S_S1x4768 := by decide
  bcast_S_S1x512 := by decide
  bcast_S_S1x8x128x128 := by decide
  bcast_S_S1x8x128 := by decide
  bcast_S_S1x1696 := by decide
  bcast_S_S1x32x512 := by decide
  bcast_S_S1x96x512 := by decide
  bcast_S_S1x512x1024 := by decide
  bitsLt_bf16_f32 := by decide

theorem factsMod : Cert.Pre_finite_modulation.Facts where
  bcast_S_S8x1024 := by decide
  bcast_S_S1x1024x6144 := by decide
  bcast_S_S1x6144 := by decide

/-- An entry whose size is below infinity is a real number. -/
theorem real_of {x b : EReal} (hb : b = ⊤) (h : FloatOps.cmpf (F := Ideal) (φ := .f32) .olt (max x (-x)) b = 1#1) : Real' x := by
  subst hb
  refine Real'.of_abs ?_
  by_contra hc
  simp [FloatOps.cmpf, Ideal.cmp, hc] at h

/-- One array of a precondition. -/
theorem real_arr {s : Shape} {d : Fin 0 → Fin s.rank} (x : FVec Ideal s .f32) (hb : (⟨0, ![]⟩ : Shape).BroadcastsInDim s d)
    (h : cmpf (F := Ideal) .olt (Host.absf x) (broadcastInDim s d hb (constant ⟨0, ![]⟩ .f32 0x7F800000#32)) = fun _ => 1#1) (i : s.Idx) : Real' (x i) :=
  real_of (b := Ideal.ofBits .f32 0x7F800000#32) IpConst.top (congrFun h i)

/-- The input projection's arrays. -/
theorem reals (m : (ℓ : Loc Cert.InprojIdeal.nD Cert.InprojIdeal.τ Cert.InprojIdeal.sig) → Buf (Elt Ideal) ℓ) (h : Cert.Pre_InprojIdeal_finite_inputs (hPre_finite_inputs := factsIn) m) (c : Dev Cert.InprojIdeal.nD) :
    IpFinal.Reals m c := by
  obtain ⟨h0, h1, h2, h3, -, -, -, -, h8, h9, h10, -, -, -, h14, -, -⟩ := h c
  exact ⟨real_arr _ _ h0, real_arr _ _ h1, real_arr _ _ h2, real_arr _ _ h3, real_arr _ _ h8, real_arr _ _ h9, real_arr _ _ h10, real_arr _ _ h14⟩

/-- The modulation's three arrays. -/
theorem realsMod (m : (ℓ : Loc Cert.ModIdeal.nD Cert.ModIdeal.τ Cert.ModIdeal.sig) → Buf (Elt Ideal) ℓ) (h : Cert.Pre_ModIdeal_finite_modulation (hPre_finite_modulation := factsMod) m) (c : Dev Cert.ModIdeal.nD) :
    (∀ i, Real' (m ((c : Thread Cert.ModIdeal.nD Cert.ModIdeal.τ).loc Cert.ModIdeal.main_arg0) i)) ∧ (∀ i, Real' (m ((c : Thread Cert.ModIdeal.nD Cert.ModIdeal.τ).loc Cert.ModIdeal.main_arg1) i)) := by
  obtain ⟨h0, h1, -⟩ := h c
  exact ⟨real_arr _ _ h0, real_arr _ _ h1⟩

end Cert.Proof.IpPre

end
-- ==== Proof.ModFinal.lean ====
/- The modulation kernel's result is its reference's, over the reals. -/
module

public import proofs.«01_k».proof.Proof.Gen.ModIdeal.Value
public import proofs.«01_k».proof.Proof.Gen.ModRefIdeal.Read
public import proofs.«01_k».proof.Proof.IpScalar
public import Idealize.ShloMosaic.Lib.Pipeline.ValueKit

@[expose] public section

set_option maxRecDepth 16384

noncomputable section

namespace Cert.Proof.ModFinal

open Idealize.ShloMosaic Idealize.ShloMosaic.TcCoe Idealize.SL.Sem
open Cert.ModIdeal Cert.ModIdeal.Gen Cert.Proof.IpScalar Cert.Proof.IpSpec
open Cert.ModRefIdeal.Read

variable (m : (ℓ : Loc nD τ sig) → Buf (Elt Ideal) ℓ)

theorem idx0 : ∀ t : Fin cfg0.N, win0_0.index t = ![0, 0] := (by decide +kernel : ∀ t : Fin grid0.N, _)
theorem idx1 : ∀ t : Fin cfg0.N, win0_1.index t = ![0, 0, t.val] := (by decide +kernel : ∀ t : Fin grid0.N, _)
theorem idx2 : ∀ t : Fin cfg0.N, win0_2.index t = ![0, 0, t.val] := (by decide +kernel : ∀ t : Fin grid0.N, _)
theorem idx3 : ∀ t : Fin cfg0.N, win0_3.index t = ![0, t.val] := (by decide +kernel : ∀ t : Fin grid0.N, _)
theorem lt6 (t : Fin cfg0.N) (j : Fin 1024) : t.val * 1024 + j.val < 6144 := by
  have : ∀ t : Fin cfg0.N, t.val < 6 := (by decide +kernel : ∀ t : Fin grid0.N, _)
  have := this t
  omega

/-- The conditioning vector through its gate. -/
def gate (x : EReal) : EReal := x * sg x

/-- What the kernel stores: the product and the products of the two rounding rests. -/
theorem pay_at (x0 : Vec Ideal S8x1024 .f32) (x1 : Vec Ideal S1x1024x1024 .f32) (x2 : Vec Ideal S1x1x1024 .f32) (b : Fin 8) (j : Fin 1024) :
    k0_pay1 x0 x1 x2 (ix2 b j) = (∑ k, gate (x0 (ix2 b k)) * x1 (ix3 0 k j) + ∑ k, (gate (x0 (ix2 b k)) - gate (x0 (ix2 b k))) * x1 (ix3 0 k j))
      + ∑ k, gate (x0 (ix2 b k)) * (x1 (ix3 0 k j) - x1 (ix3 0 k j)) + x2 (ix3 0 0 j) := by
  pointwise [k0_pay1, gate, sg]

theorem ref_at (X0 : FVec Ideal S8x1024 .f32) (X1 : FVec Ideal S1x1024x6144 .f32) (X2 : FVec Ideal S1x6144 .f32) (b : Fin 8) (j : Fin 6144) :
    val_main_v6 (F := Ideal) X0 X1 X2 (ix2 b j) = ∑ k, gate (X0 (ix2 b k)) * X1 (ix3 0 k j) + X2 (ix2 0 j) := by
  pointwise [val_main_v6, val_main_v5, val_main_v4, val_main_v3, val_main_v2, val_main_v1, val_main_v0, val_main_call0_v5, val_main_call0_v4, val_main_call0_v3, val_main_call0_v2, val_main_call0_v1, val_main_call0_v0, val_main_call0_cst, val_main_call0_cst_0, gate, sg]
  simp only [zero_sub]

/-- The gate of a real number is one. -/
theorem gate_real {x : EReal} (hx : Real' x) : Real' (gate x) := by
  obtain ⟨r, rfl⟩ := hx
  unfold gate
  rw [sg_coe]
  exact Real'.mul ⟨r, rfl⟩ ⟨_, rfl⟩

theorem sub_self' {x : EReal} (hx : Real' x) : x - x = 0 := by
  obtain ⟨r, rfl⟩ := hx
  rw [← EReal.coe_sub, sub_self, EReal.coe_zero]

/-- The rests vanish on real numbers, so what is stored is the product. -/
theorem pay_real (x0 : Vec Ideal S8x1024 .f32) (x1 : Vec Ideal S1x1024x1024 .f32) (x2 : Vec Ideal S1x1x1024 .f32) (h0 : ∀ i, Real' (x0 i)) (h1 : ∀ k j, Real' (x1 (ix3 0 k j)))
    (b : Fin 8) (j : Fin 1024) : k0_pay1 x0 x1 x2 (ix2 b j) = ∑ k, gate (x0 (ix2 b k)) * x1 (ix3 0 k j) + x2 (ix3 0 0 j) := by
  rw [pay_at]
  have e1 : ∑ k, (gate (x0 (ix2 b k)) - gate (x0 (ix2 b k))) * x1 (ix3 0 k j) = 0 :=
    Finset.sum_eq_zero fun k _ => by rw [sub_self' (gate_real (h0 _)), zero_mul]
  have e2 : ∑ k, gate (x0 (ix2 b k)) * (x1 (ix3 0 k j) - x1 (ix3 0 k j)) = 0 :=
    Finset.sum_eq_zero fun k _ => by rw [sub_self' (h1 _ _), mul_zero]
  rw [e1, e2, add_zero, add_zero]

theorem rd0 (c : Dev nD) (t : Fin cfg0.N) (b : Fin 8) (k : Fin 1024) : iblk m c 0 t (ix2 b k) = m ((c : Thread nD τ).loc main_arg0) (ix2 b k) := by
  have h := idx0 t
  blk_point [iblk, V, h]

theorem rd1 (c : Dev nD) (t : Fin cfg0.N) (k : Fin 1024) (j : Fin 1024) : iblk m c 1 t (ix3 0 k j) = m ((c : Thread nD τ).loc main_arg1) (ix3 0 k ⟨t.val * 1024 + j.val, lt6 t j⟩) := by
  have h := idx1 t
  blk_point [iblk, V, h]

theorem rd2' (c : Dev nD) (t : Fin cfg0.N) (j : Fin 1024) : iblk m c 2 t (ix3 0 0 j) = V m c main_v0 (ix3 0 0 ⟨t.val * 1024 + j.val, lt6 t j⟩) := by
  have h := idx2 t
  blk_ext [iblk, h]

theorem rdv (c : Dev nD) (j : Fin 6144) : V m c main_v0 (ix3 0 0 j) = m ((c : Thread nD τ).loc main_arg2) (ix2 0 j) := by
  entry_read
  pointwise

theorem point (c : Dev nD) (h0 : ∀ i, Real' (m ((c : Thread nD τ).loc main_arg0) i)) (h1 : ∀ i, Real' (m ((c : Thread nD τ).loc main_arg1) i)) (t : Fin cfg0.N) (y : S8x1024.Idx) :
    out0_3 (iblk m c 0 t) (iblk m c 1 t) (iblk m c 2 t) y
      = val_main_v6 (F := Ideal) (m ((c : Thread nD τ).loc main_arg0)) (m ((c : Thread nD τ).loc main_arg1)) (m ((c : Thread nD τ).loc main_arg2)) (((cfg0.win 3).blk t).view.emb y) := by
  have hi := idx3 t
  have hy0 : (y 0).val < 8 := (y 0).isLt
  have hy1 : (y 1).val < 1024 := (y 1).isLt
  obtain ⟨b, hb⟩ : ∃ b : Fin 8, b.val = (y 0).val := ⟨⟨_, hy0⟩, rfl⟩
  obtain ⟨j, hj⟩ : ∃ j : Fin 1024, j.val = (y 1).val := ⟨⟨_, hy1⟩, rfl⟩
  have e1 := hb.symm
  have e2 := hj.symm
  have hyy : y = ix2 b j := by blk_ext
  have he : ((cfg0.win 3).blk t).view.emb y = ix2 b (⟨t.val * 1024 + j.val, lt6 t j⟩ : Fin 6144) := by blk_ext [hi]
  refine Eq.trans ?_ ((ref_at _ _ _ b ⟨t.val * 1024 + j.val, lt6 t j⟩).symm.trans (congrArg (val_main_v6 (F := Ideal) (m ((c : Thread nD τ).loc main_arg0)) (m ((c : Thread nD τ).loc main_arg1)) (m ((c : Thread nD τ).loc main_arg2))) he.symm))
  refine (congrArg (out0_3 (iblk m c 0 t) (iblk m c 1 t) (iblk m c 2 t)) hyy).trans ?_
  frame_out
  refine (pay_real (iblk m c 0 t) (iblk m c 1 t) (iblk m c 2 t) (fun i => h0 _) (fun k j => h1 _) b j).trans ?_
  simp only [rd0 m c t, rd1 m c t, rd2' m c t, rdv m c]

/-- The result array after the run. -/
theorem final (c : Dev nD) (h0 : ∀ i, Real' (m ((c : Thread nD τ).loc main_arg0) i)) (h1 : ∀ i, Real' (m ((c : Thread nD τ).loc main_arg1) i)) : (dats m 0 c).arrAt 3 cfg0.N
    = val_main_v6 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c h0 h1 t y

end Cert.Proof.ModFinal

end
-- ==== Proof.WprepFinal.lean ====
/- The weight preparation's result is its reference's, over the reals. -/
module

public import proofs.«01_k».proof.Proof.Gen.WprepIdeal.Value
public import proofs.«01_k».proof.Proof.Gen.WprepRefIdeal.Read
public import Idealize.ShloMosaic.Lib.Pipeline.ValueKit

@[expose] public section

set_option maxRecDepth 16384

noncomputable section

namespace Cert.Proof.WprepFinal

open Idealize.ShloMosaic Idealize.ShloMosaic.TcCoe Idealize.SL.Sem
open Cert.WprepIdeal Cert.WprepIdeal.Gen
open Cert.WprepRefIdeal.Read

variable (m : (ℓ : Loc nD τ sig) → Buf (Elt Ideal) ℓ)

theorem idx1 : ∀ t : Fin cfg0.N, win0_1.index t = ![0, t.val] := (by decide +kernel : ∀ t : Fin grid0.N, _)

/-- The first row of the transposed weight that a point reads. -/
def off (t : Fin cfg0.N) : Nat := if t.val ≤ 10 then t.val * 256 else t.val * 256 - 96

theorem idx0 : ∀ t : Fin cfg0.N, win0_0.index t = ![off t, 0] := (by decide +kernel : ∀ t : Fin grid0.N, _)
theorem lt19 (t : Fin cfg0.N) : t.val < 19 := by
  have : ∀ t : Fin cfg0.N, t.val < 19 := (by decide +kernel : ∀ t : Fin grid0.N, _)
  exact this t
theorem offlt (t : Fin cfg0.N) (r : Fin 256) : off t + r.val < 4768 := by
  have := lt19 t
  unfold off
  split <;> omega
theorem ne10 : ∀ t : Fin cfg0.N, Scalar.cmpi .ne (BitVec.ofNat 32 (grid0.coords t 0).val) 10#32 = if t.val = 10 then 0#1 else 1#1 := (by decide +kernel : ∀ t : Fin grid0.N, _)

theorem lt160 : ∀ r : Fin 256, IntOp.cmpi .slt (BitVec.ofNat 32 r.val) 160#32 = if r.val < 160 then 1#1 else 0#1 := by decide +kernel

/-- What the kernel stores at a point. -/
theorem pay_at (i : grid0.Coords) (x : Vec Ideal S256x1024 .f32) (k : Fin 1024) (r : Fin 256) :
    k0_pay1 i x (ix2 k r) = Scalar.select (IntOp.ori (Scalar.cmpi .ne (BitVec.ofNat 32 (i 0).val) 10#32) (IntOp.cmpi .slt (BitVec.ofNat 32 r.val) 160#32)) (x (ix2 r k)) 0 := by
  pointwise [k0_pay1]

theorem ref_at (X : FVec Ideal S1x1024x4768 .f32) (k : Fin 1024) (n : Fin 4864) :
    val_main_v5 (F := Ideal) X (ix2 k n) = if h : n.val < 2720 then X (ix3 0 k ⟨n.val, by omega⟩) else if h' : n.val < 2816 then 0 else X (ix3 0 k ⟨n.val - 96, by omega⟩) := by
  pointwise [val_main_v5, val_main_v4, val_main_v3, val_main_v2, val_main_v1, val_main_v0, val_main_cst]
  by_cases h1 : n.val < 2720
  · rw [dif_pos h1, dif_pos h1]
  · rw [dif_neg h1, dif_neg h1]
    by_cases h2 : n.val < 2816
    · rw [dif_pos (by omega), dif_pos h2]
    · rw [dif_neg (by omega), dif_neg h2]
      exact congrArg (fun q => X (ix3 0 k q)) (Fin.ext (by simp only; omega))

theorem rd0' (c : Dev nD) (t : Fin cfg0.N) (r : Fin 256) (k : Fin 1024) : iblk m c 0 t (ix2 r k) = V m c main_v1 (ix2 ⟨off t + r.val, offlt t r⟩ k) := by
  have h := idx0 t
  blk_ext [iblk, h]
  · exact (win0_0.rect_emb_val_off t (ix2 r k) 0).trans (by rw [h]; rfl)
  · exact (win0_0.rect_emb_val_off t (ix2 r k) 1).trans (by rw [h]; simp [Pipeline.WinKind.off])

theorem rdv (c : Dev nD) (n : Fin 4768) (k : Fin 1024) : V m c main_v1 (ix2 n k) = m ((c : Thread nD τ).loc main_arg0) (ix3 0 k n) := by
  entry_read
  pointwise

theorem point (c : Dev nD) (t : Fin cfg0.N) (y : S1024x256.Idx) :
    out0_1 (grid0.coords t) (iblk m c 0 t) y = val_main_v5 (F := Ideal) (m ((c : Thread nD τ).loc main_arg0)) (((cfg0.win 1).blk t).view.emb y) := by
  have hi := idx1 t
  have ht := lt19 t
  have hy0 : (y 0).val < 1024 := (y 0).isLt
  have hy1 : (y 1).val < 256 := (y 1).isLt
  obtain ⟨k, hk⟩ : ∃ k : Fin 1024, k.val = (y 0).val := ⟨⟨_, hy0⟩, rfl⟩
  obtain ⟨r, hr⟩ : ∃ r : Fin 256, r.val = (y 1).val := ⟨⟨_, hy1⟩, rfl⟩
  have e1 := hk.symm
  have e2 := hr.symm
  have hyy : y = ix2 k r := by blk_ext
  have he : ((cfg0.win 1).blk t).view.emb y = ix2 k (⟨t.val * 256 + r.val, by omega⟩ : Fin 4864) := by blk_ext [hi]
  refine Eq.trans ?_ ((ref_at _ k ⟨t.val * 256 + r.val, by omega⟩).symm.trans (congrArg (val_main_v5 (F := Ideal) (m ((c : Thread nD τ).loc main_arg0))) he.symm))
  refine (congrArg (out0_1 (grid0.coords t) (iblk m c 0 t)) hyy).trans ?_
  frame_out
  rw [pay_at, ne10 t, lt160 r, rd0' m c t, rdv m c]
  have hq : ∀ (n n' : Fin 4768), n.val = n'.val → m ((c : Thread nD τ).loc main_arg0) (ix3 0 k n) = m ((c : Thread nD τ).loc main_arg0) (ix3 0 k n') := fun n n' h => by rw [Fin.ext h]
  by_cases h : t.val = 10
  · by_cases h' : r.val < 160
    · rw [dif_pos (by omega), if_pos h, if_pos h']
      exact hq _ _ (by simp only [off]; rw [if_pos (by omega)])
    · rw [dif_neg (by omega), dif_pos (by omega), if_pos h, if_neg h']
      rfl
  · rw [if_neg h]
    have hs : ∀ (b : BitVec 1) (x : EReal), Scalar.select (α := EReal) (IntOp.ori 1#1 b) x 0 = x := fun b x => by
      have hb : IntOp.ori 1#1 b = 1#1 := by revert b; decide
      rw [hb]
      rfl
    refine (hs _ _).trans ?_
    by_cases h' : t.val < 10
    · rw [dif_pos (by omega)]
      exact hq _ _ (by simp only [off]; rw [if_pos (by omega)])
    · rw [dif_neg (by omega), dif_neg (by omega)]
      exact hq _ _ (by simp only [off]; rw [if_neg (by omega)]; omega)

/-- The result array after the run. -/
theorem final (c : Dev nD) : (dats m 0 c).arrAt 1 cfg0.N = val_main_v5 (F := Ideal) (m ((c : Thread nD τ).loc main_arg0)) := by
  refine (dats m 0 c).arrAt_eq_of_covers 1 _ (by decide +kernel) fun t _ y => ?_
  blk_simp
  rw [after0_1]
  exact point m c t y

end Cert.Proof.WprepFinal

end
-- ==== Proof.lean ====
module

public import proofs.«01_k».proof.Defs
public import proofs.«01_k».proof.Proof.Gen.Post.Frame
public import proofs.«01_k».proof.Proof.Gen.PostIdeal.Frame
public import proofs.«01_k».proof.Proof.Gen.PostIdeal.Value
public import proofs.«01_k».proof.Proof.Gen.PostRefIdeal.Run
public import proofs.«01_k».proof.Proof.Gen.PostRefIdeal.Read
public import proofs.«01_k».proof.Proof.Gen.Inproj.Frame
public import proofs.«01_k».proof.Proof.Gen.InprojIdeal.Frame
public import proofs.«01_k».proof.Proof.Gen.InprojIdeal.Value
public import proofs.«01_k».proof.Proof.Gen.InprojRefIdeal.Run
public import proofs.«01_k».proof.Proof.Gen.InprojRefIdeal.Read
public import proofs.«01_k».proof.Proof.Gen.Mod.Frame
public import proofs.«01_k».proof.Proof.Gen.ModIdeal.Frame
public import proofs.«01_k».proof.Proof.Gen.ModIdeal.Value
public import proofs.«01_k».proof.Proof.Gen.ModRefIdeal.Run
public import proofs.«01_k».proof.Proof.Gen.ModRefIdeal.Read
public import proofs.«01_k».proof.Proof.Gen.Wprep.Frame
public import proofs.«01_k».proof.Proof.Gen.WprepIdeal.Frame
public import proofs.«01_k».proof.Proof.Gen.WprepIdeal.Value
public import proofs.«01_k».proof.Proof.Gen.WprepRefIdeal.Run
public import proofs.«01_k».proof.Proof.Gen.WprepRefIdeal.Read
public import proofs.«01_k».proof.Proof.PostFinal
public import proofs.«01_k».proof.Proof.IpFinal
public import proofs.«01_k».proof.Proof.IpPre
public import proofs.«01_k».proof.Proof.ModFinal
public import proofs.«01_k».proof.Proof.WprepFinal
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The tail kernel and its reference end with equal results over the reals. -/
theorem post_algebraic : Cert.algebraic_PostIdeal_PostRefIdeal (hPostIdeal := Cert.PostIdeal.Gen.facts) (hPostRefIdeal := Cert.PostRefIdeal.Gen.facts) := by
  intro m g m' g' _ hagree
  refine ⟨fun c => (Cert.PostIdeal.Gen.dats m 0 c).arrAt 17 Cert.PostIdeal.cfg0.N, Cert.PostIdeal.Value.run_blocks m g, ?_⟩
  refine (θ_run Cert.PostRefIdeal.defs _ _).mono (fun r h c => ⟨?_, (h c).2⟩) (Cert.PostRefIdeal.Value.run (F := Ideal) m' g')
  refine (h c).1.trans ((Cert.PostRefIdeal.Read.val_main_v108_eq (F := Ideal) _).trans ?_)
  obtain ⟨a0, a1, a2, a3, a4, a5, a6, a7, a8, a9, a10, a11, a12, a13, a14, a15, a16⟩ := hagree c
  have e : Cert.PostRefIdeal.Read.val_main_v108 (F := Ideal) (m' ((c.tc : Thread Cert.PostRefIdeal.nD Cert.PostRefIdeal.τ).loc Cert.PostRefIdeal.main_arg0)) (m' ((c.tc : Thread Cert.PostRefIdeal.nD Cert.PostRefIdeal.τ).loc Cert.PostRefIdeal.main_arg1)) (m' ((c.tc : Thread Cert.PostRefIdeal.nD Cert.PostRefIdeal.τ).loc Cert.PostRefIdeal.main_arg2)) (m' ((c.tc : Thread Cert.PostRefIdeal.nD Cert.PostRefIdeal.τ).loc Cert.PostRefIdeal.main_arg3)) (m' ((c.tc : Thread Cert.PostRefIdeal.nD Cert.PostRefIdeal.τ).loc Cert.PostRefIdeal.main_arg4)) (m' ((c.tc : Thread Cert.PostRefIdeal.nD Cert.PostRefIdeal.τ).loc Cert.PostRefIdeal.main_arg5)) (m' ((c.tc : Thread Cert.PostRefIdeal.nD Cert.PostRefIdeal.τ).loc Cert.PostRefIdeal.main_arg6)) (m' ((c.tc : Thread Cert.PostRefIdeal.nD Cert.PostRefIdeal.τ).loc Cert.PostRefIdeal.main_arg7)) (m' ((c.tc : Thread Cert.PostRefIdeal.nD Cert.PostRefIdeal.τ).loc Cert.PostRefIdeal.main_arg8)) (m' ((c.tc : Thread Cert.PostRefIdeal.nD Cert.PostRefIdeal.τ).loc Cert.PostRefIdeal.main_arg9)) (m' ((c.tc : Thread Cert.PostRefIdeal.nD Cert.PostRefIdeal.τ).loc Cert.PostRefIdeal.main_arg10)) (m' ((c.tc : Thread Cert.PostRefIdeal.nD Cert.PostRefIdeal.τ).loc Cert.PostRefIdeal.main_arg11)) (m' ((c.tc : Thread Cert.PostRefIdeal.nD Cert.PostRefIdeal.τ).loc Cert.PostRefIdeal.main_arg12)) (m' ((c.tc : Thread Cert.PostRefIdeal.nD Cert.PostRefIdeal.τ).loc Cert.PostRefIdeal.main_arg13)) (m' ((c.tc : Thread Cert.PostRefIdeal.nD Cert.PostRefIdeal.τ).loc Cert.PostRefIdeal.main_arg14)) (m' ((c.tc : Thread Cert.PostRefIdeal.nD Cert.PostRefIdeal.τ).loc Cert.PostRefIdeal.main_arg15)) (m' ((c.tc : Thread Cert.PostRefIdeal.nD Cert.PostRefIdeal.τ).loc Cert.PostRefIdeal.main_arg16)) = (Cert.PostIdeal.Gen.dats m 0 c).arrAt 17 Cert.PostIdeal.cfg0.N := by
    rw [a0, a1, a2, a3, a4, a5, a6, a7, a8, a9, a10, a11, a12, a13, a14, a15, a16]
    exact (Cert.Proof.PostFinal.final m c).symm
  exact e

set_option maxHeartbeats 4000000 in
/-- The input projection kernel and its reference end with equal results over the reals. -/
theorem inproj_algebraic : Cert.algebraic_InprojIdeal_InprojRefIdeal_pre_finite_inputs (hInprojIdeal := Cert.InprojIdeal.Gen.facts) (hInprojRefIdeal := Cert.InprojRefIdeal.Gen.facts) (hPre_finite_inputs := IpPre.factsIn) := by
  intro m g m' g' hpre hagree
  refine ⟨fun c => (Cert.InprojIdeal.Gen.dats m 0 c).arrAt 16 Cert.InprojIdeal.cfg0.N, fun c => (Cert.InprojIdeal.Gen.dats m 0 c).arrAt 17 Cert.InprojIdeal.cfg0.N,
    fun c => (Cert.InprojIdeal.Gen.dats m 0 c).arrAt 18 Cert.InprojIdeal.cfg0.N, fun c => (Cert.InprojIdeal.Gen.dats m 0 c).arrAt 19 Cert.InprojIdeal.cfg0.N,
    Cert.InprojIdeal.Value.run_blocks m g, ?_⟩
  refine (θ_run Cert.InprojRefIdeal.defs _ _).mono (fun r h c => ?_) (Cert.InprojRefIdeal.Value.run (F := Ideal) m' g')
  have R := IpPre.reals m hpre c
  obtain ⟨h1, h2, h3, h4, hrest⟩ := h c
  obtain ⟨a0, a1, a2, a3, a4, a5, a6, a7, a8, a9, a10, a11, a12, a13, a14, a15, a16⟩ := hagree c
  have e16 : Cert.InprojRefIdeal.Read.val_main_v177 (F := Ideal) (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) (m' ((c.tc : Thread Cert.InprojRefIdeal.nD Cert.InprojRefIdeal.τ).loc Cert.InprojRefIdeal.main_arg3)) (m' ((c.tc : Thread Cert.InprojRefIdeal.nD Cert.InprojRefIdeal.τ).loc Cert.InprojRefIdeal.main_arg4)) (m' ((c.tc : Thread Cert.InprojRefIdeal.nD Cert.InprojRefIdeal.τ).loc Cert.InprojRefIdeal.main_arg5)) (m' ((c.tc : Thread Cert.InprojRefIdeal.nD Cert.InprojRefIdeal.τ).loc Cert.InprojRefIdeal.main_arg6)) (m' ((c.tc : Thread Cert.InprojRefIdeal.nD Cert.InprojRefIdeal.τ).loc Cert.InprojRefIdeal.main_arg7)) (m' ((c.tc : Thread Cert.InprojRefIdeal.nD Cert.InprojRefIdeal.τ).loc Cert.InprojRefIdeal.main_arg16)) = (Cert.InprojIdeal.Gen.dats m 0 c).arrAt 16 Cert.InprojIdeal.cfg0.N := by
    rw [a0, a1, a2, a3, a4, a5, a6, a7, a16]
    exact (IpFinal.final16 m c R).symm
  have e17 : Cert.InprojRefIdeal.Read.val_main_v184 (F := Ideal) (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) (m' ((c.tc : Thread Cert.InprojRefIdeal.nD Cert.InprojRefIdeal.τ).loc Cert.InprojRefIdeal.main_arg3)) = (Cert.InprojIdeal.Gen.dats m 0 c).arrAt 17 Cert.InprojIdeal.cfg0.N := by
    rw [a0, a1, a2, a3]
    exact (IpFinal.final17 m c).symm
  have e18 : Cert.InprojRefIdeal.Read.val_main_v164 (F := Ideal) (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) (m' ((c.tc : Thread Cert.InprojRefIdeal.nD Cert.InprojRefIdeal.τ).loc Cert.InprojRefIdeal.main_arg3)) (m' ((c.tc : Thread Cert.InprojRefIdeal.nD Cert.InprojRefIdeal.τ).loc Cert.InprojRefIdeal.main_arg8)) (m' ((c.tc : Thread Cert.InprojRefIdeal.nD Cert.InprojRefIdeal.τ).loc Cert.InprojRefIdeal.main_arg9)) (m' ((c.tc : Thread Cert.InprojRefIdeal.nD Cert.InprojRefIdeal.τ).loc Cert.InprojRefIdeal.main_arg10)) (m' ((c.tc : Thread Cert.InprojRefIdeal.nD Cert.InprojRefIdeal.τ).loc Cert.InprojRefIdeal.main_arg11)) (m' ((c.tc : Thread Cert.InprojRefIdeal.nD Cert.InprojRefIdeal.τ).loc Cert.InprojRefIdeal.main_arg12)) (m' ((c.tc : Thread Cert.InprojRefIdeal.nD Cert.InprojRefIdeal.τ).loc Cert.InprojRefIdeal.main_arg14)) (m' ((c.tc : Thread Cert.InprojRefIdeal.nD Cert.InprojRefIdeal.τ).loc Cert.InprojRefIdeal.main_arg15)) = (Cert.InprojIdeal.Gen.dats m 0 c).arrAt 18 Cert.InprojIdeal.cfg0.N := by
    rw [a0, a1, a2, a3, a8, a9, a10, a11, a12, a14, a15]
    exact (IpFinal.final18 m c R).symm
  have e19 : Cert.InprojRefIdeal.Read.val_main_v185 (F := Ideal) (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) (m' ((c.tc : Thread Cert.InprojRefIdeal.nD Cert.InprojRefIdeal.τ).loc Cert.InprojRefIdeal.main_arg3)) (m' ((c.tc : Thread Cert.InprojRefIdeal.nD Cert.InprojRefIdeal.τ).loc Cert.InprojRefIdeal.main_arg8)) (m' ((c.tc : Thread Cert.InprojRefIdeal.nD Cert.InprojRefIdeal.τ).loc Cert.InprojRefIdeal.main_arg13)) = (Cert.InprojIdeal.Gen.dats m 0 c).arrAt 19 Cert.InprojIdeal.cfg0.N := by
    rw [a0, a1, a2, a3, a8, a13]
    exact (IpFinal.final19 m c).symm
  exact ⟨h1.trans ((Cert.InprojRefIdeal.Read.val_main_v177_eq (F := Ideal) _).trans e16), h2.trans ((Cert.InprojRefIdeal.Read.val_main_v184_eq (F := Ideal) _).trans e17),
    h3.trans ((Cert.InprojRefIdeal.Read.val_main_v164_eq (F := Ideal) _).trans e18), h4.trans ((Cert.InprojRefIdeal.Read.val_main_v185_eq (F := Ideal) _).trans e19), hrest⟩

/-- The modulation kernel and its reference end with equal results over the reals. -/
theorem mod_algebraic : Cert.algebraic_ModIdeal_ModRefIdeal_pre_finite_modulation (hModIdeal := Cert.ModIdeal.Gen.facts) (hModRefIdeal := Cert.ModRefIdeal.Gen.facts) (hPre_finite_modulation := IpPre.factsMod) := by
  intro m g m' g' hpre hagree
  refine ⟨fun c => (Cert.ModIdeal.Gen.dats m 0 c).arrAt 3 Cert.ModIdeal.cfg0.N, Cert.ModIdeal.Value.run_blocks m g, ?_⟩
  refine (θ_run Cert.ModRefIdeal.defs _ _).mono (fun r h c => ⟨?_, (h c).2⟩) (Cert.ModRefIdeal.Value.run (F := Ideal) m' g')
  obtain ⟨R0, R1⟩ := IpPre.realsMod m hpre c
  refine (h c).1.trans ((Cert.ModRefIdeal.Read.val_main_v6_eq (F := Ideal) _ _ _).trans ?_)
  obtain ⟨a0, a1, a2⟩ := hagree c
  have e : Cert.ModRefIdeal.Read.val_main_v6 (F := Ideal) (m' ((c.tc : Thread Cert.ModRefIdeal.nD Cert.ModRefIdeal.τ).loc Cert.ModRefIdeal.main_arg0)) (m' ((c.tc : Thread Cert.ModRefIdeal.nD Cert.ModRefIdeal.τ).loc Cert.ModRefIdeal.main_arg1)) (m' ((c.tc : Thread Cert.ModRefIdeal.nD Cert.ModRefIdeal.τ).loc Cert.ModRefIdeal.main_arg2)) = (Cert.ModIdeal.Gen.dats m 0 c).arrAt 3 Cert.ModIdeal.cfg0.N := by
    rw [a0, a1, a2]
    exact (ModFinal.final m c R0 R1).symm
  exact e

/-- The weight preparation and its reference end with equal results over the reals. -/
theorem wprep_algebraic : Cert.algebraic_WprepIdeal_WprepRefIdeal (hWprepIdeal := Cert.WprepIdeal.Gen.facts) (hWprepRefIdeal := Cert.WprepRefIdeal.Gen.facts) := by
  intro m g m' g' _ hagree
  refine ⟨fun c => (Cert.WprepIdeal.Gen.dats m 0 c).arrAt 1 Cert.WprepIdeal.cfg0.N, Cert.WprepIdeal.Value.run_blocks m g, ?_⟩
  refine (θ_run Cert.WprepRefIdeal.defs _ _).mono (fun r h c => ⟨?_, (h c).2⟩) (Cert.WprepRefIdeal.Value.run (F := Ideal) m' g')
  refine (h c).1.trans ((Cert.WprepRefIdeal.Read.val_main_v5_eq (F := Ideal) _).trans ?_)
  have a0 := hagree c
  have e : Cert.WprepRefIdeal.Read.val_main_v5 (F := Ideal) (m' ((c.tc : Thread Cert.WprepRefIdeal.nD Cert.WprepRefIdeal.τ).loc Cert.WprepRefIdeal.main_arg0)) = (Cert.WprepIdeal.Gen.dats m 0 c).arrAt 1 Cert.WprepIdeal.cfg0.N := by
    rw [a0]
    exact (WprepFinal.final m c).symm
  exact e

theorem claim : Cert.Claim := ⟨Cert.Post.Gen.facts, Cert.PostIdeal.Gen.facts, Cert.PostRefIdeal.Gen.facts,
  Cert.Inproj.Gen.facts, Cert.InprojIdeal.Gen.facts, Cert.InprojRefIdeal.Gen.facts,
  Cert.Mod.Gen.facts, Cert.ModIdeal.Gen.facts, Cert.ModRefIdeal.Gen.facts,
  Cert.Wprep.Gen.facts, Cert.WprepIdeal.Gen.facts, Cert.WprepRefIdeal.Gen.facts, IpPre.factsIn, IpPre.factsMod,
  fun m g _ => Cert.Post.Gen.frame m g,
  fun m g _ => Cert.PostIdeal.Gen.frame m g,
  fun m g _ => (θ_run Cert.PostRefIdeal.defs _ _).mono (fun r h => ⟨fun c => (h c).2, sem_eq_zero_of_no_sems (by decide) r.2⟩) (Cert.PostRefIdeal.Value.run m g),
  fun m g _ => Cert.Inproj.Gen.frame m g,
  fun m g _ => Cert.InprojIdeal.Gen.frame m g,
  fun m g _ => Cert.InprojIdeal.Gen.frame m g,
  fun m g _ => (θ_run Cert.InprojRefIdeal.defs _ _).mono (fun r h => ⟨fun c => (h c).2.2.2.2, sem_eq_zero_of_no_sems (by decide) r.2⟩) (Cert.InprojRefIdeal.Value.run m g),
  fun m g _ => (θ_run Cert.InprojRefIdeal.defs _ _).mono (fun r h => ⟨fun c => (h c).2.2.2.2, sem_eq_zero_of_no_sems (by decide) r.2⟩) (Cert.InprojRefIdeal.Value.run m g),
  fun m g _ => Cert.Mod.Gen.frame m g,
  fun m g _ => Cert.ModIdeal.Gen.frame m g,
  fun m g _ => Cert.ModIdeal.Gen.frame m g,
  fun m g _ => (θ_run Cert.ModRefIdeal.defs _ _).mono (fun r h => ⟨fun c => (h c).2, sem_eq_zero_of_no_sems (by decide) r.2⟩) (Cert.ModRefIdeal.Value.run m g),
  fun m g _ => (θ_run Cert.ModRefIdeal.defs _ _).mono (fun r h => ⟨fun c => (h c).2, sem_eq_zero_of_no_sems (by decide) r.2⟩) (Cert.ModRefIdeal.Value.run m g),
  fun m g _ => Cert.Wprep.Gen.frame m g,
  fun m g _ => Cert.WprepIdeal.Gen.frame m g,
  fun m g _ => (θ_run Cert.WprepRefIdeal.defs _ _).mono (fun r h => ⟨fun c => (h c).2, sem_eq_zero_of_no_sems (by decide) r.2⟩) (Cert.WprepRefIdeal.Value.run m g),
  trivial, post_algebraic,
  ⟨IdealRules.named_const.statement Cert.InprojIdeal.κ "gelu_cubic" .f32 0x3D122279#32 ((80338380498831 / 2251799813685248 : ℝ) : EReal) rfl, IdealRules.named_const.statement Cert.InprojIdeal.κ "norm_floor" .f32 0x179ABE15#32 ((5316911940649 / 5316911983139663491615228241121378304 : ℝ) : EReal) rfl⟩,
  inproj_algebraic, trivial, mod_algebraic, trivial, wprep_algebraic⟩

end Cert.Proof

end
